-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v31)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v126) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v31)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v31) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v258) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v18_0)) (v1 : (c : Dev Cert.Kernel4Ideal.nD) → Buf (Elt Ideal) ((c.tc : Thread Cert.Kernel4Ideal.nD Cert.Kernel4Ideal.τ).loc Cert.Kernel4Ideal.main_v18_1)) (v2 : (c : Dev Cert.Kernel4Ideal.nD) → Buf (Elt Ideal) ((c.tc : Thread Cert.Kernel4Ideal.nD Cert.Kernel4Ideal.τ).loc Cert.Kernel4Ideal.main_v18_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18_0) = v0 c
          ∧ r.2.mem ((c.tc : Thread Cert.Kernel4Ideal.nD Cert.Kernel4Ideal.τ).loc Cert.Kernel4Ideal.main_v18_1) = v1 c
          ∧ r.2.mem ((c.tc : Thread Cert.Kernel4Ideal.nD Cert.Kernel4Ideal.τ).loc Cert.Kernel4Ideal.main_v18_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v84) = v0 c
          ∧ r.2.mem ((c.tc : Thread Cert.Reference4Ideal.nD Cert.Reference4Ideal.τ).loc Cert.Reference4Ideal.main_v86) = v1 c
          ∧ r.2.mem ((c.tc : Thread Cert.Reference4Ideal.nD Cert.Reference4Ideal.τ).loc Cert.Reference4Ideal.main_v87) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v82) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel2.lean ====
abbrev S16x2304x384 : Shape := ⟨3, ![16, 2304, 384]⟩
abbrev S16x2304x256 : Shape := ⟨3, ![16, 2304, 256]⟩
abbrev S16x2304x1024 : Shape := ⟨3, ![16, 2304, 1024]⟩
abbrev S16x6x1024 : Shape := ⟨3, ![16, 6, 1024]⟩
abbrev S6x1024 : Shape := ⟨2, ![6, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x2304x64 : Shape := ⟨3, ![16, 2304, 64]⟩
abbrev S1x6x1024 : Shape := ⟨3, ![1, 6, 1024]⟩
abbrev S16x1x6x1024 : Shape := ⟨4, ![16, 1, 6, 1024]⟩
abbrev S16x2x6x1024 : Shape := ⟨4, ![16, 2, 6, 1024]⟩
abbrev S_ : Shape := ⟨0, ![]⟩
abbrev S16x2x8x1024 : Shape := ⟨4, ![16, 2, 8, 1024]⟩
abbrev S448x1024 : Shape := ⟨2, ![448, 1024]⟩
abbrev S64x1024 : Shape := ⟨2, ![64, 1024]⟩
abbrev S320x1024 : Shape := ⟨2, ![320, 1024]⟩
abbrev S1x1024 : Shape := ⟨2, ![1, 1024]⟩
abbrev S1x5632 : Shape := ⟨2, ![1, 5632]⟩
abbrev S16x2048x1024 : Shape := ⟨3, ![16, 2048, 1024]⟩
abbrev S1x16x384 : Shape := ⟨3, ![1, 16, 384]⟩
abbrev S1x256x384 : Shape := ⟨3, ![1, 256, 384]⟩
abbrev S1x16x256 : Shape := ⟨3, ![1, 16, 256]⟩
abbrev S1x256x256 : Shape := ⟨3, ![1, 256, 256]⟩
abbrev S1x8x1024 : Shape := ⟨3, ![1, 8, 1024]⟩
abbrev S1x256x1024 : Shape := ⟨3, ![1, 256, 1024]⟩
abbrev S1x2x8x1024 : Shape := ⟨4, ![1, 2, 8, 1024]⟩
abbrev S1x1x8x1024 : Shape := ⟨4, ![1, 1, 8, 1024]⟩
abbrev S8x1024 : Shape := ⟨2, ![8, 1024]⟩
abbrev S16x384 : Shape := ⟨2, ![16, 384]⟩
abbrev S256x384 : Shape := ⟨2, ![256, 384]⟩
abbrev S288x384 : Shape := ⟨2, ![288, 384]⟩
abbrev S16x256 : Shape := ⟨2, ![16, 256]⟩
abbrev S256x256 : Shape := ⟨2, ![256, 256]⟩
abbrev S288x256 : Shape := ⟨2, ![288, 256]⟩
abbrev S288x1024 : Shape := ⟨2, ![288, 1024]⟩
abbrev S272x1024 : Shape := ⟨2, ![272, 1024]⟩
abbrev S256x1024 : Shape := ⟨2, ![256, 1024]⟩
abbrev S272 : Shape := ⟨1, ![272]⟩
abbrev S272x1 : Shape := ⟨2, ![272, 1]⟩
abbrev S1024x256 : Shape := ⟨2, ![1024, 256]⟩
abbrev S272x256 : Shape := ⟨2, ![272, 256]⟩
abbrev S1x256 : Shape := ⟨2, ![1, 256]⟩
abbrev S256 : Shape := ⟨1, ![256]⟩
abbrev S256x1 : Shape := ⟨2, ![256, 1]⟩

abbrev nBuf : Space → Nat
  | .hbm => 49
  | .vmem => 37
  | .smem => 0
  | _ => 0

abbrev bufTy : (tb : Table) → Fin (tcTables nBuf tb) → BufTy
  | .hbm, ⟨0, _⟩ => ⟨S16x2304x384, .f32⟩
  | .hbm, ⟨1, _⟩ => ⟨S16x2304x384, .f32⟩
  | .hbm, ⟨2, _⟩ => ⟨S16x2304x256, .f32⟩
  | .hbm, ⟨3, _⟩ => ⟨S16x2304x1024, .f32⟩
  | .hbm, ⟨4, _⟩ => ⟨S16x6x1024, .f32⟩
  | .hbm, ⟨5, _⟩ => ⟨S6x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x5632, .f32⟩
  | .hbm, ⟨10, _⟩ => ⟨S3x5632, .f32⟩
  | .hbm, ⟨11, _⟩ => ⟨S5632, .f32⟩
  | .hbm, ⟨12, _⟩ => ⟨S2816x1024, .f32⟩
  | .hbm, ⟨13, _⟩ => ⟨S1024, .f32⟩
  | .hbm, ⟨14, _⟩ => ⟨S1024, .f32⟩
  | .hbm, ⟨15, _⟩ => ⟨S16x2304x64, .f32⟩
  | .hbm, ⟨16, _⟩ => ⟨S16x2304x64, .f32⟩
  | .hbm, ⟨17, _⟩ => ⟨S16x2304x64, .f32⟩
  | .hbm, ⟨18, _⟩ => ⟨S16x2304x64, .f32⟩
  | .hbm, ⟨19, _⟩ => ⟨S16x2304x64, .f32⟩
  | .hbm, ⟨20, _⟩ => ⟨S16x2304x64, .f32⟩
  | .hbm, ⟨21, _⟩ => ⟨S16x2304x384, .f32⟩
  | .hbm, ⟨22, _⟩ => ⟨S1x6x1024, .f32⟩
  | .hbm, ⟨23, _⟩ => ⟨S16x6x1024, .f32⟩
  | .hbm, ⟨24, _⟩ => ⟨S16x1x6x1024, .f32⟩
  | .hbm, ⟨25, _⟩ => ⟨S16x1x6x1024, .f32⟩
  | .hbm, ⟨26, _⟩ => ⟨S16x2x6x1024, .f32⟩
  | .hbm, ⟨27, _⟩ => ⟨S_, .i32⟩
  | .hbm, ⟨28, _⟩ => ⟨S_, .f32⟩
  | .hbm, ⟨29, _⟩ => ⟨S16x2x8x1024, .f32⟩
  | .hbm, ⟨30, _⟩ => ⟨S16x2304x384, .bf16⟩
  | .hbm, ⟨31, _⟩ => ⟨S16x2304x384, .bf16⟩
  | .hbm, ⟨32, _⟩ => ⟨S16x2304x256, .bf16⟩
  | .hbm, ⟨33, _⟩ => ⟨S448x1024, .f32⟩
  | .hbm, ⟨34, _⟩ => ⟨S64x1024, .f32⟩
  | .hbm, ⟨35, _⟩ => ⟨S64x1024, .f32⟩
  | .hbm, ⟨36, _⟩ => ⟨S64x1024, .f32⟩
  | .hbm, ⟨37, _⟩ => ⟨S64x1024, .f32⟩
  | .hbm, ⟨38, _⟩ => ⟨S320x1024, .f32⟩
  | .hbm, ⟨39, _⟩ => ⟨S1024x1024, .f32⟩
  | .hbm, ⟨40, _⟩ => ⟨S1024x1024, .bf16⟩
  | .hbm, ⟨41, _⟩ => ⟨S1x1024, .f32⟩
  | .hbm, ⟨42, _⟩ => ⟨S1x1024, .f32⟩
  | .hbm, ⟨43, _⟩ => ⟨S1024x5632, .bf16⟩
  | .hbm, ⟨44, _⟩ => ⟨S1x5632, .f32⟩
  | .hbm, ⟨45, _⟩ => ⟨S2816x1024, .bf16⟩
  | .hbm, ⟨46, _⟩ => ⟨S1x1024, .f32⟩
  | .hbm, ⟨47, _⟩ => ⟨S1x1024, .f32⟩
  | .hbm, ⟨48, _⟩ => ⟨S16x2048x1024, .f32⟩
  | .local _ .vmem, ⟨0, _⟩ => ⟨S1x16x384, .bf16⟩
  | .local _ .vmem, ⟨1, _⟩ => ⟨S1x16x384, .bf16⟩
  | .local _ .vmem, ⟨2, _⟩ => ⟨S1x256x384, .bf16⟩
  | .local _ .vmem, ⟨3, _⟩ => ⟨S1x256x384, .bf16⟩
  | .local _ .vmem, ⟨4, _⟩ => ⟨S1x16x384, .bf16⟩
  | .local _ .vmem, ⟨5, _⟩ => ⟨S1x16x384, .bf16⟩
  | .local _ .vmem, ⟨6, _⟩ => ⟨S1x16x384, .bf16⟩
  | .local _ .vmem, ⟨7, _⟩ => ⟨S1x16x384, .bf16⟩
  | .local _ .vmem, ⟨8, _⟩ => ⟨S1x256x384, .bf16⟩
  | .local _ .vmem, ⟨9, _⟩ => ⟨S1x256x384, .bf16⟩
  | .local _ .vmem, ⟨10, _⟩ => ⟨S1x16x384, .bf16⟩
  | .local _ .vmem, ⟨11, _⟩ => ⟨S1x16x384, .bf16⟩
  | .local _ .vmem, ⟨12, _⟩ => ⟨S1x16x256, .bf16⟩
  | .local _ .vmem, ⟨13, _⟩ => ⟨S1x16x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x16x256, .bf16⟩
  | .local _ .vmem, ⟨17, _⟩ => ⟨S1x16x256, .bf16⟩
  | .local _ .vmem, ⟨18, _⟩ => ⟨S1x8x1024, .f32⟩
  | .local _ .vmem, ⟨19, _⟩ => ⟨S1x8x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x8x1024, .f32⟩
  | .local _ .vmem, ⟨23, _⟩ => ⟨S1x8x1024, .f32⟩
  | .local _ .vmem, ⟨24, _⟩ => ⟨S1x2x8x1024, .f32⟩
  | .local _ .vmem, ⟨25, _⟩ => ⟨S1x2x8x1024, .f32⟩
  | .local _ .vmem, ⟨26, _⟩ => ⟨S1024x1024, .bf16⟩
  | .local _ .vmem, ⟨27, _⟩ => ⟨S1x1024, .f32⟩
  | .local _ .vmem, ⟨28, _⟩ => ⟨S1x1024, .f32⟩
  | .local _ .vmem, ⟨29, _⟩ => ⟨S1024x5632, .bf16⟩
  | .local _ .vmem, ⟨30, _⟩ => ⟨S3x5632, .f32⟩
  | .local _ .vmem, ⟨31, _⟩ => ⟨S1x5632, .f32⟩
  | .local _ .vmem, ⟨32, _⟩ => ⟨S2816x1024, .bf16⟩
  | .local _ .vmem, ⟨33, _⟩ => ⟨S1x1024, .f32⟩
  | .local _ .vmem, ⟨34, _⟩ => ⟨S1x1024, .f32⟩
  | .local _ .vmem, ⟨35, _⟩ => ⟨S1x256x1024, .f32⟩
  | .local _ .vmem, ⟨36, _⟩ => ⟨S1x256x1024, .f32⟩
  | _, _ => ⟨S16x2304x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_call0_v0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg22_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem21_0 : DmaSem sig := 34
abbrev cc0_sem22_0 : DmaSem sig := 35
abbrev cc0_sem22_1 : DmaSem sig := 36

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c16_i32_0 : BitVec 32 := 16#32
  let v1 : BitVec 32 := Scalar.addi c16_i32_0 v0
  let c1_i32 : BitVec 32 := 1#32
  let v2 : BitVec 32 := Scalar.subi v1 c1_i32
  let c16_i32_1 : BitVec 32 := 16#32
  let v3 : BitVec 32 := Scalar.maxsi v2 c16_i32_1
  let c0_i32 : BitVec 32 := 0#32
  let c0_i32_2 : BitVec 32 := 0#32
  ![arg0.toNat, v3.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c16_i32_0 : BitVec 32 := 16#32
  let v2 : BitVec 32 := Scalar.addi c16_i32_0 v1
  let c143_i32 : BitVec 32 := 143#32
  let v3 : BitVec 32 := Scalar.minsi v2 c143_i32
  let c0_i32 : BitVec 32 := 0#32
  let c0_i32_1 : BitVec 32 := 0#32
  ![arg0.toNat, v3.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c16_i32_0 : BitVec 32 := 16#32
  let v1 : BitVec 32 := Scalar.addi c16_i32_0 v0
  let c1_i32 : BitVec 32 := 1#32
  let v2 : BitVec 32 := Scalar.subi v1 c1_i32
  let c16_i32_1 : BitVec 32 := 16#32
  let v3 : BitVec 32 := Scalar.maxsi v2 c16_i32_1
  let c0_i32 : BitVec 32 := 0#32
  let c0_i32_2 : BitVec 32 := 0#32
  ![arg0.toNat, v3.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c16_i32_0 : BitVec 32 := 16#32
  let v2 : BitVec 32 := Scalar.addi c16_i32_0 v1
  let c143_i32 : BitVec 32 := 143#32
  let v3 : BitVec 32 := Scalar.minsi v2 c143_i32
  let c0_i32 : BitVec 32 := 0#32
  let c0_i32_1 : BitVec 32 := 0#32
  ![arg0.toNat, v3.toNat, c0_i32.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c16_i32_0 : BitVec 32 := 16#32
  let v1 : BitVec 32 := Scalar.addi c16_i32_0 v0
  let c1_i32 : BitVec 32 := 1#32
  let v2 : BitVec 32 := Scalar.subi v1 c1_i32
  let c16_i32_1 : BitVec 32 := 16#32
  let v3 : BitVec 32 := Scalar.maxsi v2 c16_i32_1
  let c0_i32 : BitVec 32 := 0#32
  let c0_i32_2 : BitVec 32 := 0#32
  ![arg0.toNat, v3.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c16_i32_0 : BitVec 32 := 16#32
  let v2 : BitVec 32 := Scalar.addi c16_i32_0 v1
  let c143_i32 : BitVec 32 := 143#32
  let v3 : BitVec 32 := Scalar.minsi v2 c143_i32
  let c0_i32 : BitVec 32 := 0#32
  let c0_i32_1 : BitVec 32 := 0#32
  ![arg0.toNat, v3.toNat, c0_i32.toNat]

def cc0_transform_9 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c32_i32_0 : BitVec 32 := 32#32
  let v1 : BitVec 32 := Scalar.addi c32_i32_0 v0
  let c1_i32 : BitVec 32 := 1#32
  let v2 : BitVec 32 := Scalar.subi v1 c1_i32
  let c32_i32_1 : BitVec 32 := 32#32
  let v3 : BitVec 32 := Scalar.maxsi v2 c32_i32_1
  let c0_i32 : BitVec 32 := 0#32
  let c0_i32_2 : BitVec 32 := 0#32
  ![arg0.toNat, v3.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c32_i32_0 : BitVec 32 := 32#32
  let v2 : BitVec 32 := Scalar.addi c32_i32_0 v1
  let c287_i32 : BitVec 32 := 287#32
  let v3 : BitVec 32 := Scalar.minsi v2 c287_i32
  let c0_i32 : BitVec 32 := 0#32
  let c0_i32_1 : BitVec 32 := 0#32
  ![arg0.toNat, v3.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x5632 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S3x5632 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x5632 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S2816x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 2 → Memref sig .tc .vmem S1x256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Reference2Ideal.lean ====
abbrev S16x2304x384 : Shape := ⟨3, ![16, 2304, 384]⟩
abbrev S16x2304x256 : Shape := ⟨3, ![16, 2304, 256]⟩
abbrev S16x2304x1024 : Shape := ⟨3, ![16, 2304, 1024]⟩
abbrev S16x6x1024 : Shape := ⟨3, ![16, 6, 1024]⟩
abbrev S6x1024 : Shape := ⟨2, ![6, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x2048x384 : Shape := ⟨3, ![16, 2048, 384]⟩
abbrev S16x2048x256 : Shape := ⟨3, ![16, 2048, 256]⟩
abbrev S16x2048x1024 : Shape := ⟨3, ![16, 2048, 1024]⟩
abbrev S16x1x6144 : Shape := ⟨3, ![16, 1, 6144]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2050x5632 : Shape := ⟨3, ![16, 2050, 5632]⟩
abbrev S1x5632 : Shape := ⟨2, ![1, 5632]⟩
abbrev S1x1x5632 : Shape := ⟨3, ![1, 1, 5632]⟩
abbrev S16x2048x2816 : Shape := ⟨3, ![16, 2048, 2816]⟩

abbrev nBuf : Space → Nat
  | .hbm => 171
  | .vmem => 0
  | .smem => 0
  | _ => 0

abbrev hbmTy0_0 (i : Nat) : BufTy := match i % 128 with
  | 0 => ⟨S16x2304x384, .f32⟩
  | 1 => ⟨S16x2304x384, .f32⟩
  | 2 => ⟨S16x2304x256, .f32⟩
  | 3 => ⟨S16x2304x1024, .f32⟩
  | 4 => ⟨S16x6x1024, .f32⟩
  | 5 => ⟨S6x1024, .f32⟩
  | 6 => ⟨S1024x1024, .f32⟩
  | 7 => ⟨S1024, .f32⟩
  | 8 => ⟨S1024, .f32⟩
  | 9 => ⟨S1024x5632, .f32⟩
  | 10 => ⟨S3x5632, .f32⟩
  | 11 => ⟨S5632, .f32⟩
  | 12 => ⟨S2816x1024, .f32⟩
  | 13 => ⟨S1024, .f32⟩
  | 14 => ⟨S1024, .f32⟩
  | 15 => ⟨S16x2048x384, .f32⟩
  | 16 => ⟨S16x2048x384, .f32⟩
  | 17 => ⟨S16x2048x256, .f32⟩
  | 18 => ⟨S16x2048x1024, .f32⟩
  | 19 => ⟨S16x1x6144, .f32⟩
  | 20 => ⟨S16x1x1024, .f32⟩
  | 21 => ⟨S16x1x1024, .f32⟩
  | 22 => ⟨S16x1x1024, .f32⟩
  | 23 => ⟨S16x1x1024, .f32⟩
  | 24 => ⟨S16x1x1024, .f32⟩
  | 25 => ⟨S16x1x1024, .f32⟩
  | 26 => ⟨S16x2048x1024, .f32⟩
  | 27 => ⟨S16x2048x1024, .f32⟩
  | 28 => ⟨S_, .f32⟩
  | 29 => ⟨S16x2048x1024, .f32⟩
  | 30 => ⟨S16x2048x1024, .f32⟩
  | 31 => ⟨S16x2048x1024, .f32⟩
  | 32 => ⟨S16x2048x1024, .f32⟩
  | 33 => ⟨S16x2048x1024, .f32⟩
  | 34 => ⟨S_, .f32⟩
  | 35 => ⟨S16x2048, .f32⟩
  | 36 => ⟨S16x2048x1, .f32⟩
  | 37 => ⟨S_, .f32⟩
  | 38 => ⟨S16x2048x1, .f32⟩
  | 39 => ⟨S16x2048x1, .f32⟩
  | 40 => ⟨S16x2048x1024, .f32⟩
  | 41 => ⟨S16x2048x1024, .f32⟩
  | 42 => ⟨S16x2048x1024, .f32⟩
  | 43 => ⟨S_, .f32⟩
  | 44 => ⟨S16x2048, .f32⟩
  | 45 => ⟨S16x2048x1, .f32⟩
  | 46 => ⟨S_, .f32⟩
  | 47 => ⟨S16x2048x1, .f32⟩
  | 48 => ⟨S16x2048x1, .f32⟩
  | 49 => ⟨S16x2048x1024, .f32⟩
  | 50 => ⟨S16x2048x1024, .f32⟩
  | 51 => ⟨S_, .f32⟩
  | 52 => ⟨S16x2048x1, .f32⟩
  | 53 => ⟨S16x2048x1, .f32⟩
  | 54 => ⟨S16x2048x1, .f32⟩
  | 55 => ⟨S16x2048x1024, .f32⟩
  | 56 => ⟨S16x2048x1024, .f32⟩
  | 57 => ⟨S1x1x1024, .f32⟩
  | 58 => ⟨S16x2048x1024, .f32⟩
  | 59 => ⟨S16x2048x1024, .f32⟩
  | 60 => ⟨S1x1x1024, .f32⟩
  | 61 => ⟨S16x2048x1024, .f32⟩
  | 62 => ⟨S16x2048x1024, .f32⟩
  | 63 => ⟨S_, .f32⟩
  | 64 => ⟨S16x2048, .f32⟩
  | 65 => ⟨S16x2048x1, .f32⟩
  | 66 => ⟨S_, .f32⟩
  | 67 => ⟨S16x2048x1, .f32⟩
  | 68 => ⟨S16x2048x1, .f32⟩
  | 69 => ⟨S16x2048x1024, .f32⟩
  | 70 => ⟨S16x2048x1024, .f32⟩
  | 71 => ⟨S16x2048x1024, .f32⟩
  | 72 => ⟨S_, .f32⟩
  | 73 => ⟨S16x2048, .f32⟩
  | 74 => ⟨S16x2048x1, .f32⟩
  | 75 => ⟨S_, .f32⟩
  | 76 => ⟨S16x2048x1, .f32⟩
  | 77 => ⟨S16x2048x1, .f32⟩
  | 78 => ⟨S16x2048x1024, .f32⟩
  | 79 => ⟨S16x2048x1024, .f32⟩
  | 80 => ⟨S_, .f32⟩
  | 81 => ⟨S16x2048x1, .f32⟩
  | 82 => ⟨S16x2048x1, .f32⟩
  | 83 => ⟨S16x2048x1, .f32⟩
  | 84 => ⟨S16x2048x1024, .f32⟩
  | 85 => ⟨S16x2048x1024, .f32⟩
  | 86 => ⟨S_, .f32⟩
  | 87 => ⟨S16x1x1024, .f32⟩
  | 88 => ⟨S16x1x1024, .f32⟩
  | 89 => ⟨S16x2048x1024, .f32⟩
  | 90 => ⟨S16x2048x1024, .f32⟩
  | 91 => ⟨S16x2048x1024, .f32⟩
  | 92 => ⟨S16x2048x1024, .f32⟩
  | 93 => ⟨S16x2048x5632, .f32⟩
  | 94 => ⟨S_, .i32⟩
  | 95 => ⟨S_, .f32⟩
  | 96 => ⟨S16x2050x5632, .f32⟩
  | 97 => ⟨S16x2048x5632, .f32⟩
  | 98 => ⟨S1x5632, .f32⟩
  | 99 => ⟨S5632, .f32⟩
  | 100 => ⟨S1x1x5632, .f32⟩
  | 101 => ⟨S16x2048x5632, .f32⟩
  | 102 => ⟨S16x2048x5632, .f32⟩
  | 103 => ⟨S_, .f32⟩
  | 104 => ⟨S16x2048x5632, .f32⟩
  | 105 => ⟨S16x2048x5632, .f32⟩
  | 106 => ⟨S16x2048x5632, .f32⟩
  | 107 => ⟨S1x5632, .f32⟩
  | 108 => ⟨S5632, .f32⟩
  | 109 => ⟨S1x1x5632, .f32⟩
  | 110 => ⟨S16x2048x5632, .f32⟩
  | 111 => ⟨S16x2048x5632, .f32⟩
  | 112 => ⟨S16x2048x5632, .f32⟩
  | 113 => ⟨S16x2048x5632, .f32⟩
  | 114 => ⟨S1x5632, .f32⟩
  | 115 => ⟨S5632, .f32⟩
  | 116 => ⟨S1x1x5632, .f32⟩
  | 117 => ⟨S16x2048x5632, .f32⟩
  | 118 => ⟨S16x2048x5632, .f32⟩
  | 119 => ⟨S16x2048x5632, .f32⟩
  | 120 => ⟨S1x1x5632, .f32⟩
  | 121 => ⟨S16x2048x5632, .f32⟩
  | 122 => ⟨S16x2048x5632, .f32⟩
  | 123 => ⟨S16x2048x2816, .f32⟩
  | 124 => ⟨S16x2048x2816, .f32⟩
  | 125 => ⟨S16x2048x2816, .f32⟩
  | 126 => ⟨S16x2048x2816, .f32⟩
  | 127 => ⟨S_, .f32⟩
  | _ => ⟨S16x2304x384, .f32⟩

abbrev hbmTy0_1 (i : Nat) : BufTy := match i % 128 with
  | 0 => ⟨S16x2048x2816, .f32⟩
  | 1 => ⟨S16x2048x2816, .f32⟩
  | 2 => ⟨S_, .f32⟩
  | 3 => ⟨S16x2048x2816, .f32⟩
  | 4 => ⟨S16x2048x2816, .f32⟩
  | 5 => ⟨S16x2048x2816, .f32⟩
  | 6 => ⟨S16x2048x2816, .f32⟩
  | 7 => ⟨S16x2048x1024, .f32⟩
  | 8 => ⟨S_, .f32⟩
  | 9 => ⟨S16x2048x1024, .f32⟩
  | 10 => ⟨S16x2048x1024, .f32⟩
  | 11 => ⟨S16x2048x1024, .f32⟩
  | 12 => ⟨S16x2048x1024, .f32⟩
  | 13 => ⟨S16x2048x1024, .f32⟩
  | 14 => ⟨S_, .f32⟩
  | 15 => ⟨S16x2048, .f32⟩
  | 16 => ⟨S16x2048x1, .f32⟩
  | 17 => ⟨S_, .f32⟩
  | 18 => ⟨S16x2048x1, .f32⟩
  | 19 => ⟨S16x2048x1, .f32⟩
  | 20 => ⟨S16x2048x1024, .f32⟩
  | 21 => ⟨S16x2048x1024, .f32⟩
  | 22 => ⟨S16x2048x1024, .f32⟩
  | 23 => ⟨S_, .f32⟩
  | 24 => ⟨S16x2048, .f32⟩
  | 25 => ⟨S16x2048x1, .f32⟩
  | 26 => ⟨S_, .f32⟩
  | 27 => ⟨S16x2048x1, .f32⟩
  | 28 => ⟨S16x2048x1, .f32⟩
  | 29 => ⟨S16x2048x1024, .f32⟩
  | 30 => ⟨S16x2048x1024, .f32⟩
  | 31 => ⟨S_, .f32⟩
  | 32 => ⟨S16x2048x1, .f32⟩
  | 33 => ⟨S16x2048x1, .f32⟩
  | 34 => ⟨S16x2048x1, .f32⟩
  | 35 => ⟨S16x2048x1024, .f32⟩
  | 36 => ⟨S16x2048x1024, .f32⟩
  | 37 => ⟨S1x1x1024, .f32⟩
  | 38 => ⟨S16x2048x1024, .f32⟩
  | 39 => ⟨S16x2048x1024, .f32⟩
  | 40 => ⟨S1x1x1024, .f32⟩
  | 41 => ⟨S16x2048x1024, .f32⟩
  | 42 => ⟨S16x2048x1024, .f32⟩
  | _ => ⟨S16x2304x384, .f32⟩

abbrev hbmTy (i : Nat) : BufTy := match i / 128 with
  | 0 => hbmTy0_0 i
  | 1 => hbmTy0_1 i
  | _ => ⟨S16x2304x384, .f32⟩

abbrev bufTy : (tb : Table) → Fin (tcTables nBuf tb) → BufTy
  | .hbm, ⟨i, _⟩ => hbmTy i
  | _, _ => ⟨S16x2304x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c : Ref sig .tc := ⟨.hbm, 94, rfl⟩
abbrev main_call0_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_11 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_call1_v0 : Ref sig .tc := ⟨.hbm, 125, rfl⟩
abbrev main_call1_v1 : Ref sig .tc := ⟨.hbm, 126, rfl⟩
abbrev main_call1_cst : Ref sig .tc := ⟨.hbm, 127, rfl⟩
abbrev main_call1_v2 : Ref sig .tc := ⟨.hbm, 128, rfl⟩
abbrev main_call1_v3 : Ref sig .tc := ⟨.hbm, 129, rfl⟩
abbrev main_call1_cst_0 : Ref sig .tc := ⟨.hbm, 130, rfl⟩
abbrev main_call1_v4 : Ref sig .tc := ⟨.hbm, 131, rfl⟩
abbrev main_call1_v5 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_12 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_13 : Ref sig .tc := ⟨.hbm, 142, rfl⟩
abbrev main_v103 : Ref sig .tc := ⟨.hbm, 143, rfl⟩
abbrev main_v104 : Ref sig .tc := ⟨.hbm, 144, rfl⟩
abbrev main_cst_14 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_15 : Ref sig .tc := ⟨.hbm, 151, rfl⟩
abbrev main_v110 : Ref sig .tc := ⟨.hbm, 152, rfl⟩
abbrev main_v111 : Ref sig .tc := ⟨.hbm, 153, rfl⟩
abbrev main_cst_16 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_17 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩

abbrev nD : Nat := 1
abbrev τ : Topo := Topo.v7x

variable {F : FTy → Type} [FloatOps F]
-- ==== Kernel3.lean ====
abbrev S16x2304x384 : Shape := ⟨3, ![16, 2304, 384]⟩
abbrev S16x2304x256 : Shape := ⟨3, ![16, 2304, 256]⟩
abbrev S16x2304x1024 : Shape := ⟨3, ![16, 2304, 1024]⟩
abbrev S16x6x1024 : Shape := ⟨3, ![16, 6, 1024]⟩
abbrev S6x1024 : Shape := ⟨2, ![6, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x2304x64 : Shape := ⟨3, ![16, 2304, 64]⟩
abbrev S1x6x1024 : Shape := ⟨3, ![1, 6, 1024]⟩
abbrev S16x1x6x1024 : Shape := ⟨4, ![16, 1, 6, 1024]⟩
abbrev S16x2x6x1024 : Shape := ⟨4, ![16, 2, 6, 1024]⟩
abbrev S_ : Shape := ⟨0, ![]⟩
abbrev S16x2x8x1024 : Shape := ⟨4, ![16, 2, 8, 1024]⟩
abbrev S448x1024 : Shape := ⟨2, ![448, 1024]⟩
abbrev S64x1024 : Shape := ⟨2, ![64, 1024]⟩
abbrev S320x1024 : Shape := ⟨2, ![320, 1024]⟩
abbrev S1x1024 : Shape := ⟨2, ![1, 1024]⟩
abbrev S1x5632 : Shape := ⟨2, ![1, 5632]⟩
abbrev S1x16x384 : Shape := ⟨3, ![1, 16, 384]⟩
abbrev S1x768x384 : Shape := ⟨3, ![1, 768, 384]⟩
abbrev S1x16x256 : Shape := ⟨3, ![1, 16, 256]⟩
abbrev S1x768x256 : Shape := ⟨3, ![1, 768, 256]⟩
abbrev S1x8x1024 : Shape := ⟨3, ![1, 8, 1024]⟩
abbrev S1x768x1024 : Shape := ⟨3, ![1, 768, 1024]⟩
abbrev S1x2x8x1024 : Shape := ⟨4, ![1, 2, 8, 1024]⟩
abbrev S1x1x8x1024 : Shape := ⟨4, ![1, 1, 8, 1024]⟩
abbrev S8x1024 : Shape := ⟨2, ![8, 1024]⟩
abbrev S16x384 : Shape := ⟨2, ![16, 384]⟩
abbrev S1x272x384 : Shape := ⟨3, ![1, 272, 384]⟩
abbrev S272x384 : Shape := ⟨2, ![272, 384]⟩
abbrev S288x384 : Shape := ⟨2, ![288, 384]⟩
abbrev S16x256 : Shape := ⟨2, ![16, 256]⟩
abbrev S1x272x256 : Shape := ⟨3, ![1, 272, 256]⟩
abbrev S272x256 : Shape := ⟨2, ![272, 256]⟩
abbrev S288x256 : Shape := ⟨2, ![288, 256]⟩
abbrev S288x1024 : Shape := ⟨2, ![288, 1024]⟩
abbrev S272x1024 : Shape := ⟨2, ![272, 1024]⟩
abbrev S1x264x1024 : Shape := ⟨3, ![1, 264, 1024]⟩
abbrev S264x1024 : Shape := ⟨2, ![264, 1024]⟩
abbrev S272 : Shape := ⟨1, ![272]⟩
abbrev S272x1 : Shape := ⟨2, ![272, 1]⟩
abbrev S256x1024 : Shape := ⟨2, ![256, 1024]⟩
abbrev S1024x256 : Shape := ⟨2, ![1024, 256]⟩
abbrev S1x256 : Shape := ⟨2, ![1, 256]⟩
abbrev S256x256 : Shape := ⟨2, ![256, 256]⟩
abbrev S1x288x384 : Shape := ⟨3, ![1, 288, 384]⟩
abbrev S1x288x256 : Shape := ⟨3, ![1, 288, 256]⟩
abbrev S1x272x1024 : Shape := ⟨3, ![1, 272, 1024]⟩
abbrev S256 : Shape := ⟨1, ![256]⟩
abbrev S256x1 : Shape := ⟨2, ![256, 1]⟩
abbrev S1x256x1024 : Shape := ⟨3, ![1, 256, 1024]⟩

abbrev nBuf : Space → Nat
  | .hbm => 49
  | .vmem => 37
  | .smem => 0
  | _ => 0

abbrev bufTy : (tb : Table) → Fin (tcTables nBuf tb) → BufTy
  | .hbm, ⟨0, _⟩ => ⟨S16x2304x384, .f32⟩
  | .hbm, ⟨1, _⟩ => ⟨S16x2304x384, .f32⟩
  | .hbm, ⟨2, _⟩ => ⟨S16x2304x256, .f32⟩
  | .hbm, ⟨3, _⟩ => ⟨S16x2304x1024, .f32⟩
  | .hbm, ⟨4, _⟩ => ⟨S16x6x1024, .f32⟩
  | .hbm, ⟨5, _⟩ => ⟨S6x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x5632, .f32⟩
  | .hbm, ⟨10, _⟩ => ⟨S3x5632, .f32⟩
  | .hbm, ⟨11, _⟩ => ⟨S5632, .f32⟩
  | .hbm, ⟨12, _⟩ => ⟨S2816x1024, .f32⟩
  | .hbm, ⟨13, _⟩ => ⟨S1024, .f32⟩
  | .hbm, ⟨14, _⟩ => ⟨S1024, .f32⟩
  | .hbm, ⟨15, _⟩ => ⟨S16x2304x64, .f32⟩
  | .hbm, ⟨16, _⟩ => ⟨S16x2304x64, .f32⟩
  | .hbm, ⟨17, _⟩ => ⟨S16x2304x64, .f32⟩
  | .hbm, ⟨18, _⟩ => ⟨S16x2304x64, .f32⟩
  | .hbm, ⟨19, _⟩ => ⟨S16x2304x64, .f32⟩
  | .hbm, ⟨20, _⟩ => ⟨S16x2304x64, .f32⟩
  | .hbm, ⟨21, _⟩ => ⟨S16x2304x384, .f32⟩
  | .hbm, ⟨22, _⟩ => ⟨S1x6x1024, .f32⟩
  | .hbm, ⟨23, _⟩ => ⟨S16x6x1024, .f32⟩
  | .hbm, ⟨24, _⟩ => ⟨S16x1x6x1024, .f32⟩
  | .hbm, ⟨25, _⟩ => ⟨S16x1x6x1024, .f32⟩
  | .hbm, ⟨26, _⟩ => ⟨S16x2x6x1024, .f32⟩
  | .hbm, ⟨27, _⟩ => ⟨S_, .i32⟩
  | .hbm, ⟨28, _⟩ => ⟨S_, .f32⟩
  | .hbm, ⟨29, _⟩ => ⟨S16x2x8x1024, .f32⟩
  | .hbm, ⟨30, _⟩ => ⟨S16x2304x384, .bf16⟩
  | .hbm, ⟨31, _⟩ => ⟨S16x2304x384, .bf16⟩
  | .hbm, ⟨32, _⟩ => ⟨S16x2304x256, .bf16⟩
  | .hbm, ⟨33, _⟩ => ⟨S448x1024, .f32⟩
  | .hbm, ⟨34, _⟩ => ⟨S64x1024, .f32⟩
  | .hbm, ⟨35, _⟩ => ⟨S64x1024, .f32⟩
  | .hbm, ⟨36, _⟩ => ⟨S64x1024, .f32⟩
  | .hbm, ⟨37, _⟩ => ⟨S64x1024, .f32⟩
  | .hbm, ⟨38, _⟩ => ⟨S320x1024, .f32⟩
  | .hbm, ⟨39, _⟩ => ⟨S1024x1024, .f32⟩
  | .hbm, ⟨40, _⟩ => ⟨S1024x1024, .bf16⟩
  | .hbm, ⟨41, _⟩ => ⟨S1x1024, .f32⟩
  | .hbm, ⟨42, _⟩ => ⟨S1x1024, .f32⟩
  | .hbm, ⟨43, _⟩ => ⟨S1024x5632, .bf16⟩
  | .hbm, ⟨44, _⟩ => ⟨S1x5632, .f32⟩
  | .hbm, ⟨45, _⟩ => ⟨S2816x1024, .bf16⟩
  | .hbm, ⟨46, _⟩ => ⟨S1x1024, .f32⟩
  | .hbm, ⟨47, _⟩ => ⟨S1x1024, .f32⟩
  | .hbm, ⟨48, _⟩ => ⟨S16x2304x1024, .f32⟩
  | .local _ .vmem, ⟨0, _⟩ => ⟨S1x16x384, .bf16⟩
  | .local _ .vmem, ⟨1, _⟩ => ⟨S1x16x384, .bf16⟩
  | .local _ .vmem, ⟨2, _⟩ => ⟨S1x768x384, .bf16⟩
  | .local _ .vmem, ⟨3, _⟩ => ⟨S1x768x384, .bf16⟩
  | .local _ .vmem, ⟨4, _⟩ => ⟨S1x16x384, .bf16⟩
  | .local _ .vmem, ⟨5, _⟩ => ⟨S1x16x384, .bf16⟩
  | .local _ .vmem, ⟨6, _⟩ => ⟨S1x16x384, .bf16⟩
  | .local _ .vmem, ⟨7, _⟩ => ⟨S1x16x384, .bf16⟩
  | .local _ .vmem, ⟨8, _⟩ => ⟨S1x768x384, .bf16⟩
  | .local _ .vmem, ⟨9, _⟩ => ⟨S1x768x384, .bf16⟩
  | .local _ .vmem, ⟨10, _⟩ => ⟨S1x16x384, .bf16⟩
  | .local _ .vmem, ⟨11, _⟩ => ⟨S1x16x384, .bf16⟩
  | .local _ .vmem, ⟨12, _⟩ => ⟨S1x16x256, .bf16⟩
  | .local _ .vmem, ⟨13, _⟩ => ⟨S1x16x256, .bf16⟩
  | .local _ .vmem, ⟨14, _⟩ => ⟨S1x768x256, .bf16⟩
  | .local _ .vmem, ⟨15, _⟩ => ⟨S1x768x256, .bf16⟩
  | .local _ .vmem, ⟨16, _⟩ => ⟨S1x16x256, .bf16⟩
  | .local _ .vmem, ⟨17, _⟩ => ⟨S1x16x256, .bf16⟩
  | .local _ .vmem, ⟨18, _⟩ => ⟨S1x8x1024, .f32⟩
  | .local _ .vmem, ⟨19, _⟩ => ⟨S1x8x1024, .f32⟩
  | .local _ .vmem, ⟨20, _⟩ => ⟨S1x768x1024, .f32⟩
  | .local _ .vmem, ⟨21, _⟩ => ⟨S1x768x1024, .f32⟩
  | .local _ .vmem, ⟨22, _⟩ => ⟨S1x8x1024, .f32⟩
  | .local _ .vmem, ⟨23, _⟩ => ⟨S1x8x1024, .f32⟩
  | .local _ .vmem, ⟨24, _⟩ => ⟨S1x2x8x1024, .f32⟩
  | .local _ .vmem, ⟨25, _⟩ => ⟨S1x2x8x1024, .f32⟩
  | .local _ .vmem, ⟨26, _⟩ => ⟨S1024x1024, .bf16⟩
  | .local _ .vmem, ⟨27, _⟩ => ⟨S1x1024, .f32⟩
  | .local _ .vmem, ⟨28, _⟩ => ⟨S1x1024, .f32⟩
  | .local _ .vmem, ⟨29, _⟩ => ⟨S1024x5632, .bf16⟩
  | .local _ .vmem, ⟨30, _⟩ => ⟨S3x5632, .f32⟩
  | .local _ .vmem, ⟨31, _⟩ => ⟨S1x5632, .f32⟩
  | .local _ .vmem, ⟨32, _⟩ => ⟨S2816x1024, .bf16⟩
  | .local _ .vmem, ⟨33, _⟩ => ⟨S1x1024, .f32⟩
  | .local _ .vmem, ⟨34, _⟩ => ⟨S1x1024, .f32⟩
  | .local _ .vmem, ⟨35, _⟩ => ⟨S1x768x1024, .f32⟩
  | .local _ .vmem, ⟨36, _⟩ => ⟨S1x768x1024, .f32⟩
  | _, _ => ⟨S16x2304x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_call0_v0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg22_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem21_0 : DmaSem sig := 34
abbrev cc0_sem22_0 : DmaSem sig := 35
abbrev cc0_sem22_1 : DmaSem sig := 36

abbrev nD : Nat := 1
abbrev τ : Topo := Topo.v7x

variable {F : FTy → Type} [FloatOps F]

abbrev grid0 : Pipeline.Grid := ⟨2, ![16, 3], ![false, false]⟩

def cc0_transform_0 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.muli arg1 c48_i32
  let c0_i32 : BitVec 32 := 0#32
  let v1 : BitVec 32 := Scalar.addi c0_i32 v0
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![arg0.toNat, v3.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c48_i32 : BitVec 32 := 48#32
  let v1 : BitVec 32 := Scalar.muli v0 c48_i32
  let c0_i32 : BitVec 32 := 0#32
  let v2 : BitVec 32 := Scalar.addi c0_i32 v1
  let c143_i32 : BitVec 32 := 143#32
  let v3 : BitVec 32 := Scalar.minsi v2 c143_i32
  let c0_i32_0 : BitVec 32 := 0#32
  let c0_i32_1 : BitVec 32 := 0#32
  ![arg0.toNat, v3.toNat, c0_i32_0.toNat]

def cc0_transform_3 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.muli arg1 c48_i32
  let c0_i32 : BitVec 32 := 0#32
  let v1 : BitVec 32 := Scalar.addi c0_i32 v0
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![arg0.toNat, v3.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c48_i32 : BitVec 32 := 48#32
  let v1 : BitVec 32 := Scalar.muli v0 c48_i32
  let c0_i32 : BitVec 32 := 0#32
  let v2 : BitVec 32 := Scalar.addi c0_i32 v1
  let c143_i32 : BitVec 32 := 143#32
  let v3 : BitVec 32 := Scalar.minsi v2 c143_i32
  let c0_i32_0 : BitVec 32 := 0#32
  let c0_i32_1 : BitVec 32 := 0#32
  ![arg0.toNat, v3.toNat, c0_i32_0.toNat]

def cc0_transform_6 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.muli arg1 c48_i32
  let c0_i32 : BitVec 32 := 0#32
  let v1 : BitVec 32 := Scalar.addi c0_i32 v0
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![arg0.toNat, v3.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c48_i32 : BitVec 32 := 48#32
  let v1 : BitVec 32 := Scalar.muli v0 c48_i32
  let c0_i32 : BitVec 32 := 0#32
  let v2 : BitVec 32 := Scalar.addi c0_i32 v1
  let c143_i32 : BitVec 32 := 143#32
  let v3 : BitVec 32 := Scalar.minsi v2 c143_i32
  let c0_i32_0 : BitVec 32 := 0#32
  let c0_i32_1 : BitVec 32 := 0#32
  ![arg0.toNat, v3.toNat, c0_i32_0.toNat]

def cc0_transform_9 (i : grid0.Coords) : Fin 3 → Nat :=
  let arg0 : BitVec 32 := BitVec.ofNat 32 (i 0).val
  let arg1 : BitVec 32 := BitVec.ofNat 32 (i 1).val
  let c96_i32 : BitVec 32 := 96#32
  let v0 : BitVec 32 := Scalar.muli arg1 c96_i32
  let c0_i32 : BitVec 32 := 0#32
  let v1 : BitVec 32 := Scalar.addi c0_i32 v0
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![arg0.toNat, v3.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c96_i32 : BitVec 32 := 96#32
  let v1 : BitVec 32 := Scalar.muli v0 c96_i32
  let c0_i32 : BitVec 32 := 0#32
  let v2 : BitVec 32 := Scalar.addi c0_i32 v1
  let c287_i32 : BitVec 32 := 287#32
  let v3 : BitVec 32 := Scalar.minsi v2 c287_i32
  let c0_i32_0 : BitVec 32 := 0#32
  let c0_i32_1 : BitVec 32 := 0#32
  ![arg0.toNat, v3.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x768x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x768x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x768x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x5632 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S3x5632 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x5632 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S2816x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 2 → Memref sig .tc .vmem S1x768x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Reference3Ideal.lean ====
abbrev S16x2304x384 : Shape := ⟨3, ![16, 2304, 384]⟩
abbrev S16x2304x256 : Shape := ⟨3, ![16, 2304, 256]⟩
abbrev S16x2304x1024 : Shape := ⟨3, ![16, 2304, 1024]⟩
abbrev S16x6x1024 : Shape := ⟨3, ![16, 6, 1024]⟩
abbrev S6x1024 : Shape := ⟨2, ![6, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x2048x384 : Shape := ⟨3, ![16, 2048, 384]⟩
abbrev S16x2048x256 : Shape := ⟨3, ![16, 2048, 256]⟩
abbrev S16x2048x1024 : Shape := ⟨3, ![16, 2048, 1024]⟩
abbrev S16x1x6144 : Shape := ⟨3, ![16, 1, 6144]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2050x5632 : Shape := ⟨3, ![16, 2050, 5632]⟩
abbrev S1x5632 : Shape := ⟨2, ![1, 5632]⟩
abbrev S1x1x5632 : Shape := ⟨3, ![1, 1, 5632]⟩
abbrev S16x2048x2816 : Shape := ⟨3, ![16, 2048, 2816]⟩
abbrev S16x256x384 : Shape := ⟨3, ![16, 256, 384]⟩
abbrev S16x256x256 : Shape := ⟨3, ![16, 256, 256]⟩
abbrev S16x256x1024 : Shape := ⟨3, ![16, 256, 1024]⟩
abbrev S6144 : Shape := ⟨1, ![6144]⟩
abbrev S16x256 : Shape := ⟨2, ![16, 256]⟩
abbrev S16x256x1 : Shape := ⟨3, ![16, 256, 1]⟩
abbrev S16x256x5632 : Shape := ⟨3, ![16, 256, 5632]⟩
abbrev S16x258x5632 : Shape := ⟨3, ![16, 258, 5632]⟩
abbrev S16x256x2816 : Shape := ⟨3, ![16, 256, 2816]⟩

abbrev nBuf : Space → Nat
  | .hbm => 332
  | .vmem => 0
  | .smem => 0
  | _ => 0

abbrev hbmTy0_0 (i : Nat) : BufTy := match i % 128 with
  | 0 => ⟨S16x2304x384, .f32⟩
  | 1 => ⟨S16x2304x384, .f32⟩
  | 2 => ⟨S16x2304x256, .f32⟩
  | 3 => ⟨S16x2304x1024, .f32⟩
  | 4 => ⟨S16x6x1024, .f32⟩
  | 5 => ⟨S6x1024, .f32⟩
  | 6 => ⟨S1024x1024, .f32⟩
  | 7 => ⟨S1024, .f32⟩
  | 8 => ⟨S1024, .f32⟩
  | 9 => ⟨S1024x5632, .f32⟩
  | 10 => ⟨S3x5632, .f32⟩
  | 11 => ⟨S5632, .f32⟩
  | 12 => ⟨S2816x1024, .f32⟩
  | 13 => ⟨S1024, .f32⟩
  | 14 => ⟨S1024, .f32⟩
  | 15 => ⟨S16x2048x384, .f32⟩
  | 16 => ⟨S16x2048x384, .f32⟩
  | 17 => ⟨S16x2048x256, .f32⟩
  | 18 => ⟨S16x2048x1024, .f32⟩
  | 19 => ⟨S16x1x6144, .f32⟩
  | 20 => ⟨S16x1x1024, .f32⟩
  | 21 => ⟨S16x1x1024, .f32⟩
  | 22 => ⟨S16x1x1024, .f32⟩
  | 23 => ⟨S16x1x1024, .f32⟩
  | 24 => ⟨S16x1x1024, .f32⟩
  | 25 => ⟨S16x1x1024, .f32⟩
  | 26 => ⟨S16x2048x1024, .f32⟩
  | 27 => ⟨S16x2048x1024, .f32⟩
  | 28 => ⟨S_, .f32⟩
  | 29 => ⟨S16x2048x1024, .f32⟩
  | 30 => ⟨S16x2048x1024, .f32⟩
  | 31 => ⟨S16x2048x1024, .f32⟩
  | 32 => ⟨S16x2048x1024, .f32⟩
  | 33 => ⟨S16x2048x1024, .f32⟩
  | 34 => ⟨S_, .f32⟩
  | 35 => ⟨S16x2048, .f32⟩
  | 36 => ⟨S16x2048x1, .f32⟩
  | 37 => ⟨S_, .f32⟩
  | 38 => ⟨S16x2048x1, .f32⟩
  | 39 => ⟨S16x2048x1, .f32⟩
  | 40 => ⟨S16x2048x1024, .f32⟩
  | 41 => ⟨S16x2048x1024, .f32⟩
  | 42 => ⟨S16x2048x1024, .f32⟩
  | 43 => ⟨S_, .f32⟩
  | 44 => ⟨S16x2048, .f32⟩
  | 45 => ⟨S16x2048x1, .f32⟩
  | 46 => ⟨S_, .f32⟩
  | 47 => ⟨S16x2048x1, .f32⟩
  | 48 => ⟨S16x2048x1, .f32⟩
  | 49 => ⟨S16x2048x1024, .f32⟩
  | 50 => ⟨S16x2048x1024, .f32⟩
  | 51 => ⟨S_, .f32⟩
  | 52 => ⟨S16x2048x1, .f32⟩
  | 53 => ⟨S16x2048x1, .f32⟩
  | 54 => ⟨S16x2048x1, .f32⟩
  | 55 => ⟨S16x2048x1024, .f32⟩
  | 56 => ⟨S16x2048x1024, .f32⟩
  | 57 => ⟨S1x1x1024, .f32⟩
  | 58 => ⟨S16x2048x1024, .f32⟩
  | 59 => ⟨S16x2048x1024, .f32⟩
  | 60 => ⟨S1x1x1024, .f32⟩
  | 61 => ⟨S16x2048x1024, .f32⟩
  | 62 => ⟨S16x2048x1024, .f32⟩
  | 63 => ⟨S_, .f32⟩
  | 64 => ⟨S16x2048, .f32⟩
  | 65 => ⟨S16x2048x1, .f32⟩
  | 66 => ⟨S_, .f32⟩
  | 67 => ⟨S16x2048x1, .f32⟩
  | 68 => ⟨S16x2048x1, .f32⟩
  | 69 => ⟨S16x2048x1024, .f32⟩
  | 70 => ⟨S16x2048x1024, .f32⟩
  | 71 => ⟨S16x2048x1024, .f32⟩
  | 72 => ⟨S_, .f32⟩
  | 73 => ⟨S16x2048, .f32⟩
  | 74 => ⟨S16x2048x1, .f32⟩
  | 75 => ⟨S_, .f32⟩
  | 76 => ⟨S16x2048x1, .f32⟩
  | 77 => ⟨S16x2048x1, .f32⟩
  | 78 => ⟨S16x2048x1024, .f32⟩
  | 79 => ⟨S16x2048x1024, .f32⟩
  | 80 => ⟨S_, .f32⟩
  | 81 => ⟨S16x2048x1, .f32⟩
  | 82 => ⟨S16x2048x1, .f32⟩
  | 83 => ⟨S16x2048x1, .f32⟩
  | 84 => ⟨S16x2048x1024, .f32⟩
  | 85 => ⟨S16x2048x1024, .f32⟩
  | 86 => ⟨S_, .f32⟩
  | 87 => ⟨S16x1x1024, .f32⟩
  | 88 => ⟨S16x1x1024, .f32⟩
  | 89 => ⟨S16x2048x1024, .f32⟩
  | 90 => ⟨S16x2048x1024, .f32⟩
  | 91 => ⟨S16x2048x1024, .f32⟩
  | 92 => ⟨S16x2048x1024, .f32⟩
  | 93 => ⟨S16x2048x5632, .f32⟩
  | 94 => ⟨S_, .i32⟩
  | 95 => ⟨S_, .f32⟩
  | 96 => ⟨S16x2050x5632, .f32⟩
  | 97 => ⟨S16x2048x5632, .f32⟩
  | 98 => ⟨S1x5632, .f32⟩
  | 99 => ⟨S5632, .f32⟩
  | 100 => ⟨S1x1x5632, .f32⟩
  | 101 => ⟨S16x2048x5632, .f32⟩
  | 102 => ⟨S16x2048x5632, .f32⟩
  | 103 => ⟨S_, .f32⟩
  | 104 => ⟨S16x2048x5632, .f32⟩
  | 105 => ⟨S16x2048x5632, .f32⟩
  | 106 => ⟨S16x2048x5632, .f32⟩
  | 107 => ⟨S1x5632, .f32⟩
  | 108 => ⟨S5632, .f32⟩
  | 109 => ⟨S1x1x5632, .f32⟩
  | 110 => ⟨S16x2048x5632, .f32⟩
  | 111 => ⟨S16x2048x5632, .f32⟩
  | 112 => ⟨S16x2048x5632, .f32⟩
  | 113 => ⟨S16x2048x5632, .f32⟩
  | 114 => ⟨S1x5632, .f32⟩
  | 115 => ⟨S5632, .f32⟩
  | 116 => ⟨S1x1x5632, .f32⟩
  | 117 => ⟨S16x2048x5632, .f32⟩
  | 118 => ⟨S16x2048x5632, .f32⟩
  | 119 => ⟨S16x2048x5632, .f32⟩
  | 120 => ⟨S1x1x5632, .f32⟩
  | 121 => ⟨S16x2048x5632, .f32⟩
  | 122 => ⟨S16x2048x5632, .f32⟩
  | 123 => ⟨S16x2048x2816, .f32⟩
  | 124 => ⟨S16x2048x2816, .f32⟩
  | 125 => ⟨S16x2048x2816, .f32⟩
  | 126 => ⟨S16x2048x2816, .f32⟩
  | 127 => ⟨S_, .f32⟩
  | _ => ⟨S16x2304x384, .f32⟩

abbrev hbmTy0_1 (i : Nat) : BufTy := match i % 128 with
  | 0 => ⟨S16x2048x2816, .f32⟩
  | 1 => ⟨S16x2048x2816, .f32⟩
  | 2 => ⟨S_, .f32⟩
  | 3 => ⟨S16x2048x2816, .f32⟩
  | 4 => ⟨S16x2048x2816, .f32⟩
  | 5 => ⟨S16x2048x2816, .f32⟩
  | 6 => ⟨S16x2048x2816, .f32⟩
  | 7 => ⟨S16x2048x1024, .f32⟩
  | 8 => ⟨S_, .f32⟩
  | 9 => ⟨S16x2048x1024, .f32⟩
  | 10 => ⟨S16x2048x1024, .f32⟩
  | 11 => ⟨S16x2048x1024, .f32⟩
  | 12 => ⟨S16x2048x1024, .f32⟩
  | 13 => ⟨S16x2048x1024, .f32⟩
  | 14 => ⟨S_, .f32⟩
  | 15 => ⟨S16x2048, .f32⟩
  | 16 => ⟨S16x2048x1, .f32⟩
  | 17 => ⟨S_, .f32⟩
  | 18 => ⟨S16x2048x1, .f32⟩
  | 19 => ⟨S16x2048x1, .f32⟩
  | 20 => ⟨S16x2048x1024, .f32⟩
  | 21 => ⟨S16x2048x1024, .f32⟩
  | 22 => ⟨S16x2048x1024, .f32⟩
  | 23 => ⟨S_, .f32⟩
  | 24 => ⟨S16x2048, .f32⟩
  | 25 => ⟨S16x2048x1, .f32⟩
  | 26 => ⟨S_, .f32⟩
  | 27 => ⟨S16x2048x1, .f32⟩
  | 28 => ⟨S16x2048x1, .f32⟩
  | 29 => ⟨S16x2048x1024, .f32⟩
  | 30 => ⟨S16x2048x1024, .f32⟩
  | 31 => ⟨S_, .f32⟩
  | 32 => ⟨S16x2048x1, .f32⟩
  | 33 => ⟨S16x2048x1, .f32⟩
  | 34 => ⟨S16x2048x1, .f32⟩
  | 35 => ⟨S16x2048x1024, .f32⟩
  | 36 => ⟨S16x2048x1024, .f32⟩
  | 37 => ⟨S1x1x1024, .f32⟩
  | 38 => ⟨S16x2048x1024, .f32⟩
  | 39 => ⟨S16x2048x1024, .f32⟩
  | 40 => ⟨S1x1x1024, .f32⟩
  | 41 => ⟨S16x2048x1024, .f32⟩
  | 42 => ⟨S16x2048x1024, .f32⟩
  | 43 => ⟨S16x256x384, .f32⟩
  | 44 => ⟨S16x256x384, .f32⟩
  | 45 => ⟨S16x256x256, .f32⟩
  | 46 => ⟨S16x256x1024, .f32⟩
  | 47 => ⟨S6144, .f32⟩
  | 48 => ⟨S1024, .f32⟩
  | 49 => ⟨S1024, .f32⟩
  | 50 => ⟨S1024, .f32⟩
  | 51 => ⟨S1024, .f32⟩
  | 52 => ⟨S1024, .f32⟩
  | 53 => ⟨S1024, .f32⟩
  | 54 => ⟨S16x256x1024, .f32⟩
  | 55 => ⟨S16x256x1024, .f32⟩
  | 56 => ⟨S_, .f32⟩
  | 57 => ⟨S16x256x1024, .f32⟩
  | 58 => ⟨S16x256x1024, .f32⟩
  | 59 => ⟨S1x1x1024, .f32⟩
  | 60 => ⟨S16x256x1024, .f32⟩
  | 61 => ⟨S16x256x1024, .f32⟩
  | 62 => ⟨S16x256x1024, .f32⟩
  | 63 => ⟨S_, .f32⟩
  | 64 => ⟨S16x256, .f32⟩
  | 65 => ⟨S16x256x1, .f32⟩
  | 66 => ⟨S_, .f32⟩
  | 67 => ⟨S16x256x1, .f32⟩
  | 68 => ⟨S16x256x1, .f32⟩
  | 69 => ⟨S16x256x1024, .f32⟩
  | 70 => ⟨S16x256x1024, .f32⟩
  | 71 => ⟨S16x256x1024, .f32⟩
  | 72 => ⟨S_, .f32⟩
  | 73 => ⟨S16x256, .f32⟩
  | 74 => ⟨S16x256x1, .f32⟩
  | 75 => ⟨S_, .f32⟩
  | 76 => ⟨S16x256x1, .f32⟩
  | 77 => ⟨S16x256x1, .f32⟩
  | 78 => ⟨S16x256x1024, .f32⟩
  | 79 => ⟨S16x256x1024, .f32⟩
  | 80 => ⟨S_, .f32⟩
  | 81 => ⟨S16x256x1, .f32⟩
  | 82 => ⟨S16x256x1, .f32⟩
  | 83 => ⟨S16x256x1, .f32⟩
  | 84 => ⟨S16x256x1024, .f32⟩
  | 85 => ⟨S16x256x1024, .f32⟩
  | 86 => ⟨S1x1x1024, .f32⟩
  | 87 => ⟨S16x256x1024, .f32⟩
  | 88 => ⟨S16x256x1024, .f32⟩
  | 89 => ⟨S1x1x1024, .f32⟩
  | 90 => ⟨S16x256x1024, .f32⟩
  | 91 => ⟨S16x256x1024, .f32⟩
  | 92 => ⟨S_, .f32⟩
  | 93 => ⟨S16x256, .f32⟩
  | 94 => ⟨S16x256x1, .f32⟩
  | 95 => ⟨S_, .f32⟩
  | 96 => ⟨S16x256x1, .f32⟩
  | 97 => ⟨S16x256x1, .f32⟩
  | 98 => ⟨S16x256x1024, .f32⟩
  | 99 => ⟨S16x256x1024, .f32⟩
  | 100 => ⟨S16x256x1024, .f32⟩
  | 101 => ⟨S_, .f32⟩
  | 102 => ⟨S16x256, .f32⟩
  | 103 => ⟨S16x256x1, .f32⟩
  | 104 => ⟨S_, .f32⟩
  | 105 => ⟨S16x256x1, .f32⟩
  | 106 => ⟨S16x256x1, .f32⟩
  | 107 => ⟨S16x256x1024, .f32⟩
  | 108 => ⟨S16x256x1024, .f32⟩
  | 109 => ⟨S_, .f32⟩
  | 110 => ⟨S16x256x1, .f32⟩
  | 111 => ⟨S16x256x1, .f32⟩
  | 112 => ⟨S16x256x1, .f32⟩
  | 113 => ⟨S16x256x1024, .f32⟩
  | 114 => ⟨S16x256x1024, .f32⟩
  | 115 => ⟨S_, .f32⟩
  | 116 => ⟨S1024, .f32⟩
  | 117 => ⟨S1024, .f32⟩
  | 118 => ⟨S1x1x1024, .f32⟩
  | 119 => ⟨S16x256x1024, .f32⟩
  | 120 => ⟨S16x256x1024, .f32⟩
  | 121 => ⟨S1x1x1024, .f32⟩
  | 122 => ⟨S16x256x1024, .f32⟩
  | 123 => ⟨S16x256x1024, .f32⟩
  | 124 => ⟨S16x256x5632, .f32⟩
  | 125 => ⟨S_, .i32⟩
  | 126 => ⟨S_, .f32⟩
  | 127 => ⟨S16x258x5632, .f32⟩
  | _ => ⟨S16x2304x384, .f32⟩

abbrev hbmTy0_2 (i : Nat) : BufTy := match i % 128 with
  | 0 => ⟨S16x256x5632, .f32⟩
  | 1 => ⟨S1x5632, .f32⟩
  | 2 => ⟨S5632, .f32⟩
  | 3 => ⟨S1x1x5632, .f32⟩
  | 4 => ⟨S16x256x5632, .f32⟩
  | 5 => ⟨S16x256x5632, .f32⟩
  | 6 => ⟨S_, .f32⟩
  | 7 => ⟨S16x256x5632, .f32⟩
  | 8 => ⟨S16x256x5632, .f32⟩
  | 9 => ⟨S16x256x5632, .f32⟩
  | 10 => ⟨S1x5632, .f32⟩
  | 11 => ⟨S5632, .f32⟩
  | 12 => ⟨S1x1x5632, .f32⟩
  | 13 => ⟨S16x256x5632, .f32⟩
  | 14 => ⟨S16x256x5632, .f32⟩
  | 15 => ⟨S16x256x5632, .f32⟩
  | 16 => ⟨S16x256x5632, .f32⟩
  | 17 => ⟨S1x5632, .f32⟩
  | 18 => ⟨S5632, .f32⟩
  | 19 => ⟨S1x1x5632, .f32⟩
  | 20 => ⟨S16x256x5632, .f32⟩
  | 21 => ⟨S16x256x5632, .f32⟩
  | 22 => ⟨S16x256x5632, .f32⟩
  | 23 => ⟨S1x1x5632, .f32⟩
  | 24 => ⟨S16x256x5632, .f32⟩
  | 25 => ⟨S16x256x5632, .f32⟩
  | 26 => ⟨S16x256x2816, .f32⟩
  | 27 => ⟨S16x256x2816, .f32⟩
  | 28 => ⟨S16x256x2816, .f32⟩
  | 29 => ⟨S16x256x2816, .f32⟩
  | 30 => ⟨S_, .f32⟩
  | 31 => ⟨S16x256x2816, .f32⟩
  | 32 => ⟨S16x256x2816, .f32⟩
  | 33 => ⟨S_, .f32⟩
  | 34 => ⟨S16x256x2816, .f32⟩
  | 35 => ⟨S16x256x2816, .f32⟩
  | 36 => ⟨S16x256x2816, .f32⟩
  | 37 => ⟨S16x256x2816, .f32⟩
  | 38 => ⟨S16x256x1024, .f32⟩
  | 39 => ⟨S_, .f32⟩
  | 40 => ⟨S16x256x1024, .f32⟩
  | 41 => ⟨S16x256x1024, .f32⟩
  | 42 => ⟨S1x1x1024, .f32⟩
  | 43 => ⟨S16x256x1024, .f32⟩
  | 44 => ⟨S16x256x1024, .f32⟩
  | 45 => ⟨S16x256x1024, .f32⟩
  | 46 => ⟨S_, .f32⟩
  | 47 => ⟨S16x256, .f32⟩
  | 48 => ⟨S16x256x1, .f32⟩
  | 49 => ⟨S_, .f32⟩
  | 50 => ⟨S16x256x1, .f32⟩
  | 51 => ⟨S16x256x1, .f32⟩
  | 52 => ⟨S16x256x1024, .f32⟩
  | 53 => ⟨S16x256x1024, .f32⟩
  | 54 => ⟨S16x256x1024, .f32⟩
  | 55 => ⟨S_, .f32⟩
  | 56 => ⟨S16x256, .f32⟩
  | 57 => ⟨S16x256x1, .f32⟩
  | 58 => ⟨S_, .f32⟩
  | 59 => ⟨S16x256x1, .f32⟩
  | 60 => ⟨S16x256x1, .f32⟩
  | 61 => ⟨S16x256x1024, .f32⟩
  | 62 => ⟨S16x256x1024, .f32⟩
  | 63 => ⟨S_, .f32⟩
  | 64 => ⟨S16x256x1, .f32⟩
  | 65 => ⟨S16x256x1, .f32⟩
  | 66 => ⟨S16x256x1, .f32⟩
  | 67 => ⟨S16x256x1024, .f32⟩
  | 68 => ⟨S16x256x1024, .f32⟩
  | 69 => ⟨S1x1x1024, .f32⟩
  | 70 => ⟨S16x256x1024, .f32⟩
  | 71 => ⟨S16x256x1024, .f32⟩
  | 72 => ⟨S1x1x1024, .f32⟩
  | 73 => ⟨S16x256x1024, .f32⟩
  | 74 => ⟨S16x256x1024, .f32⟩
  | 75 => ⟨S16x2304x1024, .f32⟩
  | _ => ⟨S16x2304x384, .f32⟩

abbrev hbmTy (i : Nat) : BufTy := match i / 128 with
  | 0 => hbmTy0_0 i
  | 1 => hbmTy0_1 i
  | 2 => hbmTy0_2 i
  | _ => ⟨S16x2304x384, .f32⟩

abbrev bufTy : (tb : Table) → Fin (tcTables nBuf tb) → BufTy
  | .hbm, ⟨i, _⟩ => hbmTy i
  | _, _ => ⟨S16x2304x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c : Ref sig .tc := ⟨.hbm, 94, rfl⟩
abbrev main_call0_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_11 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_call1_v0 : Ref sig .tc := ⟨.hbm, 125, rfl⟩
abbrev main_call1_v1 : Ref sig .tc := ⟨.hbm, 126, rfl⟩
abbrev main_call1_cst : Ref sig .tc := ⟨.hbm, 127, rfl⟩
abbrev main_call1_v2 : Ref sig .tc := ⟨.hbm, 128, rfl⟩
abbrev main_call1_v3 : Ref sig .tc := ⟨.hbm, 129, rfl⟩
abbrev main_call1_cst_0 : Ref sig .tc := ⟨.hbm, 130, rfl⟩
abbrev main_call1_v4 : Ref sig .tc := ⟨.hbm, 131, rfl⟩
abbrev main_call1_v5 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_12 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_13 : Ref sig .tc := ⟨.hbm, 142, rfl⟩
abbrev main_v103 : Ref sig .tc := ⟨.hbm, 143, rfl⟩
abbrev main_v104 : Ref sig .tc := ⟨.hbm, 144, rfl⟩
abbrev main_cst_14 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_15 : Ref sig .tc := ⟨.hbm, 151, rfl⟩
abbrev main_v110 : Ref sig .tc := ⟨.hbm, 152, rfl⟩
abbrev main_v111 : Ref sig .tc := ⟨.hbm, 153, rfl⟩
abbrev main_cst_16 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_17 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_cst_18 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_cst_19 : Ref sig .tc := ⟨.hbm, 191, rfl⟩
abbrev main_v146 : Ref sig .tc := ⟨.hbm, 192, rfl⟩
abbrev main_v147 : Ref sig .tc := ⟨.hbm, 193, rfl⟩
abbrev main_cst_20 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_cst_21 : Ref sig .tc := ⟨.hbm, 200, rfl⟩
abbrev main_v153 : Ref sig .tc := ⟨.hbm, 201, rfl⟩
abbrev main_v154 : Ref sig .tc := ⟨.hbm, 202, rfl⟩
abbrev main_cst_22 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_cst_23 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_cst_24 : Ref sig .tc := ⟨.hbm, 220, rfl⟩
abbrev main_v170 : Ref sig .tc := ⟨.hbm, 221, rfl⟩
abbrev main_v171 : Ref sig .tc := ⟨.hbm, 222, rfl⟩
abbrev main_cst_25 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_cst_26 : Ref sig .tc := ⟨.hbm, 229, rfl⟩
abbrev main_v177 : Ref sig .tc := ⟨.hbm, 230, rfl⟩
abbrev main_v178 : Ref sig .tc := ⟨.hbm, 231, rfl⟩
abbrev main_cst_27 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_cst_28 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_cst_29 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_c_30 : Ref sig .tc := ⟨.hbm, 253, rfl⟩
abbrev main_call2_v0 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_cst_31 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_call3_v0 : Ref sig .tc := ⟨.hbm, 284, rfl⟩
abbrev main_call3_v1 : Ref sig .tc := ⟨.hbm, 285, rfl⟩
abbrev main_call3_cst : Ref sig .tc := ⟨.hbm, 286, rfl⟩
abbrev main_call3_v2 : Ref sig .tc := ⟨.hbm, 287, rfl⟩
abbrev main_call3_v3 : Ref sig .tc := ⟨.hbm, 288, rfl⟩
abbrev main_call3_cst_0 : Ref sig .tc := ⟨.hbm, 289, rfl⟩
abbrev main_call3_v4 : Ref sig .tc := ⟨.hbm, 290, rfl⟩
abbrev main_call3_v5 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_cst_32 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_cst_33 : Ref sig .tc := ⟨.hbm, 302, rfl⟩
abbrev main_v234 : Ref sig .tc := ⟨.hbm, 303, rfl⟩
abbrev main_v235 : Ref sig .tc := ⟨.hbm, 304, rfl⟩
abbrev main_cst_34 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_cst_35 : Ref sig .tc := ⟨.hbm, 311, rfl⟩
abbrev main_v241 : Ref sig .tc := ⟨.hbm, 312, rfl⟩
abbrev main_v242 : Ref sig .tc := ⟨.hbm, 313, rfl⟩
abbrev main_cst_36 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_cst_37 : Ref sig .tc := ⟨.hbm, 319, rfl⟩
abbrev main_v247 : Ref sig .tc := ⟨.hbm, 320, rfl⟩
abbrev main_v248 : Ref sig .tc := ⟨.hbm, 321, rfl⟩
abbrev main_v249 : Ref sig .tc := ⟨.hbm, 322, rfl⟩
abbrev main_v250 : Ref sig .tc := ⟨.hbm, 323, rfl⟩
abbrev main_v251 : Ref sig .tc := ⟨.hbm, 324, rfl⟩
abbrev main_v252 : Ref sig .tc := ⟨.hbm, 325, rfl⟩
abbrev main_v253 : Ref sig .tc := ⟨.hbm, 326, rfl⟩
abbrev main_v254 : Ref sig .tc := ⟨.hbm, 327, rfl⟩
abbrev main_v255 : Ref sig .tc := ⟨.hbm, 328, rfl⟩
abbrev main_v256 : Ref sig .tc := ⟨.hbm, 329, rfl⟩
abbrev main_v257 : Ref sig .tc := ⟨.hbm, 330, rfl⟩
abbrev main_v258 : Ref sig .tc := ⟨.hbm, 331, rfl⟩

abbrev nD : Nat := 1
abbrev τ : Topo := Topo.v7x

variable {F : FTy → Type} [FloatOps F]
-- ==== Kernel4.lean ====
abbrev S16x2304x1024 : Shape := ⟨3, ![16, 2304, 1024]⟩
abbrev S16x6x1024 : Shape := ⟨3, ![16, 6, 1024]⟩
abbrev S6x1024 : Shape := ⟨2, ![6, 1024]⟩
abbrev S1024x3072 : Shape := ⟨2, ![1024, 3072]⟩
abbrev S1x6x1024 : Shape := ⟨3, ![1, 6, 1024]⟩
abbrev S16x1x6x1024 : Shape := ⟨4, ![16, 1, 6, 1024]⟩
abbrev S16x2x6x1024 : Shape := ⟨4, ![16, 2, 6, 1024]⟩
abbrev S_ : Shape := ⟨0, ![]⟩
abbrev S16x2x8x1024 : Shape := ⟨4, ![16, 2, 8, 1024]⟩
abbrev S1024x384 : Shape := ⟨2, ![1024, 384]⟩
abbrev S1024x768 : Shape := ⟨2, ![1024, 768]⟩
abbrev S1024x64 : Shape := ⟨2, ![1024, 64]⟩
abbrev S1024x1024 : Shape := ⟨2, ![1024, 1024]⟩
abbrev S1024x512 : Shape := ⟨2, ![1024, 512]⟩
abbrev S16x2304x1152 : Shape := ⟨3, ![16, 2304, 1152]⟩
abbrev S16x2304x640 : Shape := ⟨3, ![16, 2304, 640]⟩
abbrev S16x2304x1280 : Shape := ⟨3, ![16, 2304, 1280]⟩
abbrev S1x768x1024 : Shape := ⟨3, ![1, 768, 1024]⟩
abbrev S1x2x8x1024 : Shape := ⟨4, ![1, 2, 8, 1024]⟩
abbrev S1x768x1152 : Shape := ⟨3, ![1, 768, 1152]⟩
abbrev S1x768x640 : Shape := ⟨3, ![1, 768, 640]⟩
abbrev S1x768x1280 : Shape := ⟨3, ![1, 768, 1280]⟩
abbrev S1x1x8x1024 : Shape := ⟨4, ![1, 1, 8, 1024]⟩
abbrev S8x1024 : Shape := ⟨2, ![8, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S256x3072 : Shape := ⟨2, ![256, 3072]⟩
abbrev S256x1152 : Shape := ⟨2, ![256, 1152]⟩
abbrev S1x256x1152 : Shape := ⟨3, ![1, 256, 1152]⟩
abbrev S256x640 : Shape := ⟨2, ![256, 640]⟩
abbrev S1x256x640 : Shape := ⟨3, ![1, 256, 640]⟩
abbrev S256x1280 : Shape := ⟨2, ![256, 1280]⟩
abbrev S1x256x1280 : Shape := ⟨3, ![1, 256, 1280]⟩

abbrev nBuf : Space → Nat
  | .hbm => 27
  | .vmem => 11
  | .smem => 0
  | _ => 0

abbrev bufTy : (tb : Table) → Fin (tcTables nBuf tb) → BufTy
  | .hbm, ⟨0, _⟩ => ⟨S16x2304x1024, .f32⟩
  | .hbm, ⟨1, _⟩ => ⟨S16x6x1024, .f32⟩
  | .hbm, ⟨2, _⟩ => ⟨S6x1024, .f32⟩
  | .hbm, ⟨3, _⟩ => ⟨S1024x3072, .f32⟩
  | .hbm, ⟨4, _⟩ => ⟨S1x6x1024, .f32⟩
  | .hbm, ⟨5, _⟩ => ⟨S16x6x1024, .f32⟩
  | .hbm, ⟨6, _⟩ => ⟨S16x1x6x1024, .f32⟩
  | .hbm, ⟨7, _⟩ => ⟨S16x1x6x1024, .f32⟩
  | .hbm, ⟨8, _⟩ => ⟨S16x2x6x1024, .f32⟩
  | .hbm, ⟨9, _⟩ => ⟨S_, .i32⟩
  | .hbm, ⟨10, _⟩ => ⟨S_, .f32⟩
  | .hbm, ⟨11, _⟩ => ⟨S16x2x8x1024, .f32⟩
  | .hbm, ⟨12, _⟩ => ⟨S1024x384, .f32⟩
  | .hbm, ⟨13, _⟩ => ⟨S1024x768, .f32⟩
  | .hbm, ⟨14, _⟩ => ⟨S1024x64, .f32⟩
  | .hbm, ⟨15, _⟩ => ⟨S1024x64, .f32⟩
  | .hbm, ⟨16, _⟩ => ⟨S1024x64, .f32⟩
  | .hbm, ⟨17, _⟩ => ⟨S1024x64, .f32⟩
  | .hbm, ⟨18, _⟩ => ⟨S1024x64, .f32⟩
  | .hbm, ⟨19, _⟩ => ⟨S1024x64, .f32⟩
  | .hbm, ⟨20, _⟩ => ⟨S1024x1024, .f32⟩
  | .hbm, ⟨21, _⟩ => ⟨S1024x512, .f32⟩
  | .hbm, ⟨22, _⟩ => ⟨S1024x3072, .f32⟩
  | .hbm, ⟨23, _⟩ => ⟨S1024x3072, .bf16⟩
  | .hbm, ⟨24, _⟩ => ⟨S16x2304x1152, .bf16⟩
  | .hbm, ⟨25, _⟩ => ⟨S16x2304x640, .bf16⟩
  | .hbm, ⟨26, _⟩ => ⟨S16x2304x1280, .f32⟩
  | .local _ .vmem, ⟨0, _⟩ => ⟨S1x768x1024, .f32⟩
  | .local _ .vmem, ⟨1, _⟩ => ⟨S1x768x1024, .f32⟩
  | .local _ .vmem, ⟨2, _⟩ => ⟨S1x2x8x1024, .f32⟩
  | .local _ .vmem, ⟨3, _⟩ => ⟨S1x2x8x1024, .f32⟩
  | .local _ .vmem, ⟨4, _⟩ => ⟨S1024x3072, .bf16⟩
  | .local _ .vmem, ⟨5, _⟩ => ⟨S1x768x1152, .bf16⟩
  | .local _ .vmem, ⟨6, _⟩ => ⟨S1x768x1152, .bf16⟩
  | .local _ .vmem, ⟨7, _⟩ => ⟨S1x768x640, .bf16⟩
  | .local _ .vmem, ⟨8, _⟩ => ⟨S1x768x640, .bf16⟩
  | .local _ .vmem, ⟨9, _⟩ => ⟨S1x768x1280, .f32⟩
  | .local _ .vmem, ⟨10, _⟩ => ⟨S1x768x1280, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v18_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x768x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x768x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x768x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S16x2304x1024 : Shape := ⟨3, ![16, 2304, 1024]⟩
abbrev S16x6x1024 : Shape := ⟨3, ![16, 6, 1024]⟩
abbrev S6x1024 : Shape := ⟨2, ![6, 1024]⟩
abbrev S1024x3072 : Shape := ⟨2, ![1024, 3072]⟩
abbrev S16x1x6144 : Shape := ⟨3, ![16, 1, 6144]⟩
abbrev S16x1x1024 : Shape := ⟨3, ![16, 1, 1024]⟩
abbrev S6144 : Shape := ⟨1, ![6144]⟩
abbrev S1024 : Shape := ⟨1, ![1024]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S16x256x1024 : Shape := ⟨3, ![16, 256, 1024]⟩
abbrev S16x256 : Shape := ⟨2, ![16, 256]⟩
abbrev S16x256x1 : Shape := ⟨3, ![16, 256, 1]⟩
abbrev S1x1x1024 : Shape := ⟨3, ![1, 1, 1024]⟩
abbrev S16x256x3072 : Shape := ⟨3, ![16, 256, 3072]⟩
abbrev S16x2048x3072 : Shape := ⟨3, ![16, 2048, 3072]⟩
abbrev S16x2304x3072 : Shape := ⟨3, ![16, 2304, 3072]⟩
abbrev S16x2304x384 : Shape := ⟨3, ![16, 2304, 384]⟩
abbrev S16x2304x128 : Shape := ⟨3, ![16, 2304, 128]⟩
abbrev S16x2304x256 : Shape := ⟨3, ![16, 2304, 256]⟩
abbrev S16x2304x2x3x64 : Shape := ⟨5, ![16, 2304, 2, 3, 64]⟩
abbrev S16x2304x3x2x64 : Shape := ⟨5, ![16, 2304, 3, 2, 64]⟩
abbrev S16x2304x1152 : Shape := ⟨3, ![16, 2304, 1152]⟩
abbrev S16x2304x640 : Shape := ⟨3, ![16, 2304, 640]⟩
abbrev S16x2304x1280 : Shape := ⟨3, ![16, 2304, 1280]⟩

abbrev nBuf : Space → Nat
  | .hbm => 104
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S16x6x1024, .f32⟩
  | .hbm, ⟨2, _⟩ => ⟨S6x1024, .f32⟩
  | .hbm, ⟨3, _⟩ => ⟨S1024x3072, .f32⟩
  | .hbm, ⟨4, _⟩ => ⟨S16x1x6144, .f32⟩
  | .hbm, ⟨5, _⟩ => ⟨S16x1x1024, .f32⟩
  | .hbm, ⟨6, _⟩ => ⟨S16x1x1024, .f32⟩
  | .hbm, ⟨7, _⟩ => ⟨S16x1x1024, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S6144, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S16x2048x1024, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S16x2048x1024, .f32⟩
  | .hbm, ⟨35, _⟩ => ⟨S16x2048x1024, .f32⟩
  | .hbm, ⟨36, _⟩ => ⟨S_, .f32⟩
  | .hbm, ⟨37, _⟩ => ⟨S16x2048x1, .f32⟩
  | .hbm, ⟨38, _⟩ => ⟨S16x2048x1, .f32⟩
  | .hbm, ⟨39, _⟩ => ⟨S16x2048x1, .f32⟩
  | .hbm, ⟨40, _⟩ => ⟨S16x2048x1024, .f32⟩
  | .hbm, ⟨41, _⟩ => ⟨S16x2048x1024, .f32⟩
  | .hbm, ⟨42, _⟩ => ⟨S_, .f32⟩
  | .hbm, ⟨43, _⟩ => ⟨S16x1x1024, .f32⟩
  | .hbm, ⟨44, _⟩ => ⟨S16x1x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S16x256x1024, .f32⟩
  | .hbm, ⟨50, _⟩ => ⟨S_, .f32⟩
  | .hbm, ⟨51, _⟩ => ⟨S16x256, .f32⟩
  | .hbm, ⟨52, _⟩ => ⟨S16x256x1, .f32⟩
  | .hbm, ⟨53, _⟩ => ⟨S_, .f32⟩
  | .hbm, ⟨54, _⟩ => ⟨S16x256x1, .f32⟩
  | .hbm, ⟨55, _⟩ => ⟨S16x256x1, .f32⟩
  | .hbm, ⟨56, _⟩ => ⟨S16x256x1024, .f32⟩
  | .hbm, ⟨57, _⟩ => ⟨S16x256x1024, .f32⟩
  | .hbm, ⟨58, _⟩ => ⟨S16x256x1024, .f32⟩
  | .hbm, ⟨59, _⟩ => ⟨S_, .f32⟩
  | .hbm, ⟨60, _⟩ => ⟨S16x256, .f32⟩
  | .hbm, ⟨61, _⟩ => ⟨S16x256x1, .f32⟩
  | .hbm, ⟨62, _⟩ => ⟨S_, .f32⟩
  | .hbm, ⟨63, _⟩ => ⟨S16x256x1, .f32⟩
  | .hbm, ⟨64, _⟩ => ⟨S16x256x1, .f32⟩
  | .hbm, ⟨65, _⟩ => ⟨S16x256x1024, .f32⟩
  | .hbm, ⟨66, _⟩ => ⟨S16x256x1024, .f32⟩
  | .hbm, ⟨67, _⟩ => ⟨S_, .f32⟩
  | .hbm, ⟨68, _⟩ => ⟨S16x256x1, .f32⟩
  | .hbm, ⟨69, _⟩ => ⟨S16x256x1, .f32⟩
  | .hbm, ⟨70, _⟩ => ⟨S16x256x1, .f32⟩
  | .hbm, ⟨71, _⟩ => ⟨S16x256x1024, .f32⟩
  | .hbm, ⟨72, _⟩ => ⟨S16x256x1024, .f32⟩
  | .hbm, ⟨73, _⟩ => ⟨S_, .f32⟩
  | .hbm, ⟨74, _⟩ => ⟨S1024, .f32⟩
  | .hbm, ⟨75, _⟩ => ⟨S1024, .f32⟩
  | .hbm, ⟨76, _⟩ => ⟨S1x1x1024, .f32⟩
  | .hbm, ⟨77, _⟩ => ⟨S16x256x1024, .f32⟩
  | .hbm, ⟨78, _⟩ => ⟨S16x256x1024, .f32⟩
  | .hbm, ⟨79, _⟩ => ⟨S1x1x1024, .f32⟩
  | .hbm, ⟨80, _⟩ => ⟨S16x256x1024, .f32⟩
  | .hbm, ⟨81, _⟩ => ⟨S16x256x1024, .f32⟩
  | .hbm, ⟨82, _⟩ => ⟨S16x256x3072, .f32⟩
  | .hbm, ⟨83, _⟩ => ⟨S16x2048x3072, .f32⟩
  | .hbm, ⟨84, _⟩ => ⟨S16x2304x3072, .f32⟩
  | .hbm, ⟨85, _⟩ => ⟨S16x2304x384, .f32⟩
  | .hbm, ⟨86, _⟩ => ⟨S16x2304x384, .f32⟩
  | .hbm, ⟨87, _⟩ => ⟨S16x2304x128, .f32⟩
  | .hbm, ⟨88, _⟩ => ⟨S16x2304x128, .f32⟩
  | .hbm, ⟨89, _⟩ => ⟨S16x2304x256, .f32⟩
  | .hbm, ⟨90, _⟩ => ⟨S16x2304x256, .f32⟩
  | .hbm, ⟨91, _⟩ => ⟨S16x2304x256, .f32⟩
  | .hbm, ⟨92, _⟩ => ⟨S16x2304x384, .f32⟩
  | .hbm, ⟨93, _⟩ => ⟨S16x2304x384, .f32⟩
  | .hbm, ⟨94, _⟩ => ⟨S16x2304x256, .f32⟩
  | .hbm, ⟨95, _⟩ => ⟨S16x2304x256, .f32⟩
  | .hbm, ⟨96, _⟩ => ⟨S16x2304x2x3x64, .f32⟩
  | .hbm, ⟨97, _⟩ => ⟨S16x2304x3x2x64, .f32⟩
  | .hbm, ⟨98, _⟩ => ⟨S16x2304x384, .f32⟩
  | .hbm, ⟨99, _⟩ => ⟨S16x2304x1152, .f32⟩
  | .hbm, ⟨100, _⟩ => ⟨S16x2304x1152, .bf16⟩
  | .hbm, ⟨101, _⟩ => ⟨S16x2304x640, .f32⟩
  | .hbm, ⟨102, _⟩ => ⟨S16x2304x640, .bf16⟩
  | .hbm, ⟨103, _⟩ => ⟨S16x2304x1280, .f32⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩

abbrev nD : Nat := 1
abbrev τ : Topo := Topo.v7x

variable {F : FTy → Type} [FloatOps F]
-- ==== Kernel5.lean ====
abbrev S16x1024 : Shape := ⟨2, ![16, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S7x1024 : Shape := ⟨2, ![7, 1024]⟩
abbrev S24x1024 : Shape := ⟨2, ![24, 1024]⟩
abbrev S4x1x6144 : Shape := ⟨3, ![4, 1, 6144]⟩
abbrev S4x24x6144 : Shape := ⟨3, ![4, 24, 6144]⟩
abbrev S1x1024x1536 : Shape := ⟨3, ![1, 1024, 1536]⟩
abbrev S1x1x1536 : Shape := ⟨3, ![1, 1, 1536]⟩
abbrev S1x24x1536 : Shape := ⟨3, ![1, 24, 1536]⟩
abbrev S1024x1536 : Shape := ⟨2, ![1024, 1536]⟩
abbrev S24x1536 : Shape := ⟨2, ![24, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S24x1024, .f32⟩
  | .hbm, ⟨8, _⟩ => ⟨S4x1x6144, .f32⟩
  | .hbm, ⟨9, _⟩ => ⟨S4x24x6144, .f32⟩
  | .local _ .vmem, ⟨0, _⟩ => ⟨S24x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x24x1536, .f32⟩
  | .local _ .vmem, ⟨6, _⟩ => ⟨S1x24x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16x1024 : Shape := ⟨2, ![16, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S1x6144 : Shape := ⟨2, ![1, 6144]⟩
abbrev S6144 : Shape := ⟨1, ![6144]⟩
abbrev S7x6144 : Shape := ⟨2, ![7, 6144]⟩
abbrev S1x1024x6144 : Shape := ⟨3, ![1, 1024, 6144]⟩
abbrev S1024x6144 : Shape := ⟨2, ![1024, 6144]⟩
abbrev S16x6144 : Shape := ⟨2, ![16, 6144]⟩
abbrev S24x6144 : Shape := ⟨2, ![24, 6144]⟩
abbrev S1x24x6144 : Shape := ⟨3, ![1, 24, 6144]⟩
abbrev S4x24x6144 : Shape := ⟨3, ![4, 24, 6144]⟩

abbrev nBuf : Space → Nat
  | .hbm => 103
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x6144, .f32⟩
  | .hbm, ⟨23, _⟩ => ⟨S6144, .f32⟩
  | .hbm, ⟨24, _⟩ => ⟨S7x6144, .f32⟩
  | .hbm, ⟨25, _⟩ => ⟨S1x1024x6144, .f32⟩
  | .hbm, ⟨26, _⟩ => ⟨S1024x6144, .f32⟩
  | .hbm, ⟨27, _⟩ => ⟨S16x6144, .f32⟩
  | .hbm, ⟨28, _⟩ => ⟨S1x6144, .f32⟩
  | .hbm, ⟨29, _⟩ => ⟨S6144, .f32⟩
  | .hbm, ⟨30, _⟩ => ⟨S1x6144, .f32⟩
  | .hbm, ⟨31, _⟩ => ⟨S16x6144, .f32⟩
  | .hbm, ⟨32, _⟩ => ⟨S16x6144, .f32⟩
  | .hbm, ⟨33, _⟩ => ⟨S1x1024x6144, .f32⟩
  | .hbm, ⟨34, _⟩ => ⟨S1024x6144, .f32⟩
  | .hbm, ⟨35, _⟩ => ⟨S6144, .f32⟩
  | .hbm, ⟨36, _⟩ => ⟨S1x6144, .f32⟩
  | .hbm, ⟨37, _⟩ => ⟨S6144, .f32⟩
  | .hbm, ⟨38, _⟩ => ⟨S6144, .f32⟩
  | .hbm, ⟨39, _⟩ => ⟨S1x6144, .f32⟩
  | .hbm, ⟨40, _⟩ => ⟨S24x6144, .f32⟩
  | .hbm, ⟨41, _⟩ => ⟨S1x6144, .f32⟩
  | .hbm, ⟨42, _⟩ => ⟨S6144, .f32⟩
  | .hbm, ⟨43, _⟩ => ⟨S7x6144, .f32⟩
  | .hbm, ⟨44, _⟩ => ⟨S1x1024x6144, .f32⟩
  | .hbm, ⟨45, _⟩ => ⟨S1024x6144, .f32⟩
  | .hbm, ⟨46, _⟩ => ⟨S16x6144, .f32⟩
  | .hbm, ⟨47, _⟩ => ⟨S1x6144, .f32⟩
  | .hbm, ⟨48, _⟩ => ⟨S6144, .f32⟩
  | .hbm, ⟨49, _⟩ => ⟨S1x6144, .f32⟩
  | .hbm, ⟨50, _⟩ => ⟨S16x6144, .f32⟩
  | .hbm, ⟨51, _⟩ => ⟨S16x6144, .f32⟩
  | .hbm, ⟨52, _⟩ => ⟨S1x1024x6144, .f32⟩
  | .hbm, ⟨53, _⟩ => ⟨S1024x6144, .f32⟩
  | .hbm, ⟨54, _⟩ => ⟨S6144, .f32⟩
  | .hbm, ⟨55, _⟩ => ⟨S1x6144, .f32⟩
  | .hbm, ⟨56, _⟩ => ⟨S6144, .f32⟩
  | .hbm, ⟨57, _⟩ => ⟨S6144, .f32⟩
  | .hbm, ⟨58, _⟩ => ⟨S1x6144, .f32⟩
  | .hbm, ⟨59, _⟩ => ⟨S24x6144, .f32⟩
  | .hbm, ⟨60, _⟩ => ⟨S1x6144, .f32⟩
  | .hbm, ⟨61, _⟩ => ⟨S6144, .f32⟩
  | .hbm, ⟨62, _⟩ => ⟨S7x6144, .f32⟩
  | .hbm, ⟨63, _⟩ => ⟨S1x1024x6144, .f32⟩
  | .hbm, ⟨64, _⟩ => ⟨S1024x6144, .f32⟩
  | .hbm, ⟨65, _⟩ => ⟨S16x6144, .f32⟩
  | .hbm, ⟨66, _⟩ => ⟨S1x6144, .f32⟩
  | .hbm, ⟨67, _⟩ => ⟨S6144, .f32⟩
  | .hbm, ⟨68, _⟩ => ⟨S1x6144, .f32⟩
  | .hbm, ⟨69, _⟩ => ⟨S16x6144, .f32⟩
  | .hbm, ⟨70, _⟩ => ⟨S16x6144, .f32⟩
  | .hbm, ⟨71, _⟩ => ⟨S1x1024x6144, .f32⟩
  | .hbm, ⟨72, _⟩ => ⟨S1024x6144, .f32⟩
  | .hbm, ⟨73, _⟩ => ⟨S6144, .f32⟩
  | .hbm, ⟨74, _⟩ => ⟨S1x6144, .f32⟩
  | .hbm, ⟨75, _⟩ => ⟨S6144, .f32⟩
  | .hbm, ⟨76, _⟩ => ⟨S6144, .f32⟩
  | .hbm, ⟨77, _⟩ => ⟨S1x6144, .f32⟩
  | .hbm, ⟨78, _⟩ => ⟨S24x6144, .f32⟩
  | .hbm, ⟨79, _⟩ => ⟨S1x6144, .f32⟩
  | .hbm, ⟨80, _⟩ => ⟨S6144, .f32⟩
  | .hbm, ⟨81, _⟩ => ⟨S7x6144, .f32⟩
  | .hbm, ⟨82, _⟩ => ⟨S1x1024x6144, .f32⟩
  | .hbm, ⟨83, _⟩ => ⟨S1024x6144, .f32⟩
  | .hbm, ⟨84, _⟩ => ⟨S16x6144, .f32⟩
  | .hbm, ⟨85, _⟩ => ⟨S1x6144, .f32⟩
  | .hbm, ⟨86, _⟩ => ⟨S6144, .f32⟩
  | .hbm, ⟨87, _⟩ => ⟨S1x6144, .f32⟩
  | .hbm, ⟨88, _⟩ => ⟨S16x6144, .f32⟩
  | .hbm, ⟨89, _⟩ => ⟨S16x6144, .f32⟩
  | .hbm, ⟨90, _⟩ => ⟨S1x1024x6144, .f32⟩
  | .hbm, ⟨91, _⟩ => ⟨S1024x6144, .f32⟩
  | .hbm, ⟨92, _⟩ => ⟨S6144, .f32⟩
  | .hbm, ⟨93, _⟩ => ⟨S1x6144, .f32⟩
  | .hbm, ⟨94, _⟩ => ⟨S6144, .f32⟩
  | .hbm, ⟨95, _⟩ => ⟨S6144, .f32⟩
  | .hbm, ⟨96, _⟩ => ⟨S1x6144, .f32⟩
  | .hbm, ⟨97, _⟩ => ⟨S24x6144, .f32⟩
  | .hbm, ⟨98, _⟩ => ⟨S1x24x6144, .f32⟩
  | .hbm, ⟨99, _⟩ => ⟨S1x24x6144, .f32⟩
  | .hbm, ⟨100, _⟩ => ⟨S1x24x6144, .f32⟩
  | .hbm, ⟨101, _⟩ => ⟨S1x24x6144, .f32⟩
  | .hbm, ⟨102, _⟩ => ⟨S4x24x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩

abbrev nD : Nat := 1
abbrev τ : Topo := Topo.v7x

variable {F : FTy → Type} [FloatOps F]
-- ==== Kernel6.lean ====
abbrev S4x2x256 : Shape := ⟨3, ![4, 2, 256]⟩
abbrev S4x512 : Shape := ⟨2, ![4, 512]⟩
abbrev S512 : Shape := ⟨1, ![512]⟩
abbrev S1x512 : Shape := ⟨2, ![1, 512]⟩

abbrev nBuf : Space → Nat
  | .hbm => 3
  | .vmem => 2
  | .smem => 0
  | _ => 0

abbrev bufTy : (tb : Table) → Fin (tcTables nBuf tb) → BufTy
  | .hbm, ⟨0, _⟩ => ⟨S4x2x256, .f32⟩
  | .hbm, ⟨1, _⟩ => ⟨S4x512, .f32⟩
  | .hbm, ⟨2, _⟩ => ⟨S4x512, .f32⟩
  | .local _ .vmem, ⟨0, _⟩ => ⟨S4x512, .f32⟩
  | .local _ .vmem, ⟨1, _⟩ => ⟨S4x512, .f32⟩
  | _, _ => ⟨S4x2x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference6Ideal.lean ====
abbrev S4x2x256 : Shape := ⟨3, ![4, 2, 256]⟩
abbrev S_ : Shape := ⟨0, ![]⟩
abbrev S2x256 : Shape := ⟨2, ![2, 256]⟩
abbrev S1x2x256 : Shape := ⟨3, ![1, 2, 256]⟩
abbrev S4x512 : Shape := ⟨2, ![4, 512]⟩

abbrev nBuf : Space → Nat
  | .hbm => 24
  | .vmem => 0
  | .smem => 0
  | _ => 0

abbrev bufTy : (tb : Table) → Fin (tcTables nBuf tb) → BufTy
  | .hbm, ⟨0, _⟩ => ⟨S4x2x256, .f32⟩
  | .hbm, ⟨1, _⟩ => ⟨S_, .f32⟩
  | .hbm, ⟨2, _⟩ => ⟨S2x256, .f32⟩
  | .hbm, ⟨3, _⟩ => ⟨S_, .f32⟩
  | .hbm, ⟨4, _⟩ => ⟨S2x256, .f32⟩
  | .hbm, ⟨5, _⟩ => ⟨S2x256, .f32⟩
  | .hbm, ⟨6, _⟩ => ⟨S1x2x256, .f32⟩
  | .hbm, ⟨7, _⟩ => ⟨S4x2x256, .f32⟩
  | .hbm, ⟨8, _⟩ => ⟨S4x2x256, .f32⟩
  | .hbm, ⟨9, _⟩ => ⟨S4x2x256, .f32⟩
  | .hbm, ⟨10, _⟩ => ⟨S_, .f32⟩
  | .hbm, ⟨11, _⟩ => ⟨S2x256, .f32⟩
  | .hbm, ⟨12, _⟩ => ⟨S1x2x256, .f32⟩
  | .hbm, ⟨13, _⟩ => ⟨S4x2x256, .f32⟩
  | .hbm, ⟨14, _⟩ => ⟨S4x2x256, .f32⟩
  | .hbm, ⟨15, _⟩ => ⟨S_, .f32⟩
  | .hbm, ⟨16, _⟩ => ⟨S_, .f32⟩
  | .hbm, ⟨17, _⟩ => ⟨S4x2x256, .f32⟩
  | .hbm, ⟨18, _⟩ => ⟨S1x2x256, .f32⟩
  | .hbm, ⟨19, _⟩ => ⟨S2x256, .f32⟩
  | .hbm, ⟨20, _⟩ => ⟨S1x2x256, .f32⟩
  | .hbm, ⟨21, _⟩ => ⟨S4x2x256, .f32⟩
  | .hbm, ⟨22, _⟩ => ⟨S4x2x256, .f32⟩
  | .hbm, ⟨23, _⟩ => ⟨S4x512, .f32⟩
  | _, _ => ⟨S4x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Layer.lean ====
/-
  The arithmetic of one token that the layer's programs share, over the extended reals: the mean of a row of 1024
  channels, the row normalised, the normalised row with a scale and a shift.
-/
module

public import Idealize.ShloMosaic.Lib.Pointwise

@[expose] public section

set_option maxRecDepth 16384

noncomputable section

namespace Cert.Layer

open Idealize.ShloMosaic

/-- The mean of a row of 1024 channels. -/
def mean (f : Fin 1024 → EReal) : EReal := Ideal.div (∑ k, f k) (Ideal.ofBits .f32 0x44800000#32)

/-- The row with its mean taken off, over the square root of its variance (with 1e-6 added). -/
def rowNorm (f : Fin 1024 → EReal) (k : Fin 1024) : EReal :=
  (f k - mean f) * Ideal.rsqrt (mean (fun j => (f j - mean f) * (f j - mean f)) + Ideal.ofBits .f32 0x358637BD#32)

/-- The normalised row times one plus a scale, plus a shift. -/
def modRow (shift scale f : Fin 1024 → EReal) (k : Fin 1024) : EReal :=
  rowNorm f k * (1 + scale k) + shift k

/-- An index of a block of one batch is a row and a column. -/
theorem unit_idx {a b : ℕ} (y : (⟨3, ![1, a, b]⟩ : Shape).Idx) : ∃ (r : Fin a) (j : Fin b), y = ix3 (0 : Fin 1) r j := by
  refine ⟨y 1, y 2, (eq_ix3 y).trans ?_⟩
  have h : ∀ z : Fin 1, z = 0 := fun z => Subsingleton.elim _ _
  exact congrArg (fun z => ix3 (n0 := 1) (n1 := a) (n2 := b) z (y 1) (y 2)) (h (y 0))

end Cert.Layer

end
-- ==== Proof.FfnRow.lean ====
/-
  The output projection and the feed-forward block of one token, over the extended reals.
-/
module

public import proofs.«01_k».proof.Proof.Layer

@[expose] public section

set_option maxRecDepth 16384

noncomputable section

namespace Cert.Ffn

open Idealize.ShloMosaic Cert.Layer

/-- A row normalised, with a gain and an offset. -/
def normRow (g b f : Fin 1024 → EReal) (k : Fin 1024) : EReal := rowNorm f k * g k + b k

/-- The residual sum: the row scaled, plus the gate times the branch's row. -/
def residRow (gate x y : Fin 1024 → EReal) (k : Fin 1024) : EReal := Ideal.ofBits .f32 0x3FD744FD#32 * x k + gate k * y k

/-- A row times a matrix. -/
def mulRow {n p : ℕ} (w : Fin n → Fin p → EReal) (f : Fin n → EReal) (j : Fin p) : EReal := ∑ k, f k * w k j

/-- The convolution over three neighbouring tokens' rows, with its offset. -/
def convRow (cw : Fin 3 → Fin 5632 → EReal) (cb p c n : Fin 5632 → EReal) (j : Fin 5632) : EReal :=
  p j * cw 0 j + c j * cw 1 j + n j * cw 2 j + cb j

/-- The first half of the columns, through the sigmoid-weighted unit, times the second half. -/
def actRow (v : Fin 5632 → EReal) (j : Fin 2816) : EReal :=
  v ⟨j.val, by omega⟩ * Ideal.logistic (v ⟨j.val, by omega⟩) * v ⟨2816 + j.val, by omega⟩

/-- The weights of the output projection and of the feed-forward block. -/
structure Weights where
  /-- the output projection -/
  out : Fin 1024 → Fin 1024 → EReal
  /-- gain and offset of the first norm -/
  g1 : Fin 1024 → EReal
  b1 : Fin 1024 → EReal
  /-- the up-projection -/
  up : Fin 1024 → Fin 5632 → EReal
  /-- the convolution's taps and offset -/
  taps : Fin 3 → Fin 5632 → EReal
  offset : Fin 5632 → EReal
  /-- the down-projection -/
  down : Fin 2816 → Fin 1024 → EReal
  /-- gain and offset of the second norm -/
  g2 : Fin 1024 → EReal
  b2 : Fin 1024 → EReal

/-- A token after the mixers' output projection, the residual sum and the first norm. -/
def firstRow (W : Weights) (mods : Fin 6 → Fin 1024 → EReal) (x y : Fin 1024 → EReal) : Fin 1024 → EReal :=
  normRow W.g1 W.b1 (residRow (mods 2) x (mulRow W.out y))

/-- A token's hidden columns before the convolution. -/
def upRow (W : Weights) (mods : Fin 6 → Fin 1024 → EReal) (f : Fin 1024 → EReal) : Fin 5632 → EReal :=
  mulRow W.up (modRow (mods 3) (mods 4) f)

/-- A sequence's token after the output projection and the feed-forward block. -/
def layerRow (W : Weights) (mods : Fin 6 → Fin 1024 → EReal) {n : ℕ} (x y : Fin n → Fin 1024 → EReal) (r : Fin n) : Fin 1024 → EReal :=
  normRow W.g2 W.b2 (residRow (mods 5) (firstRow W mods (x r) (y r)) (mulRow W.down (actRow (convRow W.taps W.offset
    (if h : 0 < r.val then upRow W mods (firstRow W mods (x ⟨r.val - 1, by omega⟩) (y ⟨r.val - 1, by omega⟩)) else fun _ => 0)
    (upRow W mods (firstRow W mods (x r) (y r)))
    (if h : r.val + 1 < n then upRow W mods (firstRow W mods (x ⟨r.val + 1, h⟩) (y ⟨r.val + 1, h⟩)) else fun _ => 0)))))

end Cert.Ffn
-- ==== Proof.FfnTile.lean ====
/-
  One tile of 256 tokens of the call, and its eleven chunks of the hidden columns: the operations, named.
-/
module

public import proofs.«01_k».proof.Proof.Gen.Kernel2Ideal.Value
public import proofs.«01_k».proof.Proof.FfnRow
public import Idealize.ShloMosaic.Lib.Pipeline.ValueKit

@[expose] public section

set_option maxRecDepth 16384

noncomputable section

namespace Cert.Ffn

open Idealize.ShloMosaic Idealize.ShloMosaic.TcCoe Cert.Layer
open Cert.Kernel2Ideal Cert.Kernel2Ideal.Gen

/-- 256 columns of the up-projection's weights, from column `o`. -/
def upW (x : Vec Ideal S1024x5632 .bf16) (o : ℕ) (h : o + 256 ≤ 5632) : Vec Ideal S1024x256 .bf16 :=
  View.ld x (Rect.unit (s := S1024x5632) ![0, o] S1024x256.size (Fin.forall_fin_two.2 ⟨Nat.le_refl _, h⟩))

/-- 256 columns of tap `i` of the convolution, from column `o`. -/
def tap (x : Vec Ideal S3x5632 .f32) (i : ℕ) (o : ℕ) (hi : i + 1 ≤ 3) (h : o + 256 ≤ 5632) : Vec Ideal S1x256 .f32 :=
  View.ld x (Rect.unit (s := S3x5632) ![i, o] S1x256.size (Fin.forall_fin_two.2 ⟨hi, h⟩))

/-- 256 columns of the convolution's offset, from column `o`. -/
def offs (x : Vec Ideal S1x5632 .f32) (o : ℕ) (h : o + 256 ≤ 5632) : Vec Ideal S1x256 .f32 :=
  View.ld x (Rect.unit (s := S1x5632) ![0, o] S1x256.size (Fin.forall_fin_two.2 ⟨Nat.le_refl _, h⟩))

/-- 256 rows of the down-projection's weights, from row `o`. -/
def downW (x : Vec Ideal S2816x1024 .bf16) (o : ℕ) (h : o + 256 ≤ 2816) : Vec Ideal S256x1024 .bf16 :=
  View.ld x (Rect.unit (s := S2816x1024) ![o, 0] S256x1024.size (Fin.forall_fin_two.2 ⟨h, Nat.le_refl _⟩))

/-- The rows times 256 columns of the up-projection. -/
def up (H : FVec Ideal S272x1024 .bf16) (w : Vec Ideal S1024x256 .bf16) : FVec Ideal S272x256 .f32 :=
  matmul (φ₁ := .bf16) (φ₂ := .bf16) dot_S272x1024_S1024x256_S272x256_1_0_0_1_n_n none H (shapeCast S1024x256 w shapeCasts_S1024x256_S1024x256) (constant S272x256 .f32 0x00000000#32)

/-- The convolution of 256 columns, at the 256 rows inside the halo. -/
def conv (u : FVec Ideal S272x256 .f32) (a b c d : Vec Ideal S1x256 .f32) : FVec Ideal S256x256 .f32 :=
  addf (extractStridedSlice S256x256 ![8, 0]
      (addf (addf (mulf (dynamicRotate 0 1#32 none u rotates_S272x256_d0) (broadcastTo S272x256 a broadcasts_S1x256_S272x256))
          (mulf u (broadcastTo S272x256 b broadcasts_S1x256_S272x256)))
        (mulf (dynamicRotate 0 271#32 none u rotates_S272x256_d0) (broadcastTo S272x256 c broadcasts_S1x256_S272x256))) slices_S272x256_o8_0_S256x256)
    (broadcastTo S256x256 (shapeCast S1x256 d shapeCasts_S1x256_S1x256) broadcasts_S1x256_S256x256)

/-- The convolution of the columns from `o`. -/
def convAt (H : FVec Ideal S272x1024 .bf16) (x16 : Vec Ideal S1024x5632 .bf16) (x17 : Vec Ideal S3x5632 .f32) (x18 : Vec Ideal S1x5632 .f32)
    (o : ℕ) (h : o + 256 ≤ 5632) : FVec Ideal S256x256 .f32 :=
  conv (up H (upW x16 o h)) (tap x17 0 o (by decide) h) (tap x17 1 o (by decide) h) (tap x17 2 o (by decide) h) (offs x18 o h)

/-- A gate's columns and a value's columns through the unit, times their rows of the down-projection, added on. -/
def addChunk (acc : FVec Ideal S256x1024 .f32) (g v : FVec Ideal S256x256 .f32) (w : Vec Ideal S256x1024 .bf16) : FVec Ideal S256x1024 .f32 :=
  addf acc (matmul (φ₁ := .bf16) (φ₂ := .bf16) dot_S256x256_S256x1024_S256x1024_1_0_0_1_n_n none (truncf .bf16 (mulf (mulf g (logistic g)) v) bitsLt_bf16_f32)
    (shapeCast S256x1024 w shapeCasts_S256x1024_S256x1024) (constant S256x1024 .f32 0x00000000#32))

/-- The sum of the first `n` chunks. -/
def chunks (H : FVec Ideal S272x1024 .bf16) (x16 : Vec Ideal S1024x5632 .bf16) (x17 : Vec Ideal S3x5632 .f32) (x18 : Vec Ideal S1x5632 .f32)
    (x19 : Vec Ideal S2816x1024 .bf16) : (n : ℕ) → n ≤ 11 → FVec Ideal S256x1024 .f32
  | 0, _ => broadcast S256x1024 (Scalar.ofBits .f32 0x00000000#32)
  | n + 1, h => addChunk (chunks H x16 x17 x18 x19 n (by omega)) (convAt H x16 x17 x18 (256 * n) (by omega))
      (convAt H x16 x17 x18 (2816 + 256 * n) (by omega)) (downW x19 (256 * n) (by omega))

/-- The residual sum of the tile's rows. -/
def resid (x : FVec Ideal S256x1024 .f32) (gate : FVec Ideal S1x1024 .f32) (f : FVec Ideal S256x1024 .f32) : FVec Ideal S256x1024 .f32 :=
  addf (mulf (broadcast S256x1024 (Scalar.ofBits .f32 0x3FD744FD#32)) x) (mulf (broadcastTo S256x1024 gate broadcasts_S1x1024_S256x1024) f)

/-- The tile's rows less their means. -/
def centre256 (x : FVec Ideal S256x1024 .f32) : FVec Ideal S256x1024 .f32 :=
  subf x (broadcastTo S256x1024 (divf (shapeCast S256x1 (multiReduction .add [1] S256 x 0x00000000#32 reduces_S256x1024_S256 (.inl rfl) rfl) shapeCasts_S256_S256x1)
    (broadcast S256x1 (Scalar.ofBits .f32 0x44800000#32))) broadcasts_S256x1_S256x1024)

/-- What is stored of a tile, from the rows after the first norm, the gate and the hidden rows. -/
def stored (x : FVec Ideal S256x1024 .f32) (gate : FVec Ideal S1x1024 .f32) (f : FVec Ideal S256x1024 .f32) (g b : Vec Ideal S1x1024 .f32) : FVec Ideal S1x256x1024 .f32 :=
  k0_pay1 (centre256 (resid x gate f)) (multiReduction .add [1] S256 (mulf (centre256 (resid x gate f)) (centre256 (resid x gate f))) 0x00000000#32 reduces_S256x1024_S256 (.inl rfl) rfl) g b

/-- The mixers' rows side by side. -/
def tokens (pa : Vec Ideal S1x16x384 .bf16) (a : Vec Ideal S1x256x384 .bf16) (na pb : Vec Ideal S1x16x384 .bf16) (b : Vec Ideal S1x256x384 .bf16)
    (nb : Vec Ideal S1x16x384 .bf16) (pc : Vec Ideal S1x16x256 .bf16) (c : Vec Ideal S1x256x256 .bf16) (nc : Vec Ideal S1x16x256 .bf16) : FVec Ideal S288x1024 .bf16 :=
  concatenate S288x1024 1 [⟨S288x384, k0_pay3 pa a na⟩, ⟨S288x384, k0_pay3 pb b nb⟩,
    ⟨S288x256, concatenate S288x256 0 [⟨S16x256, shapeCast S16x256 pc shapeCasts_S1x16x256_S16x256⟩, ⟨S256x256, shapeCast S256x256 c shapeCasts_S1x256x256_S256x256⟩,
      ⟨S16x256, shapeCast S16x256 nc shapeCasts_S1x16x256_S16x256⟩] concatenates_S16x256_S256x256_S16x256_S288x256_d0⟩] concatenates_S288x384_S288x384_S288x256_S288x1024_d1

/-- The residual rows of two halos and a tile. -/
def residuals (p : Vec Ideal S1x8x1024 .f32) (x : Vec Ideal S1x256x1024 .f32) (n : Vec Ideal S1x8x1024 .f32) : FVec Ideal S272x1024 .f32 :=
  concatenate S272x1024 0 [⟨S8x1024, shapeCast S8x1024 p shapeCasts_S1x8x1024_S8x1024⟩, ⟨S256x1024, shapeCast S256x1024 x shapeCasts_S1x256x1024_S256x1024⟩,
    ⟨S8x1024, shapeCast S8x1024 n shapeCasts_S1x8x1024_S8x1024⟩] concatenates_S8x1024_S256x1024_S8x1024_S272x1024_d0

/-- The modulation vectors of a tile: the context's or the latents'. -/
def tileMods (tile : BitVec 32) (c l : Vec Ideal S1x1x8x1024 .f32) : FVec Ideal S8x1024 .f32 :=
  Scalar.select (Scalar.cmpi .eq tile 0#32) (shapeCast S8x1024 c shapeCasts_S1x1x8x1024_S8x1024) (shapeCast S8x1024 l shapeCasts_S1x1x8x1024_S8x1024)

/-- The first residual sum. -/
def branch (mods : FVec Ideal S8x1024 .f32) (tok : FVec Ideal S288x1024 .bf16) (w : Vec Ideal S1024x1024 .bf16) (xs : FVec Ideal S272x1024 .f32) : FVec Ideal S272x1024 .f32 :=
  addf (mulf (broadcast S272x1024 (Scalar.ofBits .f32 0x3FD744FD#32)) xs)
    (mulf (broadcastTo S272x1024 (extractStridedSlice S1x1024 ![2, 0] mods slices_S8x1024_o2_0_S1x1024) broadcasts_S1x1024_S272x1024)
      (extractStridedSlice S272x1024 ![8, 0] (matmul (φ₁ := .bf16) (φ₂ := .bf16) dot_S288x1024_S1024x1024_S288x1024_1_0_0_1_n_n none tok
        (shapeCast S1024x1024 w shapeCasts_S1024x1024_S1024x1024) (constant S288x1024 .f32 0x00000000#32)) slices_S288x1024_o8_0_S272x1024))

/-- The mean of every row, spread along it. -/
def mean272 (x : FVec Ideal S272x1024 .f32) : FVec Ideal S272x1 .f32 :=
  divf (shapeCast S272x1 (multiReduction .add [1] S272 x 0x00000000#32 reduces_S272x1024_S272 (.inl rfl) rfl) shapeCasts_S272_S272x1) (broadcast S272x1 (Scalar.ofBits .f32 0x44800000#32))

/-- The rows less their means. -/
def centre272 (x : FVec Ideal S272x1024 .f32) : FVec Ideal S272x1024 .f32 := subf x (broadcastTo S272x1024 (mean272 x) broadcasts_S272x1_S272x1024)

/-- The rows normalised. -/
def norm272 (x : FVec Ideal S272x1024 .f32) : FVec Ideal S272x1024 .f32 :=
  mulf (centre272 x) (broadcastTo S272x1024 (rsqrt (addf (mean272 (mulf (centre272 x) (centre272 x))) (broadcast S272x1 (Scalar.ofBits .f32 0x358637BD#32)))) broadcasts_S272x1_S272x1024)

/-- The rows normalised, with a gain and an offset. -/
def affine272 (x : FVec Ideal S272x1024 .f32) (g b : Vec Ideal S1x1024 .f32) : FVec Ideal S272x1024 .f32 :=
  addf (mulf (norm272 x) (broadcastTo S272x1024 (shapeCast S1x1024 g shapeCasts_S1x1024_S1x1024) broadcasts_S1x1024_S272x1024))
    (broadcastTo S272x1024 (shapeCast S1x1024 b shapeCasts_S1x1024_S1x1024) broadcasts_S1x1024_S272x1024)

/-- The rows that enter the feed-forward block. -/
def hidden (mods : FVec Ideal S8x1024 .f32) (x : FVec Ideal S272x1024 .f32) : FVec Ideal S272x1024 .f32 :=
  addf (mulf (norm272 x) (broadcastTo S272x1024 (addf (broadcast S1x1024 (Scalar.ofBits .f32 0x3F800000#32)) (extractStridedSlice S1x1024 ![4, 0] mods slices_S8x1024_o4_0_S1x1024)) broadcasts_S1x1024_S272x1024))
    (broadcastTo S272x1024 (extractStridedSlice S1x1024 ![3, 0] mods slices_S8x1024_o3_0_S1x1024) broadcasts_S1x1024_S272x1024)

/-- The same rows, zero where they lie outside the tile's own sequence. -/
def masked (tile : BitVec 32) (x : FVec Ideal S272x1024 .f32) : FVec Ideal S272x1024 .bf16 :=
  k0_pay12 x (k0_pay10 tile) k0_pay11 (Scalar.cmpi .sge tile 1#32) (Scalar.cmpi .slt tile 8#32)

/-- What is stored of a tile, from the rows after the first norm. -/
def finish (tile : BitVec 32) (mods : FVec Ideal S8x1024 .f32) (x : FVec Ideal S272x1024 .f32) (x16 : Vec Ideal S1024x5632 .bf16) (x17 : Vec Ideal S3x5632 .f32)
    (x18 : Vec Ideal S1x5632 .f32) (x19 : Vec Ideal S2816x1024 .bf16) (g b : Vec Ideal S1x1024 .f32) : FVec Ideal S1x256x1024 .f32 :=
  stored (extractStridedSlice S256x1024 ![8, 0] x slices_S272x1024_o8_0_S256x1024) (extractStridedSlice S1x1024 ![5, 0] mods slices_S8x1024_o5_0_S1x1024)
    (chunks (masked tile (hidden mods x)) x16 x17 x18 x19 11 (Nat.le_refl _)) g b

/-- The tile of a grid point: the context is tile 0, and the call begins with tile 1. -/
def tileOf (i : grid0.Coords) : BitVec 32 := Scalar.addi (Scalar.addi (Scalar.muli (BitVec.ofNat 32 (i 1).val) 1#32) 0#32) 1#32

set_option maxHeartbeats 1000000 in
/-- The stored tile is the named operations' value. -/
theorem out_eq (i : grid0.Coords) (x0 : Vec Ideal S1x16x384 .bf16) (x1 : Vec Ideal S1x256x384 .bf16) (x2 : Vec Ideal S1x16x384 .bf16) (x3 : Vec Ideal S1x16x384 .bf16) (x4 : Vec Ideal S1x256x384 .bf16) (x5 : Vec Ideal S1x16x384 .bf16) (x6 : Vec Ideal S1x16x256 .bf16) (x7 : Vec Ideal S1x256x256 .bf16) (x8 : Vec Ideal S1x16x256 .bf16) (x9 : Vec Ideal S1x8x1024 .f32) (x10 : Vec Ideal S1x256x1024 .f32) (x11 : Vec Ideal S1x8x1024 .f32) (x12 : Vec Ideal S1x2x8x1024 .f32) (x13 : Vec Ideal S1024x1024 .bf16) (x14 x15 : Vec Ideal S1x1024 .f32) (x16 : Vec Ideal S1024x5632 .bf16) (x17 : Vec Ideal S3x5632 .f32) (x18 : Vec Ideal S1x5632 .f32) (x19 : Vec Ideal S2816x1024 .bf16) (x20 x21 : Vec Ideal S1x1024 .f32) :
    out0_22 i x0 x1 x2 x3 x4 x5 x6 x7 x8 x9 x10 x11 x12 x13 x14 x15 x16 x17 x18 x19 x20 x21 = View.canon [⟨r0_8, finish (tileOf i) (tileMods (tileOf i) (View.ld x12 r0_0) (View.ld x12 r0_1))
      (affine272 (branch (tileMods (tileOf i) (View.ld x12 r0_0) (View.ld x12 r0_1)) (tokens (View.ld x0 r0_2) (View.ld x1 r0_3) (View.ld x2 r0_2) (View.ld x3 r0_2) (View.ld x4 r0_3) (View.ld x5 r0_2)
        (View.ld x6 r0_4) (View.ld x7 r0_5) (View.ld x8 r0_4)) (View.ld x13 r0_6) (residuals (View.ld x9 r0_7) (View.ld x10 r0_8) (View.ld x11 r0_7))) (View.ld x14 r0_9) (View.ld x15 r0_9))
      x16 x17 x18 x19 (View.ld x20 r0_9) (View.ld x21 r0_9)⟩] := by
  rfl

end Cert.Ffn
-- ==== Proof.FfnPoint.lean ====
/-
  The named operations of a tile at an index.
-/
module

public import proofs.«01_k».proof.Proof.FfnTile

@[expose] public section

set_option maxRecDepth 16384

noncomputable section

namespace Cert.Ffn

open Idealize.ShloMosaic Idealize.ShloMosaic.TcCoe Cert.Layer
open Cert.Kernel2Ideal Cert.Kernel2Ideal.Gen

theorem mean272_apply (x : FVec Ideal S272x1024 .f32) (e : Fin 272) (z : Fin 1) : mean272 x (ix2 e z) = mean (fun k => x (ix2 e k)) := by
  pointwise [mean272, mean]

theorem centre272_apply (x : FVec Ideal S272x1024 .f32) (e : Fin 272) (k : Fin 1024) : centre272 x (ix2 e k) = x (ix2 e k) - mean (fun k => x (ix2 e k)) := by
  pointwise [centre272]
  simp only [mean272_apply]

theorem norm272_apply (x : FVec Ideal S272x1024 .f32) (e : Fin 272) (k : Fin 1024) : norm272 x (ix2 e k) = rowNorm (fun k => x (ix2 e k)) k := by
  pointwise [norm272]
  simp only [mean272_apply, centre272_apply, rowNorm]
  pointwise
  simp only [centre272_apply]

theorem affine272_apply (x : FVec Ideal S272x1024 .f32) (g b : Vec Ideal S1x1024 .f32) (e : Fin 272) (k : Fin 1024) :
    affine272 x g b (ix2 e k) = normRow (fun k => g (ix2 0 k)) (fun k => b (ix2 0 k)) (fun k => x (ix2 e k)) k := by
  pointwise [affine272, normRow]
  simp only [norm272_apply]

theorem hidden_apply (mods : FVec Ideal S8x1024 .f32) (x : FVec Ideal S272x1024 .f32) (e : Fin 272) (k : Fin 1024) :
    hidden mods x (ix2 e k) = modRow (fun k => mods (ix2 3 k)) (fun k => mods (ix2 4 k)) (fun k => x (ix2 e k)) k := by
  pointwise [hidden, modRow]
  simp only [norm272_apply]

theorem branch_apply (mods : FVec Ideal S8x1024 .f32) (tok : FVec Ideal S288x1024 .bf16) (w : Vec Ideal S1024x1024 .bf16) (xs : FVec Ideal S272x1024 .f32) (e : Fin 272) (k : Fin 1024) :
    branch mods tok w xs (ix2 e k) = residRow (fun k => mods (ix2 2 k)) (fun k => xs (ix2 e k)) (mulRow (fun q k => w (ix2 q k)) (fun q => tok (ix2 ⟨8 + e.val, by omega⟩ q))) k := by
  pointwise [branch, residRow, mulRow]

theorem up_apply (H : FVec Ideal S272x1024 .bf16) (w : Vec Ideal S1024x256 .bf16) (e : Fin 272) (j : Fin 256) :
    up H w (ix2 e j) = ∑ k : Fin 1024, H (ix2 e k) * w (ix2 k j) := by
  pointwise [up]

theorem upW_apply (x : Vec Ideal S1024x5632 .bf16) (o : ℕ) (h : o + 256 ≤ 5632) (k : Fin 1024) (j : Fin 256) : upW x o h (ix2 k j) = x (ix2 k ⟨o + j.val, by omega⟩) := by
  pointwise [upW]

theorem conv_apply (u : FVec Ideal S272x256 .f32) (a b c d : Vec Ideal S1x256 .f32) (r j : Fin 256) :
    conv u a b c d (ix2 r j) = u (ix2 ⟨7 + r.val, by omega⟩ j) * a (ix2 0 j) + u (ix2 ⟨8 + r.val, by omega⟩ j) * b (ix2 0 j) + u (ix2 ⟨9 + r.val, by omega⟩ j) * c (ix2 0 j) + d (ix2 0 j) := by
  pointwise [conv]
  have e7 : (⟨(8 + r.val + 272 - 1) % 272, by omega⟩ : Fin 272) = ⟨7 + r.val, by omega⟩ := Fin.ext (by show (8 + r.val + 272 - 1) % 272 = 7 + r.val; omega)
  have e9 : (⟨(8 + r.val + 272 - 271) % 272, by omega⟩ : Fin 272) = ⟨9 + r.val, by omega⟩ := Fin.ext (by show (8 + r.val + 272 - 271) % 272 = 9 + r.val; omega)
  simp only [e7, e9]

theorem addChunk_apply (acc : FVec Ideal S256x1024 .f32) (g v : FVec Ideal S256x256 .f32) (w : Vec Ideal S256x1024 .bf16) (r : Fin 256) (k : Fin 1024) :
    addChunk acc g v w (ix2 r k) = acc (ix2 r k) + ∑ j : Fin 256, g (ix2 r j) * Ideal.logistic (g (ix2 r j)) * v (ix2 r j) * w (ix2 j k) := by
  pointwise [addChunk]

theorem resid_apply (x : FVec Ideal S256x1024 .f32) (gate : FVec Ideal S1x1024 .f32) (f : FVec Ideal S256x1024 .f32) (r : Fin 256) (k : Fin 1024) :
    resid x gate f (ix2 r k) = residRow (fun k => gate (ix2 0 k)) (fun k => x (ix2 r k)) (fun k => f (ix2 r k)) k := by
  pointwise [resid, residRow]

theorem centre256_apply (x : FVec Ideal S256x1024 .f32) (r : Fin 256) (k : Fin 1024) : centre256 x (ix2 r k) = x (ix2 r k) - mean (fun k => x (ix2 r k)) := by
  pointwise [centre256, mean]

theorem stored_apply (x : FVec Ideal S256x1024 .f32) (gate : FVec Ideal S1x1024 .f32) (f : FVec Ideal S256x1024 .f32) (g b : Vec Ideal S1x1024 .f32) (r : Fin 256) (k : Fin 1024) :
    stored x gate f g b (ix3 0 r k) = normRow (fun k => g (ix2 0 k)) (fun k => b (ix2 0 k)) (residRow (fun k => gate (ix2 0 k)) (fun k => x (ix2 r k)) (fun k => f (ix2 r k))) k := by
  pointwise [stored, k0_pay1]
  simp only [centre256_apply, resid_apply, normRow, rowNorm, mean]

theorem finish_apply (tile : BitVec 32) (mods : FVec Ideal S8x1024 .f32) (x : FVec Ideal S272x1024 .f32) (x16 : Vec Ideal S1024x5632 .bf16) (x17 : Vec Ideal S3x5632 .f32)
    (x18 : Vec Ideal S1x5632 .f32) (x19 : Vec Ideal S2816x1024 .bf16) (g b : Vec Ideal S1x1024 .f32) (r : Fin 256) (k : Fin 1024) :
    finish tile mods x x16 x17 x18 x19 g b (ix3 0 r k) = normRow (fun k => g (ix2 0 k)) (fun k => b (ix2 0 k))
      (residRow (fun k => mods (ix2 5 k)) (fun k => x (ix2 ⟨8 + r.val, by omega⟩ k)) (fun k => chunks (masked tile (hidden mods x)) x16 x17 x18 x19 11 (Nat.le_refl _) (ix2 r k))) k := by
  unfold finish
  rw [stored_apply]
  congr 2
  · funext k
    pointwise
  · funext k
    pointwise

theorem tap_apply (x : Vec Ideal S3x5632 .f32) (i : Fin 3) (o : ℕ) (hi : i.val + 1 ≤ 3) (h : o + 256 ≤ 5632) (j : Fin 256) : tap x i.val o hi h (ix2 0 j) = x (ix2 i ⟨o + j.val, by omega⟩) := by
  pointwise [tap]

theorem offs_apply (x : Vec Ideal S1x5632 .f32) (o : ℕ) (h : o + 256 ≤ 5632) (j : Fin 256) : offs x o h (ix2 0 j) = x (ix2 0 ⟨o + j.val, by omega⟩) := by
  pointwise [offs]

theorem downW_apply (x : Vec Ideal S2816x1024 .bf16) (o : ℕ) (h : o + 256 ≤ 2816) (j : Fin 256) (k : Fin 1024) : downW x o h (ix2 j k) = x (ix2 ⟨o + j.val, by omega⟩ k) := by
  pointwise [downW]

/-- The convolved columns at a row of the tile. -/
def hiddenRow (H : FVec Ideal S272x1024 .bf16) (x16 : Vec Ideal S1024x5632 .bf16) (x17 : Vec Ideal S3x5632 .f32) (x18 : Vec Ideal S1x5632 .f32) (r : Fin 256) : Fin 5632 → EReal :=
  convRow (fun i j => x17 (ix2 i j)) (fun j => x18 (ix2 0 j)) (mulRow (fun k j => x16 (ix2 k j)) (fun k => H (ix2 ⟨7 + r.val, by omega⟩ k)))
    (mulRow (fun k j => x16 (ix2 k j)) (fun k => H (ix2 ⟨8 + r.val, by omega⟩ k))) (mulRow (fun k j => x16 (ix2 k j)) (fun k => H (ix2 ⟨9 + r.val, by omega⟩ k)))

theorem convAt_apply (H : FVec Ideal S272x1024 .bf16) (x16 : Vec Ideal S1024x5632 .bf16) (x17 : Vec Ideal S3x5632 .f32) (x18 : Vec Ideal S1x5632 .f32)
    (o : ℕ) (h : o + 256 ≤ 5632) (r j : Fin 256) : convAt H x16 x17 x18 o h (ix2 r j) = hiddenRow H x16 x17 x18 r ⟨o + j.val, by omega⟩ := by
  unfold convAt
  rw [conv_apply]
  simp only [up_apply, upW_apply, offs_apply]
  rw [show tap x17 0 o (by decide) h (ix2 0 j) = _ from tap_apply x17 0 o (by decide) h j, show tap x17 1 o (by decide) h (ix2 0 j) = _ from tap_apply x17 1 o (by decide) h j,
    show tap x17 2 o (by decide) h (ix2 0 j) = _ from tap_apply x17 2 o (by decide) h j]
  rfl

/-- A hidden column's contribution to an entry, by the column's number. -/
def term (H : FVec Ideal S272x1024 .bf16) (x16 : Vec Ideal S1024x5632 .bf16) (x17 : Vec Ideal S3x5632 .f32) (x18 : Vec Ideal S1x5632 .f32) (x19 : Vec Ideal S2816x1024 .bf16)
    (r : Fin 256) (k : Fin 1024) (j : ℕ) : EReal :=
  if h : j < 2816 then actRow (hiddenRow H x16 x17 x18 r) ⟨j, h⟩ * x19 (ix2 ⟨j, h⟩ k) else 0

theorem chunks_range (H : FVec Ideal S272x1024 .bf16) (x16 : Vec Ideal S1024x5632 .bf16) (x17 : Vec Ideal S3x5632 .f32) (x18 : Vec Ideal S1x5632 .f32) (x19 : Vec Ideal S2816x1024 .bf16)
    (r : Fin 256) (k : Fin 1024) : ∀ (n : ℕ) (h : n ≤ 11), chunks H x16 x17 x18 x19 n h (ix2 r k) = ∑ j ∈ Finset.range (256 * n), term H x16 x17 x18 x19 r k j
  | 0, _ => by
    rw [Nat.mul_zero, Finset.range_zero, Finset.sum_empty]
    pointwise [chunks]
  | n + 1, h => by
    rw [Nat.mul_succ, Finset.sum_range_add, ← chunks_range H x16 x17 x18 x19 r k n (by omega), Finset.sum_range]
    show addChunk _ _ _ _ _ = _
    rw [addChunk_apply]
    congr 1
    refine Finset.sum_congr rfl fun j _ => ?_
    have hj : 256 * n + j.val < 2816 := by omega
    rw [convAt_apply, convAt_apply, downW_apply, term, dif_pos hj]
    unfold actRow
    congr 2
    congr 1
    exact Fin.ext (Nat.add_assoc _ _ _)

/-- All eleven chunks make the product with the down-projection. -/
theorem chunks_apply (H : FVec Ideal S272x1024 .bf16) (x16 : Vec Ideal S1024x5632 .bf16) (x17 : Vec Ideal S3x5632 .f32) (x18 : Vec Ideal S1x5632 .f32) (x19 : Vec Ideal S2816x1024 .bf16)
    (r : Fin 256) (k : Fin 1024) : chunks H x16 x17 x18 x19 11 (Nat.le_refl _) (ix2 r k) = mulRow (fun j k => x19 (ix2 j k)) (actRow (hiddenRow H x16 x17 x18 r)) k := by
  rw [chunks_range, Finset.sum_range]
  refine Finset.sum_congr rfl fun j _ => ?_
  rw [term, dif_pos j.isLt]

/-- Whether a row of a tile and its halos lies in the tile's own sequence. -/
def keep (T : ℕ) (e : ℕ) : Prop := (8 ≤ e ∨ 2 ≤ T) ∧ (e < 264 ∨ (1 ≤ T ∧ T < 8))

instance (T e : ℕ) : Decidable (keep T e) := by unfold keep; infer_instance

/-- The call's comparisons decide it. -/
theorem keep_bits : ∀ (T : Fin 9) (e : Fin 272), IntOp.andi
        (IntOp.ori (IntOp.cmpi CmpIPredicate.sge (BitVec.ofNat 32 e.val) 8#32) (Scalar.cmpi CmpIPredicate.sge (BitVec.ofNat 32 T.val) 2#32))
        (IntOp.ori (IntOp.cmpi CmpIPredicate.slt (BitVec.ofNat 32 e.val) 264#32)
          (Scalar.andi (Scalar.cmpi CmpIPredicate.sge (BitVec.ofNat 32 T.val) 1#32) (Scalar.cmpi CmpIPredicate.slt (BitVec.ofNat 32 T.val) 8#32)))
      = if keep T.val e.val then 1#1 else 0#1 := by decide +kernel

theorem masked_apply (T : Fin 9) (x : FVec Ideal S272x1024 .f32) (e : Fin 272) (k : Fin 1024) :
    masked (BitVec.ofNat 32 T.val) x (ix2 e k) = if keep T.val e.val then x (ix2 e k) else 0 := by
  pointwise [masked, k0_pay10, k0_pay11, k0_pay12]
  rw [keep_bits]
  split_ifs <;> rfl

end Cert.Ffn
-- ==== Proof.FfnSeq.lean ====
/-
  A tile's stored rows are its sequence's rows after the block.
-/
module

public import proofs.«01_k».proof.Proof.FfnPoint

@[expose] public section

set_option maxRecDepth 16384

noncomputable section

namespace Cert.Ffn

open Idealize.ShloMosaic Idealize.ShloMosaic.TcCoe Cert.Layer
open Cert.Kernel2Ideal Cert.Kernel2Ideal.Gen

/-- The weights as the call's operands hold them. -/
def weights (w : Vec Ideal S1024x1024 .bf16) (g1 b1 : Vec Ideal S1x1024 .f32) (x16 : Vec Ideal S1024x5632 .bf16) (x17 : Vec Ideal S3x5632 .f32)
    (x18 : Vec Ideal S1x5632 .f32) (x19 : Vec Ideal S2816x1024 .bf16) (g2 b2 : Vec Ideal S1x1024 .f32) : Weights where
  out := fun q k => w (ix2 q k)
  g1 := fun k => g1 (ix2 0 k)
  b1 := fun k => b1 (ix2 0 k)
  up := fun k j => x16 (ix2 k j)
  taps := fun i j => x17 (ix2 i j)
  offset := fun j => x18 (ix2 0 j)
  down := fun j k => x19 (ix2 j k)
  g2 := fun k => g2 (ix2 0 k)
  b2 := fun k => b2 (ix2 0 k)

/-- The six modulation vectors of a tile. -/
def vectors (mods : FVec Ideal S8x1024 .f32) (i : Fin 6) (k : Fin 1024) : EReal := mods (ix2 ⟨i.val, by omega⟩ k)

section

variable (T : Fin 9) (mods : FVec Ideal S8x1024 .f32) (tok : FVec Ideal S288x1024 .bf16) (w : Vec Ideal S1024x1024 .bf16) (xs : FVec Ideal S272x1024 .f32)
  (g1 b1 : Vec Ideal S1x1024 .f32) (x16 : Vec Ideal S1024x5632 .bf16) (x17 : Vec Ideal S3x5632 .f32)
  (x18 : Vec Ideal S1x5632 .f32) (x19 : Vec Ideal S2816x1024 .bf16) (g2 b2 : Vec Ideal S1x1024 .f32)

/-- A row after the first norm. -/
theorem first_apply (e : Fin 272) : (fun k => affine272 (branch mods tok w xs) g1 b1 (ix2 e k))
    = firstRow (weights w g1 b1 x16 x17 x18 x19 g2 b2) (vectors mods) (fun k => xs (ix2 e k)) (fun q => tok (ix2 ⟨8 + e.val, by omega⟩ q)) := by
  funext k
  rw [affine272_apply]
  simp only [branch_apply]
  rfl

/-- A row's hidden columns: none where the row is outside the sequence. -/
theorem up_row (e : Fin 272) : mulRow (fun k j => x16 (ix2 k j)) (fun k => masked (BitVec.ofNat 32 T.val) (hidden mods (affine272 (branch mods tok w xs) g1 b1)) (ix2 e k))
    = if keep T.val e.val then upRow (weights w g1 b1 x16 x17 x18 x19 g2 b2) (vectors mods)
        (firstRow (weights w g1 b1 x16 x17 x18 x19 g2 b2) (vectors mods) (fun k => xs (ix2 e k)) (fun q => tok (ix2 ⟨8 + e.val, by omega⟩ q))) else fun _ => 0 := by
  rw [← first_apply]
  simp only [masked_apply, hidden_apply]
  split_ifs
  · rfl
  · funext j
    exact Finset.sum_eq_zero fun k _ => zero_mul _

/-- A stored entry is the sequence's: the tile starts at row `base` of a sequence of `n` rows, of which the tile and its halos hold what the mask keeps. -/
theorem finish_seq {n : ℕ} (base : ℕ) (X Y : Fin n → Fin 1024 → EReal)
    (hk : ∀ e : Fin 272, keep T.val e.val ↔ 8 ≤ base + e.val ∧ base + e.val - 8 < n)
    (hx : ∀ (e : Fin 272) (h : base + e.val - 8 < n), 8 ≤ base + e.val → ∀ k, xs (ix2 e k) = X ⟨base + e.val - 8, h⟩ k)
    (hy : ∀ (e : Fin 272) (h : base + e.val - 8 < n), 8 ≤ base + e.val → ∀ q, tok (ix2 ⟨8 + e.val, by omega⟩ q) = Y ⟨base + e.val - 8, h⟩ q)
    (r : Fin 256) (hr : base + r.val < n) (k : Fin 1024) :
    finish (BitVec.ofNat 32 T.val) mods (affine272 (branch mods tok w xs) g1 b1) x16 x17 x18 x19 g2 b2 (ix3 0 r k)
      = layerRow (weights w g1 b1 x16 x17 x18 x19 g2 b2) (vectors mods) X Y ⟨base + r.val, hr⟩ k := by
  have row : ∀ (e : Fin 272) (i : ℕ) (hi : i < n), base + e.val = i + 8 →
      firstRow (weights w g1 b1 x16 x17 x18 x19 g2 b2) (vectors mods) (fun k => xs (ix2 e k)) (fun q => tok (ix2 ⟨8 + e.val, by omega⟩ q))
        = firstRow (weights w g1 b1 x16 x17 x18 x19 g2 b2) (vectors mods) (X ⟨i, hi⟩) (Y ⟨i, hi⟩) := by
    intro e i hi he
    obtain rfl : i = base + e.val - 8 := by omega
    rw [show (fun k => xs (ix2 e k)) = X ⟨base + e.val - 8, hi⟩ from funext (hx e hi (by omega)),
      show (fun q => tok (ix2 ⟨8 + e.val, by omega⟩ q)) = Y ⟨base + e.val - 8, hi⟩ from funext (hy e hi (by omega))]
  rw [finish_apply]
  simp only [chunks_apply]
  unfold hiddenRow
  rw [first_apply mods tok w xs g1 b1 x16 x17 x18 x19 g2 b2, up_row T mods tok w xs g1 b1 x16 x17 x18 x19 g2 b2, up_row T mods tok w xs g1 b1 x16 x17 x18 x19 g2 b2,
    up_row T mods tok w xs g1 b1 x16 x17 x18 x19 g2 b2]
  rw [row ⟨8 + r.val, by omega⟩ (base + r.val) hr (by show base + (8 + r.val) = _; omega)]
  rw [if_pos ((hk ⟨8 + r.val, by omega⟩).2 ⟨by show 8 ≤ base + (8 + r.val); omega, by show base + (8 + r.val) - 8 < n; omega⟩)]
  have hp : (if keep T.val (7 + r.val) then upRow (weights w g1 b1 x16 x17 x18 x19 g2 b2) (vectors mods)
        (firstRow (weights w g1 b1 x16 x17 x18 x19 g2 b2) (vectors mods) (fun k => xs (ix2 ⟨7 + r.val, by omega⟩ k)) (fun q => tok (ix2 ⟨8 + (7 + r.val), by omega⟩ q))) else fun _ => 0)
      = if h : 0 < base + r.val then upRow (weights w g1 b1 x16 x17 x18 x19 g2 b2) (vectors mods)
        (firstRow (weights w g1 b1 x16 x17 x18 x19 g2 b2) (vectors mods) (X ⟨base + r.val - 1, by omega⟩) (Y ⟨base + r.val - 1, by omega⟩)) else fun _ => 0 := by
    have h7 := hk ⟨7 + r.val, by omega⟩
    dsimp only at h7
    by_cases h : 0 < base + r.val
    · rw [dif_pos h, if_pos (h7.2 (by omega)), row ⟨7 + r.val, by omega⟩ (base + r.val - 1) (by omega) (by show base + (7 + r.val) = _; omega)]
    · rw [dif_neg h, if_neg fun h' => absurd (h7.1 h') (by omega)]
  have hn : (if keep T.val (9 + r.val) then upRow (weights w g1 b1 x16 x17 x18 x19 g2 b2) (vectors mods)
        (firstRow (weights w g1 b1 x16 x17 x18 x19 g2 b2) (vectors mods) (fun k => xs (ix2 ⟨9 + r.val, by omega⟩ k)) (fun q => tok (ix2 ⟨8 + (9 + r.val), by omega⟩ q))) else fun _ => 0)
      = if h : base + r.val + 1 < n then upRow (weights w g1 b1 x16 x17 x18 x19 g2 b2) (vectors mods)
        (firstRow (weights w g1 b1 x16 x17 x18 x19 g2 b2) (vectors mods) (X ⟨base + r.val + 1, h⟩) (Y ⟨base + r.val + 1, h⟩)) else fun _ => 0 := by
    have h9 := hk ⟨9 + r.val, by omega⟩
    dsimp only at h9
    by_cases h : base + r.val + 1 < n
    · rw [dif_pos h, if_pos (h9.2 (by omega)), row ⟨9 + r.val, by omega⟩ (base + r.val + 1) h (by show base + (9 + r.val) = _; omega)]
    · rw [dif_neg h, if_neg fun h' => absurd (h9.1 h') (by omega)]
  rw [hp, hn]
  rfl

end

end Cert.Ffn
-- ==== Proof.FfnHost2.lean ====
/-
  What the call's operands hold when the kernel starts.
-/
module

public import proofs.«01_k».proof.Proof.FfnSeq
public import proofs.«01_k».proof.Proof.Gen.Kernel2Ideal.Value

@[expose] public section

set_option maxRecDepth 16384

noncomputable section

namespace Cert.Ffn

open Idealize.ShloMosaic Idealize.ShloMosaic.TcCoe Idealize.SL.Sem
open Cert.Kernel2Ideal Cert.Kernel2Ideal.Gen

/-- Six heads side by side. -/
def heads (u0 u1 u2 u3 u4 u5 : FVec Ideal S16x2304x64 .f32) : FVec Ideal S16x2304x384 .f32 :=
  concatenate S16x2304x384 2 [⟨S16x2304x64, u0⟩, ⟨S16x2304x64, u1⟩, ⟨S16x2304x64, u2⟩, ⟨S16x2304x64, u3⟩, ⟨S16x2304x64, u4⟩, ⟨S16x2304x64, u5⟩] concatenates_S16x2304x64_S16x2304x64_S16x2304x64_S16x2304x64_S16x2304x64_S16x2304x64_S16x2304x384_d2

/-- Six runs of rows one under another. -/
def runs (u0 : FVec Ideal S448x1024 .f32) (u1 u2 u3 u4 : FVec Ideal S64x1024 .f32) (u5 : FVec Ideal S320x1024 .f32) : FVec Ideal S1024x1024 .f32 :=
  concatenate S1024x1024 0 [⟨S448x1024, u0⟩, ⟨S64x1024, u1⟩, ⟨S64x1024, u2⟩, ⟨S64x1024, u3⟩, ⟨S64x1024, u4⟩, ⟨S320x1024, u5⟩] concatenates_S448x1024_S64x1024_S64x1024_S64x1024_S64x1024_S320x1024_S1024x1024_d0

/-- The context's and the batch's modulation vectors, a pair for every batch. -/
def pair (a b : FVec Ideal S16x1x6x1024 .f32) : FVec Ideal S16x2x6x1024 .f32 :=
  concatenate S16x2x6x1024 1 [⟨S16x1x6x1024, a⟩, ⟨S16x1x6x1024, b⟩] concatenates_S16x1x6x1024_S16x1x6x1024_S16x2x6x1024_d1

/-- An array with its heads in the kernel's order. -/
def headed (x : FVec Ideal S16x2304x384 .f32) : FVec Ideal S16x2304x384 .f32 :=
  heads (extractStridedSlice S16x2304x64 ![0, 0, 0] x slices_S16x2304x384_S16x2304x64_0_0_0) (extractStridedSlice S16x2304x64 ![0, 0, 192] x slices_S16x2304x384_S16x2304x64_0_0_192)
    (extractStridedSlice S16x2304x64 ![0, 0, 64] x slices_S16x2304x384_S16x2304x64_0_0_64) (extractStridedSlice S16x2304x64 ![0, 0, 256] x slices_S16x2304x384_S16x2304x64_0_0_256)
    (extractStridedSlice S16x2304x64 ![0, 0, 128] x slices_S16x2304x384_S16x2304x64_0_0_128) (extractStridedSlice S16x2304x64 ![0, 0, 320] x slices_S16x2304x384_S16x2304x64_0_0_320)

/-- The projection's weights with their rows in the kernel's order. -/
def rowed (w : FVec Ideal S1024x1024 .f32) : FVec Ideal S1024x1024 .f32 :=
  runs (extractStridedSlice S448x1024 ![0, 0] w slices_S1024x1024_S448x1024_0_0) (extractStridedSlice S64x1024 ![576, 0] w slices_S1024x1024_S64x1024_576_0)
    (extractStridedSlice S64x1024 ![448, 0] w slices_S1024x1024_S64x1024_448_0) (extractStridedSlice S64x1024 ![640, 0] w slices_S1024x1024_S64x1024_640_0)
    (extractStridedSlice S64x1024 ![512, 0] w slices_S1024x1024_S64x1024_512_0) (extractStridedSlice S320x1024 ![704, 0] w slices_S1024x1024_S320x1024_704_0)

/-- The column of the array that stands at column `q` of the permuted one. -/
def headOf (q : Fin 384) : Fin 384 :=
  if h0 : q.val < 64 then ⟨q.val, by omega⟩ else
  if h1 : q.val - 64 < 64 then ⟨192 + (q.val - 64), by omega⟩ else
  if h2 : q.val - 64 - 64 < 64 then ⟨64 + (q.val - 64 - 64), by omega⟩ else
  if h3 : q.val - 64 - 64 - 64 < 64 then ⟨256 + (q.val - 64 - 64 - 64), by omega⟩ else
  if h4 : q.val - 64 - 64 - 64 - 64 < 64 then ⟨128 + (q.val - 64 - 64 - 64 - 64), by omega⟩ else
  ⟨320 + (q.val - 64 - 64 - 64 - 64 - 64), by omega⟩

/-- The row of the weights that stands at row `q` of the permuted ones. -/
def rowOf (q : Fin 1024) : Fin 1024 :=
  if h0 : q.val < 448 then ⟨q.val, by omega⟩ else
  if h1 : q.val - 448 < 64 then ⟨576 + (q.val - 448), by omega⟩ else
  if h2 : q.val - 448 - 64 < 64 then ⟨448 + (q.val - 448 - 64), by omega⟩ else
  if h3 : q.val - 448 - 64 - 64 < 64 then ⟨640 + (q.val - 448 - 64 - 64), by omega⟩ else
  if h4 : q.val - 448 - 64 - 64 - 64 < 64 then ⟨512 + (q.val - 448 - 64 - 64 - 64), by omega⟩ else
  ⟨704 + (q.val - 448 - 64 - 64 - 64 - 64), by omega⟩

theorem dite_read {α β : Sort*} {p : Prop} [Decidable p] (f : α → β) {x : p → β} {y : ¬ p → β} {a : p → α} {b : ¬ p → α}
    (hx : ∀ h, x h = f (a h)) (hy : ∀ h, y h = f (b h)) : dite p x y = f (dite p a b) := by
  by_cases h : p
  · rw [dif_pos h, dif_pos h, hx]
  · rw [dif_neg h, dif_neg h, hy]

theorem headed_apply (x : FVec Ideal S16x2304x384 .f32) (b : Fin 16) (r : Fin 2304) (q : Fin 384) : headed x (ix3 b r q) = x (ix3 b r (headOf q)) := by
  pointwise [headed, heads]
  unfold headOf
  iterate 5 refine dite_read (fun q => x (ix3 b r q)) (fun _ => rfl) fun _ => ?_
  rfl

theorem rowed_apply (w : FVec Ideal S1024x1024 .f32) (q k : Fin 1024) : rowed w (ix2 q k) = w (ix2 (rowOf q) k) := by
  pointwise [rowed, runs]
  unfold rowOf
  iterate 5 refine dite_read (fun q => w (ix2 q k)) (fun _ => rfl) fun _ => ?_
  rfl

end Cert.Ffn

namespace Cert.Ffn2

open Idealize.ShloMosaic Idealize.ShloMosaic.TcCoe Idealize.SL.Sem
open Cert.Kernel2Ideal Cert.Kernel2Ideal.Gen Cert.Ffn

/-- The first operations of the host code, with the concatenation named. -/
theorem ops0_eq : (hostOps0 : List (HloOp τ sig (Elt Ideal))) =
  [ StableHlo.unary main_arg1 main_v0 ((extractStridedSlice S16x2304x64 ![0, 0, 0] · slices_S16x2304x384_S16x2304x64_0_0_0) : (⟨S16x2304x384, .f32⟩ : BufTy).Contents (Elt Ideal) → (⟨S16x2304x64, .f32⟩ : BufTy).Contents (Elt Ideal)),
    StableHlo.unary main_arg1 main_v1 ((extractStridedSlice S16x2304x64 ![0, 0, 192] · slices_S16x2304x384_S16x2304x64_0_0_192) : (⟨S16x2304x384, .f32⟩ : BufTy).Contents (Elt Ideal) → (⟨S16x2304x64, .f32⟩ : BufTy).Contents (Elt Ideal)),
    StableHlo.unary main_arg1 main_v2 ((extractStridedSlice S16x2304x64 ![0, 0, 64] · slices_S16x2304x384_S16x2304x64_0_0_64) : (⟨S16x2304x384, .f32⟩ : BufTy).Contents (Elt Ideal) → (⟨S16x2304x64, .f32⟩ : BufTy).Contents (Elt Ideal)),
    StableHlo.unary main_arg1 main_v3 ((extractStridedSlice S16x2304x64 ![0, 0, 256] · slices_S16x2304x384_S16x2304x64_0_0_256) : (⟨S16x2304x384, .f32⟩ : BufTy).Contents (Elt Ideal) → (⟨S16x2304x64, .f32⟩ : BufTy).Contents (Elt Ideal)),
    StableHlo.unary main_arg1 main_v4 ((extractStridedSlice S16x2304x64 ![0, 0, 128] · slices_S16x2304x384_S16x2304x64_0_0_128) : (⟨S16x2304x384, .f32⟩ : BufTy).Contents (Elt Ideal) → (⟨S16x2304x64, .f32⟩ : BufTy).Contents (Elt Ideal)),
    StableHlo.unary main_arg1 main_v5 ((extractStridedSlice S16x2304x64 ![0, 0, 320] · slices_S16x2304x384_S16x2304x64_0_0_320) : (⟨S16x2304x384, .f32⟩ : BufTy).Contents (Elt Ideal) → (⟨S16x2304x64, .f32⟩ : BufTy).Contents (Elt Ideal)),
    StableHlo.nary ![main_v0, main_v1, main_v2, main_v3, main_v4, main_v5] main_v6 (fun u => heads (u 0) (u 1) (u 2) (u 3) (u 4) (u 5)),
    StableHlo.unary main_arg5 main_v7 (broadcastInDim S1x6x1024 ![1, 2] bcast_S6x1024_S1x6x1024_1_2 : (⟨S6x1024, .f32⟩ : BufTy).Contents (Elt Ideal) → (⟨S1x6x1024, .f32⟩ : BufTy).Contents (Elt Ideal)),
    StableHlo.unary main_v7 main_v8 (broadcastInDim S16x6x1024 ![0, 1, 2] bcast_S1x6x1024_S16x6x1024_0_1_2 : (⟨S1x6x1024, .f32⟩ : BufTy).Contents (Elt Ideal) → (⟨S16x6x1024, .f32⟩ : BufTy).Contents (Elt Ideal)),
    StableHlo.unary main_v8 main_v9 (broadcastInDim S16x1x6x1024 ![0, 2, 3] bcast_S16x6x1024_S16x1x6x1024_0_2_3 : (⟨S16x6x1024, .f32⟩ : BufTy).Contents (Elt Ideal) → (⟨S16x1x6x1024, .f32⟩ : BufTy).Contents (Elt Ideal)),
    StableHlo.unary main_arg4 main_v10 (broadcastInDim S16x1x6x1024 ![0, 2, 3] bcast_S16x6x1024_S16x1x6x1024_0_2_3 : (⟨S16x6x1024, .f32⟩ : BufTy).Contents (Elt Ideal) → (⟨S16x1x6x1024, .f32⟩ : BufTy).Contents (Elt Ideal)),
    StableHlo.binary main_v9 main_v10 main_v11 pair,
    StableHlo.nullary main_c (constantI S_ 32 0#32) ] := rfl

/-- The last operations of the host code, with the concatenation named. -/
theorem ops2_eq : (hostOps0_2 : List (HloOp τ sig (Elt Ideal))) =
  [ StableHlo.unary main_arg0 main_v13 ((fun x => truncf (F := Ideal) .bf16 (x : FVec Ideal S16x2304x384 .f32) bitsLt_bf16_f32) : (⟨S16x2304x384, .f32⟩ : BufTy).Contents (Elt Ideal) → (⟨S16x2304x384, .bf16⟩ : BufTy).Contents (Elt Ideal)),
    StableHlo.unary main_v6 main_v14 ((fun x => truncf (F := Ideal) .bf16 (x : FVec Ideal S16x2304x384 .f32) bitsLt_bf16_f32) : (⟨S16x2304x384, .f32⟩ : BufTy).Contents (Elt Ideal) → (⟨S16x2304x384, .bf16⟩ : BufTy).Contents (Elt Ideal)),
    StableHlo.unary main_arg2 main_v15 ((fun x => truncf (F := Ideal) .bf16 (x : FVec Ideal S16x2304x256 .f32) bitsLt_bf16_f32) : (⟨S16x2304x256, .f32⟩ : BufTy).Contents (Elt Ideal) → (⟨S16x2304x256, .bf16⟩ : BufTy).Contents (Elt Ideal)),
    StableHlo.unary main_arg6 main_v16 ((extractStridedSlice S448x1024 ![0, 0] · slices_S1024x1024_S448x1024_0_0) : (⟨S1024x1024, .f32⟩ : BufTy).Contents (Elt Ideal) → (⟨S448x1024, .f32⟩ : BufTy).Contents (Elt Ideal)),
    StableHlo.unary main_arg6 main_v17 ((extractStridedSlice S64x1024 ![576, 0] · slices_S1024x1024_S64x1024_576_0) : (⟨S1024x1024, .f32⟩ : BufTy).Contents (Elt Ideal) → (⟨S64x1024, .f32⟩ : BufTy).Contents (Elt Ideal)),
    StableHlo.unary main_arg6 main_v18 ((extractStridedSlice S64x1024 ![448, 0] · slices_S1024x1024_S64x1024_448_0) : (⟨S1024x1024, .f32⟩ : BufTy).Contents (Elt Ideal) → (⟨S64x1024, .f32⟩ : BufTy).Contents (Elt Ideal)),
    StableHlo.unary main_arg6 main_v19 ((extractStridedSlice S64x1024 ![640, 0] · slices_S1024x1024_S64x1024_640_0) : (⟨S1024x1024, .f32⟩ : BufTy).Contents (Elt Ideal) → (⟨S64x1024, .f32⟩ : BufTy).Contents (Elt Ideal)),
    StableHlo.unary main_arg6 main_v20 ((extractStridedSlice S64x1024 ![512, 0] · slices_S1024x1024_S64x1024_512_0) : (⟨S1024x1024, .f32⟩ : BufTy).Contents (Elt Ideal) → (⟨S64x1024, .f32⟩ : BufTy).Contents (Elt Ideal)),
    StableHlo.unary main_arg6 main_v21 ((extractStridedSlice S320x1024 ![704, 0] · slices_S1024x1024_S320x1024_704_0) : (⟨S1024x1024, .f32⟩ : BufTy).Contents (Elt Ideal) → (⟨S320x1024, .f32⟩ : BufTy).Contents (Elt Ideal)),
    StableHlo.nary ![main_v16, main_v17, main_v18, main_v19, main_v20, main_v21] main_v22 (fun u => runs (u 0) (u 1) (u 2) (u 3) (u 4) (u 5)),
    StableHlo.unary main_v22 main_v23 ((fun x => truncf (F := Ideal) .bf16 (x : FVec Ideal S1024x1024 .f32) bitsLt_bf16_f32) : (⟨S1024x1024, .f32⟩ : BufTy).Contents (Elt Ideal) → (⟨S1024x1024, .bf16⟩ : BufTy).Contents (Elt Ideal)),
    StableHlo.reshape main_arg7 main_v24 (rfl : (.f32 : EltTy) = .f32) shapeCasts_S1024_S1x1024,
    StableHlo.reshape main_arg8 main_v25 (rfl : (.f32 : EltTy) = .f32) shapeCasts_S1024_S1x1024,
    StableHlo.unary main_arg9 main_v26 ((fun x => truncf (F := Ideal) .bf16 (x : FVec Ideal S1024x5632 .f32) bitsLt_bf16_f32) : (⟨S1024x5632, .f32⟩ : BufTy).Contents (Elt Ideal) → (⟨S1024x5632, .bf16⟩ : BufTy).Contents (Elt Ideal)),
    StableHlo.reshape main_arg11 main_v27 (rfl : (.f32 : EltTy) = .f32) shapeCasts_S5632_S1x5632,
    StableHlo.unary main_arg12 main_v28 ((fun x => truncf (F := Ideal) .bf16 (x : FVec Ideal S2816x1024 .f32) bitsLt_bf16_f32) : (⟨S2816x1024, .f32⟩ : BufTy).Contents (Elt Ideal) → (⟨S2816x1024, .bf16⟩ : BufTy).Contents (Elt Ideal)),
    StableHlo.reshape main_arg13 main_v29 (rfl : (.f32 : EltTy) = .f32) shapeCasts_S1024_S1x1024,
    StableHlo.reshape main_arg14 main_v30 (rfl : (.f32 : EltTy) = .f32) shapeCasts_S1024_S1x1024 ] := rfl

variable (m : (ℓ : Loc nD τ sig) → Buf (Elt Ideal) ℓ)

/-- The modulation vectors: the context's, then the batch's. -/
theorem V_mods (c : Dev nD) (b : Fin 16) (s : Fin 2) (q : Fin 6) (k : Fin 1024) : (V m c main_v12 : FVec Ideal S16x2x8x1024 .f32) (ix4 b s (q.castLE (by decide)) k)
    = if s = 0 then (m ((c : Thread nD τ).loc main_arg5) : FVec Ideal S6x1024 .f32) (ix2 q k) else (m ((c : Thread nD τ).loc main_arg4) : FVec Ideal S16x6x1024 .f32) (ix3 b q k) := by
  simp only [V]
  rw [ops0_eq, ops2_eq]
  simp only [hostOps0_1, List.flatten_cons, List.flatten_nil, List.append_nil, List.cons_append, List.nil_append]
  after_results_simp
  simp only [StableHlo.TRef.toBuf, StableHlo.TRef.ofBuf, cast_eq]
  pointwise [pair]
  rw [dif_pos (show (Fin.castLE (by decide : 6 ≤ 8) q).val < 6 from q.isLt)]
  by_cases hs : s = 0
  · subst hs; rfl
  · have h1 : ¬ s.val < 1 := fun h => hs (Fin.ext (by show s.val = 0; omega))
    rw [dif_neg h1, if_neg hs]; rfl

/-- The first mixer's output. -/
theorem V_a (c : Dev nD) : V m c main_v13 = (truncf (F := Ideal) .bf16 (m ((c : Thread nD τ).loc main_arg0) : FVec Ideal S16x2304x384 .f32) bitsLt_bf16_f32 : FVec Ideal S16x2304x384 .bf16) := by
  simp only [V]
  rw [ops0_eq, ops2_eq]
  simp only [hostOps0_1, List.flatten_cons, List.flatten_nil, List.append_nil, List.cons_append, List.nil_append]
  after_results_simp

/-- The second mixer's output, its heads in the kernel's order. -/
theorem V_b (c : Dev nD) : V m c main_v14 = (truncf (F := Ideal) .bf16 (headed (m ((c : Thread nD τ).loc main_arg1) : FVec Ideal S16x2304x384 .f32)) bitsLt_bf16_f32 : FVec Ideal S16x2304x384 .bf16) := by
  simp only [V]
  rw [ops0_eq, ops2_eq]
  simp only [hostOps0_1, List.flatten_cons, List.flatten_nil, List.append_nil, List.cons_append, List.nil_append]
  after_results_simp
  rfl

/-- The third mixer's output. -/
theorem V_c (c : Dev nD) : V m c main_v15 = (truncf (F := Ideal) .bf16 (m ((c : Thread nD τ).loc main_arg2) : FVec Ideal S16x2304x256 .f32) bitsLt_bf16_f32 : FVec Ideal S16x2304x256 .bf16) := by
  simp only [V]
  rw [ops0_eq, ops2_eq]
  simp only [hostOps0_1, List.flatten_cons, List.flatten_nil, List.append_nil, List.cons_append, List.nil_append]
  after_results_simp

/-- The output projection's weights, their rows in the kernel's order. -/
theorem V_out (c : Dev nD) : V m c main_v23 = (truncf (F := Ideal) .bf16 (rowed (m ((c : Thread nD τ).loc main_arg6) : FVec Ideal S1024x1024 .f32)) bitsLt_bf16_f32 : FVec Ideal S1024x1024 .bf16) := by
  simp only [V]
  rw [ops0_eq, ops2_eq]
  simp only [hostOps0_1, List.flatten_cons, List.flatten_nil, List.append_nil, List.cons_append, List.nil_append]
  after_results_simp
  rfl

/-- The weights into the hidden columns. -/
theorem V_up (c : Dev nD) : V m c main_v26 = (truncf (F := Ideal) .bf16 (m ((c : Thread nD τ).loc main_arg9) : FVec Ideal S1024x5632 .f32) bitsLt_bf16_f32 : FVec Ideal S1024x5632 .bf16) := by
  simp only [V]
  rw [ops0_eq, ops2_eq]
  simp only [hostOps0_1, List.flatten_cons, List.flatten_nil, List.append_nil, List.cons_append, List.nil_append]
  after_results_simp

/-- The weights out of the hidden columns. -/
theorem V_down (c : Dev nD) : V m c main_v28 = (truncf (F := Ideal) .bf16 (m ((c : Thread nD τ).loc main_arg12) : FVec Ideal S2816x1024 .f32) bitsLt_bf16_f32 : FVec Ideal S2816x1024 .bf16) := by
  simp only [V]
  rw [ops0_eq, ops2_eq]
  simp only [hostOps0_1, List.flatten_cons, List.flatten_nil, List.append_nil, List.cons_append, List.nil_append]
  after_results_simp

/-- A vector as one row. -/
theorem V_g1 (c : Dev nD) : V m c main_v24 = (shapeCast S1x1024 (m ((c : Thread nD τ).loc main_arg7) : FVec Ideal S1024 .f32) shapeCasts_S1024_S1x1024 : FVec Ideal S1x1024 .f32) := by
  simp only [V]
  rw [ops0_eq, ops2_eq]
  simp only [hostOps0_1, List.flatten_cons, List.flatten_nil, List.append_nil, List.cons_append, List.nil_append]
  after_results_simp
  rfl

/-- A vector as one row. -/
theorem V_b1 (c : Dev nD) : V m c main_v25 = (shapeCast S1x1024 (m ((c : Thread nD τ).loc main_arg8) : FVec Ideal S1024 .f32) shapeCasts_S1024_S1x1024 : FVec Ideal S1x1024 .f32) := by
  simp only [V]
  rw [ops0_eq, ops2_eq]
  simp only [hostOps0_1, List.flatten_cons, List.flatten_nil, List.append_nil, List.cons_append, List.nil_append]
  after_results_simp
  rfl

/-- A vector as one row. -/
theorem V_offset (c : Dev nD) : V m c main_v27 = (shapeCast S1x5632 (m ((c : Thread nD τ).loc main_arg11) : FVec Ideal S5632 .f32) shapeCasts_S5632_S1x5632 : FVec Ideal S1x5632 .f32) := by
  simp only [V]
  rw [ops0_eq, ops2_eq]
  simp only [hostOps0_1, List.flatten_cons, List.flatten_nil, List.append_nil, List.cons_append, List.nil_append]
  after_results_simp
  rfl

/-- A vector as one row. -/
theorem V_g2 (c : Dev nD) : V m c main_v29 = (shapeCast S1x1024 (m ((c : Thread nD τ).loc main_arg13) : FVec Ideal S1024 .f32) shapeCasts_S1024_S1x1024 : FVec Ideal S1x1024 .f32) := by
  simp only [V]
  rw [ops0_eq, ops2_eq]
  simp only [hostOps0_1, List.flatten_cons, List.flatten_nil, List.append_nil, List.cons_append, List.nil_append]
  after_results_simp
  rfl

/-- A vector as one row. -/
theorem V_b2 (c : Dev nD) : V m c main_v30 = (shapeCast S1x1024 (m ((c : Thread nD τ).loc main_arg14) : FVec Ideal S1024 .f32) shapeCasts_S1024_S1x1024 : FVec Ideal S1x1024 .f32) := by
  simp only [V]
  rw [ops0_eq, ops2_eq]
  simp only [hostOps0_1, List.flatten_cons, List.flatten_nil, List.append_nil, List.cons_append, List.nil_append]
  after_results_simp
  rfl

end Cert.Ffn2
-- ==== Proof.FfnSlab.lean ====
/-
  The rows that a tile gathers from its blocks.
-/
module

public import proofs.«01_k».proof.Proof.FfnHost2

@[expose] public section

set_option maxRecDepth 16384

noncomputable section

namespace Cert.Ffn

open Idealize.ShloMosaic Idealize.ShloMosaic.TcCoe Cert.Layer
open Cert.Kernel2Ideal Cert.Kernel2Ideal.Gen

/-- Row `g` of an array, where it has one. -/
def rowAt {w : ℕ} (x : Fin 2304 → Fin w → EReal) (g : ℕ) : Fin w → EReal := if h : g < 2304 then x ⟨g, h⟩ else fun _ => 0

theorem rowAt_of {w : ℕ} (x : Fin 2304 → Fin w → EReal) (g : ℕ) (h : g < 2304) : rowAt x g = x ⟨g, h⟩ := dif_pos h

/-- The three mixers' columns side by side. -/
def mixed (a b : Fin 384 → EReal) (c : Fin 256 → EReal) (q : Fin 1024) : EReal :=
  if h : q.val < 384 then a ⟨q.val, h⟩ else if h' : q.val - 384 < 384 then b ⟨q.val - 384, h'⟩ else c ⟨q.val - 384 - 384, by omega⟩

/-- The three mixers' rows side by side. -/
def columns (u v : FVec Ideal S288x384 .bf16) (w : FVec Ideal S288x256 .bf16) : FVec Ideal S288x1024 .bf16 :=
  concatenate S288x1024 1 [⟨S288x384, u⟩, ⟨S288x384, v⟩, ⟨S288x256, w⟩] concatenates_S288x384_S288x384_S288x256_S288x1024_d1

theorem columns_apply (u v : FVec Ideal S288x384 .bf16) (w : FVec Ideal S288x256 .bf16) (e : Fin 288) (q : Fin 1024) :
    columns u v w (ix2 e q) = mixed (fun q => u (ix2 e q)) (fun q => v (ix2 e q)) (fun q => w (ix2 e q)) q := by
  pointwise [columns, mixed]

theorem join_apply (p : Vec Ideal S1x16x384 .bf16) (a : Vec Ideal S1x256x384 .bf16) (n : Vec Ideal S1x16x384 .bf16) (e : Fin 288) (q : Fin 384) :
    k0_pay3 p a n (ix2 e q) = if h : e.val < 16 then p (ix3 0 ⟨e.val, h⟩ q) else if h' : e.val - 16 < 256 then a (ix3 0 ⟨e.val - 16, h'⟩ q)
      else n (ix3 0 ⟨e.val - 16 - 256, by omega⟩ q) := by
  pointwise [k0_pay3]

/-- Two halos and a tile of the third mixer's rows. -/
def joined (p : Vec Ideal S1x16x256 .bf16) (a : Vec Ideal S1x256x256 .bf16) (n : Vec Ideal S1x16x256 .bf16) : FVec Ideal S288x256 .bf16 :=
  concatenate S288x256 0 [⟨S16x256, shapeCast S16x256 p shapeCasts_S1x16x256_S16x256⟩, ⟨S256x256, shapeCast S256x256 a shapeCasts_S1x256x256_S256x256⟩,
      ⟨S16x256, shapeCast S16x256 n shapeCasts_S1x16x256_S16x256⟩] concatenates_S16x256_S256x256_S16x256_S288x256_d0

theorem joined_apply (p : Vec Ideal S1x16x256 .bf16) (a : Vec Ideal S1x256x256 .bf16) (n : Vec Ideal S1x16x256 .bf16) (e : Fin 288) (q : Fin 256) :
    joined p a n (ix2 e q) = if h : e.val < 16 then p (ix3 0 ⟨e.val, h⟩ q) else if h' : e.val - 16 < 256 then a (ix3 0 ⟨e.val - 16, h'⟩ q)
      else n (ix3 0 ⟨e.val - 16 - 256, by omega⟩ q) := by
  pointwise [joined]

theorem residuals_apply (p : Vec Ideal S1x8x1024 .f32) (x : Vec Ideal S1x256x1024 .f32) (n : Vec Ideal S1x8x1024 .f32) (e : Fin 272) (k : Fin 1024) :
    residuals p x n (ix2 e k) = if h : e.val < 8 then p (ix3 0 ⟨e.val, h⟩ k) else if h' : e.val - 8 < 256 then x (ix3 0 ⟨e.val - 8, h'⟩ k)
      else n (ix3 0 ⟨e.val - 8 - 256, by omega⟩ k) := by
  pointwise [residuals]

theorem tokens_eq (pa : Vec Ideal S1x16x384 .bf16) (a : Vec Ideal S1x256x384 .bf16) (na pb : Vec Ideal S1x16x384 .bf16) (b : Vec Ideal S1x256x384 .bf16)
    (nb : Vec Ideal S1x16x384 .bf16) (pc : Vec Ideal S1x16x256 .bf16) (c : Vec Ideal S1x256x256 .bf16) (nc : Vec Ideal S1x16x256 .bf16) :
    tokens pa a na pb b nb pc c nc = columns (k0_pay3 pa a na) (k0_pay3 pb b nb) (joined pc c nc) := rfl

/-- A gathered row is the array's: the tile starts at row `s`, and the halos hold the rows around it where `lo` and `hi` say. -/
theorem gathered {w : ℕ} {lo hi : Prop} (H M s : ℕ) (x : ℕ → Fin w → EReal) (p : Fin H → Fin w → EReal) (a : Fin M → Fin w → EReal) (n : Fin H → Fin w → EReal)
    (hp : lo → ∀ r q, p r q = x (s + r.val - H) q) (ha : ∀ r q, a r q = x (s + r.val) q) (hn : hi → ∀ r q, n r q = x (s + M + r.val) q)
    (e : Fin (H + M + H)) (h1 : H ≤ e.val ∨ lo) (h2 : e.val < H + M ∨ hi) (q : Fin w) :
    (if h : e.val < H then p ⟨e.val, h⟩ q else if h' : e.val - H < M then a ⟨e.val - H, h'⟩ q else n ⟨e.val - H - M, by omega⟩ q) = x (s + e.val - H) q := by
  split_ifs with h h'
  · exact hp (h1.resolve_left (by omega)) _ q
  · rw [ha]; congr 1; show s + (e.val - H) = _; omega
  · rw [hn (h2.resolve_left (by omega))]; congr 1; show s + M + (e.val - H - M) = _; omega

theorem tileMods_apply (T : Fin 9) (c l : Vec Ideal S1x1x8x1024 .f32) (q : Fin 8) (k : Fin 1024) :
    tileMods (BitVec.ofNat 32 T.val) c l (ix2 q k) = if T = 0 then c (ix4 0 0 q k) else l (ix4 0 0 q k) := by
  have hT : ∀ T : Fin 9, Scalar.cmpi .eq (BitVec.ofNat 32 T.val) 0#32 = if T = 0 then 1#1 else 0#1 := by decide
  unfold tileMods
  rw [hT]
  by_cases h : T = 0
  · rw [if_pos h, if_pos h]
    pointwise
  · rw [if_neg h, if_neg h]
    pointwise

/-- The column of the mixers' outputs that stands at column `q` of the kernel's. -/
theorem mixed_rowOf (a b : Fin 384 → EReal) (c : Fin 256 → EReal) (q : Fin 1024) : mixed a (fun q => b (headOf q)) c q = mixed a b c (rowOf q) := by
  have h : ∀ q : Fin 1024, (q.val < 384 → rowOf q = q) ∧ ((h : ¬ q.val < 384 ∧ q.val - 384 < 384) → (rowOf q).val = 384 + (headOf ⟨q.val - 384, h.2⟩).val)
      ∧ (¬ q.val < 384 → ¬ q.val - 384 < 384 → rowOf q = q) := by decide +kernel
  obtain ⟨h1, h2, h3⟩ := h q
  by_cases ha : q.val < 384
  · rw [h1 ha]; unfold mixed; rw [dif_pos ha, dif_pos ha]
  by_cases hb : q.val - 384 < 384
  · have e := h2 ⟨ha, hb⟩
    have hlt := (headOf ⟨q.val - 384, hb⟩).isLt
    unfold mixed
    rw [dif_neg ha, dif_pos hb, dif_neg (by omega), dif_pos (by omega)]
    exact congrArg b (Fin.ext (by show (headOf ⟨q.val - 384, hb⟩).val = (rowOf q).val - 384; omega))
  · rw [h3 ha hb]; unfold mixed; rw [dif_neg ha, dif_neg hb, dif_neg ha, dif_neg hb]

/-- The place in the kernel's order of a row of the weights. -/
def rowBack (q : Fin 1024) : Fin 1024 :=
  if q.val < 448 then q else if h : q.val < 512 then ⟨64 + q.val, by omega⟩ else if h : q.val < 576 then ⟨128 + q.val, by omega⟩
  else if q.val < 640 then ⟨q.val - 128, by omega⟩ else if q.val < 704 then ⟨q.val - 64, by omega⟩ else q

theorem rowOf_bijective : Function.Bijective rowOf :=
  Finite.injective_iff_bijective.1 (Function.LeftInverse.injective (g := rowBack) (by decide +kernel : ∀ q, rowBack (rowOf q) = q))

/-- A product of rows taken in the kernel's order. -/
theorem mulRow_rowOf (w : Fin 1024 → Fin 1024 → EReal) (f : Fin 1024 → EReal) : mulRow (fun q => w (rowOf q)) (fun q => f (rowOf q)) = mulRow w f := by
  funext k
  exact rowOf_bijective.sum_comp fun q => f q * w q k

/-- The rows after the block do not change when the mixers' columns and the weights' rows are both in the kernel's order. -/
theorem layerRow_rowOf (W : Weights) (mods : Fin 6 → Fin 1024 → EReal) {n : ℕ} (X Y : Fin n → Fin 1024 → EReal) :
    layerRow { W with out := fun q => W.out (rowOf q) } mods X (fun r q => Y r (rowOf q)) = layerRow W mods X Y := by
  have h : ∀ x y, firstRow { W with out := fun q => W.out (rowOf q) } mods x (fun q => y (rowOf q)) = firstRow W mods x y := by
    intro x y
    unfold firstRow
    dsimp only
    rw [mulRow_rowOf]
  funext r
  unfold layerRow
  simp only [h]
  rfl

end Cert.Ffn
-- ==== Proof.FfnBlocks2.lean ====
/-
  What a grid point of the last layer's call reads.
-/
module

public import proofs.«01_k».proof.Proof.FfnSlab

@[expose] public section

set_option maxRecDepth 16384

noncomputable section

namespace Cert.Ffn2

open Idealize.ShloMosaic Idealize.ShloMosaic.TcCoe Idealize.SL.Sem Cert.Layer
open Cert.Kernel2Ideal Cert.Kernel2Ideal.Gen Cert.Ffn

/-- The blocks that a grid point reads: a batch's tile of the latents, and the blocks of rows before and after it. -/
theorem idx : ∀ t : Fin cfg0.N,
    (win0_0.index t = ![(grid0.coords t 0).val, max (16 + 16 * (grid0.coords t 1).val - 1) 16, 0] ∧ win0_1.index t = ![(grid0.coords t 0).val, (grid0.coords t 1).val + 1, 0]
      ∧ win0_2.index t = ![(grid0.coords t 0).val, min (16 + 16 * ((grid0.coords t 1).val + 1)) 143, 0])
    ∧ (win0_3.index t = win0_0.index t ∧ win0_4.index t = win0_1.index t ∧ win0_5.index t = win0_2.index t)
    ∧ (win0_6.index t = win0_0.index t ∧ win0_7.index t = win0_1.index t ∧ win0_8.index t = win0_2.index t)
    ∧ (win0_9.index t = ![(grid0.coords t 0).val, max (32 + 32 * (grid0.coords t 1).val - 1) 32, 0] ∧ win0_10.index t = win0_1.index t
      ∧ win0_11.index t = ![(grid0.coords t 0).val, min (32 + 32 * ((grid0.coords t 1).val + 1)) 287, 0])
    ∧ win0_12.index t = ![(grid0.coords t 0).val, 0, 0, 0]
    ∧ (win0_13.index t = ![0, 0] ∧ win0_14.index t = ![0, 0] ∧ win0_15.index t = ![0, 0] ∧ win0_16.index t = ![0, 0] ∧ win0_17.index t = ![0, 0]
      ∧ win0_18.index t = ![0, 0] ∧ win0_19.index t = ![0, 0] ∧ win0_20.index t = ![0, 0] ∧ win0_21.index t = ![0, 0])
    ∧ win0_22.index t = ![(grid0.coords t 0).val, (grid0.coords t 1).val, 0] :=
  (by decide +kernel : ∀ t : Fin grid0.N, _)

/-- The batch of a grid point. -/
abbrev batch (t : Fin cfg0.N) : Fin 16 := ⟨((grid0.coords t) 0).val, ((grid0.coords t) 0).isLt⟩

/-- The tile of a grid point: the latents start at tile 1. -/
abbrev tile (t : Fin cfg0.N) : Fin 9 := ⟨((grid0.coords t) 1).val + 1, by have : ((grid0.coords t) 1).val < 8 := ((grid0.coords t) 1).isLt; omega⟩

theorem tile_lt (t : Fin cfg0.N) : ((grid0.coords t) 1).val < 8 := ((grid0.coords t) 1).isLt

variable (m : (ℓ : Loc nD τ sig) → Buf (Elt Ideal) ℓ)

/-- The mixers' rows and the layer's rows of a batch. -/
def inA (c : Dev nD) (b : Fin 16) (r : Fin 2304) (q : Fin 384) : EReal := (m ((c : Thread nD τ).loc main_arg0) : FVec Ideal S16x2304x384 .f32) (ix3 b r q)
def inB (c : Dev nD) (b : Fin 16) (r : Fin 2304) (q : Fin 384) : EReal := (m ((c : Thread nD τ).loc main_arg1) : FVec Ideal S16x2304x384 .f32) (ix3 b r q)
def inC (c : Dev nD) (b : Fin 16) (r : Fin 2304) (q : Fin 256) : EReal := (m ((c : Thread nD τ).loc main_arg2) : FVec Ideal S16x2304x256 .f32) (ix3 b r q)
def inX (c : Dev nD) (b : Fin 16) (r : Fin 2304) (q : Fin 1024) : EReal := (m ((c : Thread nD τ).loc main_arg3) : FVec Ideal S16x2304x1024 .f32) (ix3 b r q)

theorem at_A (c : Dev nD) (b : Fin 16) (r : Fin 2304) (q : Fin 384) : (V m c main_v13 : FVec Ideal S16x2304x384 .bf16) (ix3 b r q) = inA m c b r q := by
  rw [V_a]; rfl

theorem at_B (c : Dev nD) (b : Fin 16) (r : Fin 2304) (q : Fin 384) : (V m c main_v14 : FVec Ideal S16x2304x384 .bf16) (ix3 b r q) = inB m c b r (headOf q) := by
  rw [V_b]; exact headed_apply _ b r q

theorem at_C (c : Dev nD) (b : Fin 16) (r : Fin 2304) (q : Fin 256) : (V m c main_v15 : FVec Ideal S16x2304x256 .bf16) (ix3 b r q) = inC m c b r q := by
  rw [V_c]; rfl

theorem at_X (c : Dev nD) (b : Fin 16) (r : Fin 2304) (q : Fin 1024) : (V m c main_arg3 : FVec Ideal S16x2304x1024 .f32) (ix3 b r q) = inX m c b r q := by
  rfl

theorem block0 (c : Dev nD) (t : Fin cfg0.N) (h : 1 ≤ ((grid0.coords t) 1).val) (r : Fin 16) (q : Fin 384) :
    (iblk m c 0 t : Vec Ideal S1x16x384 .bf16) (ix3 0 r q) = rowAt (inA m c (batch t)) (256 * (tile t).val + r.val - 16) q := by
  have ht := tile_lt t
  have hr : 16 * max (16 + 16 * ((grid0.coords t) 1).val - 1) 16 + r.val < 2304 := by omega
  have e : (iblk m c 0 t : Vec Ideal S1x16x384 .bf16) (ix3 0 r q) = (V m c main_v13 : FVec Ideal S16x2304x384 .bf16) (ix3 (batch t) ⟨16 * max (16 + 16 * ((grid0.coords t) 1).val - 1) 16 + r.val, hr⟩ q) := by
    blk_ext [iblk, idx t]
  have g : 256 * (tile t).val + r.val - 16 = 16 * max (16 + 16 * ((grid0.coords t) 1).val - 1) 16 + r.val := by
    show 256 * (((grid0.coords t) 1).val + 1) + r.val - 16 = _
    omega
  exact (e.trans (at_A m c (batch t) _ q)).trans (congrFun ((congrArg (rowAt (inA m c (batch t))) g).trans (rowAt_of _ _ hr)) _).symm

theorem block1 (c : Dev nD) (t : Fin cfg0.N) (r : Fin 256) (q : Fin 384) :
    (iblk m c 1 t : Vec Ideal S1x256x384 .bf16) (ix3 0 r q) = rowAt (inA m c (batch t)) (256 * (tile t).val + r.val) q := by
  have ht := tile_lt t
  have hr : 256 * (((grid0.coords t) 1).val + 1) + r.val < 2304 := by omega
  have e : (iblk m c 1 t : Vec Ideal S1x256x384 .bf16) (ix3 0 r q) = (V m c main_v13 : FVec Ideal S16x2304x384 .bf16) (ix3 (batch t) ⟨256 * (((grid0.coords t) 1).val + 1) + r.val, hr⟩ q) := by
    blk_ext [iblk, idx t]
  have g : 256 * (tile t).val + r.val = 256 * (((grid0.coords t) 1).val + 1) + r.val := by
    show 256 * (((grid0.coords t) 1).val + 1) + r.val = _
    omega
  exact (e.trans (at_A m c (batch t) _ q)).trans (congrFun ((congrArg (rowAt (inA m c (batch t))) g).trans (rowAt_of _ _ hr)) _).symm

theorem block2 (c : Dev nD) (t : Fin cfg0.N) (h : ((grid0.coords t) 1).val < 7) (r : Fin 16) (q : Fin 384) :
    (iblk m c 2 t : Vec Ideal S1x16x384 .bf16) (ix3 0 r q) = rowAt (inA m c (batch t)) (256 * (tile t).val + 256 + r.val) q := by
  have ht := tile_lt t
  have hr : 16 * min (16 + 16 * (((grid0.coords t) 1).val + 1)) 143 + r.val < 2304 := by omega
  have e : (iblk m c 2 t : Vec Ideal S1x16x384 .bf16) (ix3 0 r q) = (V m c main_v13 : FVec Ideal S16x2304x384 .bf16) (ix3 (batch t) ⟨16 * min (16 + 16 * (((grid0.coords t) 1).val + 1)) 143 + r.val, hr⟩ q) := by
    blk_ext [iblk, idx t]
  have g : 256 * (tile t).val + 256 + r.val = 16 * min (16 + 16 * (((grid0.coords t) 1).val + 1)) 143 + r.val := by
    show 256 * (((grid0.coords t) 1).val + 1) + 256 + r.val = _
    omega
  exact (e.trans (at_A m c (batch t) _ q)).trans (congrFun ((congrArg (rowAt (inA m c (batch t))) g).trans (rowAt_of _ _ hr)) _).symm

theorem block3 (c : Dev nD) (t : Fin cfg0.N) (h : 1 ≤ ((grid0.coords t) 1).val) (r : Fin 16) (q : Fin 384) :
    (iblk m c 3 t : Vec Ideal S1x16x384 .bf16) (ix3 0 r q) = rowAt (inB m c (batch t)) (256 * (tile t).val + r.val - 16) (headOf q) := by
  have ht := tile_lt t
  have hr : 16 * max (16 + 16 * ((grid0.coords t) 1).val - 1) 16 + r.val < 2304 := by omega
  have e : (iblk m c 3 t : Vec Ideal S1x16x384 .bf16) (ix3 0 r q) = (V m c main_v14 : FVec Ideal S16x2304x384 .bf16) (ix3 (batch t) ⟨16 * max (16 + 16 * ((grid0.coords t) 1).val - 1) 16 + r.val, hr⟩ q) := by
    blk_ext [iblk, idx t]
  have g : 256 * (tile t).val + r.val - 16 = 16 * max (16 + 16 * ((grid0.coords t) 1).val - 1) 16 + r.val := by
    show 256 * (((grid0.coords t) 1).val + 1) + r.val - 16 = _
    omega
  exact (e.trans (at_B m c (batch t) _ q)).trans (congrFun ((congrArg (rowAt (inB m c (batch t))) g).trans (rowAt_of _ _ hr)) _).symm

theorem block4 (c : Dev nD) (t : Fin cfg0.N) (r : Fin 256) (q : Fin 384) :
    (iblk m c 4 t : Vec Ideal S1x256x384 .bf16) (ix3 0 r q) = rowAt (inB m c (batch t)) (256 * (tile t).val + r.val) (headOf q) := by
  have ht := tile_lt t
  have hr : 256 * (((grid0.coords t) 1).val + 1) + r.val < 2304 := by omega
  have e : (iblk m c 4 t : Vec Ideal S1x256x384 .bf16) (ix3 0 r q) = (V m c main_v14 : FVec Ideal S16x2304x384 .bf16) (ix3 (batch t) ⟨256 * (((grid0.coords t) 1).val + 1) + r.val, hr⟩ q) := by
    blk_ext [iblk, idx t]
  have g : 256 * (tile t).val + r.val = 256 * (((grid0.coords t) 1).val + 1) + r.val := by
    show 256 * (((grid0.coords t) 1).val + 1) + r.val = _
    omega
  exact (e.trans (at_B m c (batch t) _ q)).trans (congrFun ((congrArg (rowAt (inB m c (batch t))) g).trans (rowAt_of _ _ hr)) _).symm

theorem block5 (c : Dev nD) (t : Fin cfg0.N) (h : ((grid0.coords t) 1).val < 7) (r : Fin 16) (q : Fin 384) :
    (iblk m c 5 t : Vec Ideal S1x16x384 .bf16) (ix3 0 r q) = rowAt (inB m c (batch t)) (256 * (tile t).val + 256 + r.val) (headOf q) := by
  have ht := tile_lt t
  have hr : 16 * min (16 + 16 * (((grid0.coords t) 1).val + 1)) 143 + r.val < 2304 := by omega
  have e : (iblk m c 5 t : Vec Ideal S1x16x384 .bf16) (ix3 0 r q) = (V m c main_v14 : FVec Ideal S16x2304x384 .bf16) (ix3 (batch t) ⟨16 * min (16 + 16 * (((grid0.coords t) 1).val + 1)) 143 + r.val, hr⟩ q) := by
    blk_ext [iblk, idx t]
  have g : 256 * (tile t).val + 256 + r.val = 16 * min (16 + 16 * (((grid0.coords t) 1).val + 1)) 143 + r.val := by
    show 256 * (((grid0.coords t) 1).val + 1) + 256 + r.val = _
    omega
  exact (e.trans (at_B m c (batch t) _ q)).trans (congrFun ((congrArg (rowAt (inB m c (batch t))) g).trans (rowAt_of _ _ hr)) _).symm

theorem block6 (c : Dev nD) (t : Fin cfg0.N) (h : 1 ≤ ((grid0.coords t) 1).val) (r : Fin 16) (q : Fin 256) :
    (iblk m c 6 t : Vec Ideal S1x16x256 .bf16) (ix3 0 r q) = rowAt (inC m c (batch t)) (256 * (tile t).val + r.val - 16) q := by
  have ht := tile_lt t
  have hr : 16 * max (16 + 16 * ((grid0.coords t) 1).val - 1) 16 + r.val < 2304 := by omega
  have e : (iblk m c 6 t : Vec Ideal S1x16x256 .bf16) (ix3 0 r q) = (V m c main_v15 : FVec Ideal S16x2304x256 .bf16) (ix3 (batch t) ⟨16 * max (16 + 16 * ((grid0.coords t) 1).val - 1) 16 + r.val, hr⟩ q) := by
    blk_ext [iblk, idx t]
  have g : 256 * (tile t).val + r.val - 16 = 16 * max (16 + 16 * ((grid0.coords t) 1).val - 1) 16 + r.val := by
    show 256 * (((grid0.coords t) 1).val + 1) + r.val - 16 = _
    omega
  exact (e.trans (at_C m c (batch t) _ q)).trans (congrFun ((congrArg (rowAt (inC m c (batch t))) g).trans (rowAt_of _ _ hr)) _).symm

theorem block7 (c : Dev nD) (t : Fin cfg0.N) (r : Fin 256) (q : Fin 256) :
    (iblk m c 7 t : Vec Ideal S1x256x256 .bf16) (ix3 0 r q) = rowAt (inC m c (batch t)) (256 * (tile t).val + r.val) q := by
  have ht := tile_lt t
  have hr : 256 * (((grid0.coords t) 1).val + 1) + r.val < 2304 := by omega
  have e : (iblk m c 7 t : Vec Ideal S1x256x256 .bf16) (ix3 0 r q) = (V m c main_v15 : FVec Ideal S16x2304x256 .bf16) (ix3 (batch t) ⟨256 * (((grid0.coords t) 1).val + 1) + r.val, hr⟩ q) := by
    blk_ext [iblk, idx t]
  have g : 256 * (tile t).val + r.val = 256 * (((grid0.coords t) 1).val + 1) + r.val := by
    show 256 * (((grid0.coords t) 1).val + 1) + r.val = _
    omega
  exact (e.trans (at_C m c (batch t) _ q)).trans (congrFun ((congrArg (rowAt (inC m c (batch t))) g).trans (rowAt_of _ _ hr)) _).symm

theorem block8 (c : Dev nD) (t : Fin cfg0.N) (h : ((grid0.coords t) 1).val < 7) (r : Fin 16) (q : Fin 256) :
    (iblk m c 8 t : Vec Ideal S1x16x256 .bf16) (ix3 0 r q) = rowAt (inC m c (batch t)) (256 * (tile t).val + 256 + r.val) q := by
  have ht := tile_lt t
  have hr : 16 * min (16 + 16 * (((grid0.coords t) 1).val + 1)) 143 + r.val < 2304 := by omega
  have e : (iblk m c 8 t : Vec Ideal S1x16x256 .bf16) (ix3 0 r q) = (V m c main_v15 : FVec Ideal S16x2304x256 .bf16) (ix3 (batch t) ⟨16 * min (16 + 16 * (((grid0.coords t) 1).val + 1)) 143 + r.val, hr⟩ q) := by
    blk_ext [iblk, idx t]
  have g : 256 * (tile t).val + 256 + r.val = 16 * min (16 + 16 * (((grid0.coords t) 1).val + 1)) 143 + r.val := by
    show 256 * (((grid0.coords t) 1).val + 1) + 256 + r.val = _
    omega
  exact (e.trans (at_C m c (batch t) _ q)).trans (congrFun ((congrArg (rowAt (inC m c (batch t))) g).trans (rowAt_of _ _ hr)) _).symm

theorem block9 (c : Dev nD) (t : Fin cfg0.N) (h : 1 ≤ ((grid0.coords t) 1).val) (r : Fin 8) (q : Fin 1024) :
    (iblk m c 9 t : Vec Ideal S1x8x1024 .f32) (ix3 0 r q) = rowAt (inX m c (batch t)) (256 * (tile t).val + r.val - 8) q := by
  have ht := tile_lt t
  have hr : 8 * max (32 + 32 * ((grid0.coords t) 1).val - 1) 32 + r.val < 2304 := by omega
  have e : (iblk m c 9 t : Vec Ideal S1x8x1024 .f32) (ix3 0 r q) = (V m c main_arg3 : FVec Ideal S16x2304x1024 .f32) (ix3 (batch t) ⟨8 * max (32 + 32 * ((grid0.coords t) 1).val - 1) 32 + r.val, hr⟩ q) := by
    blk_ext [iblk, idx t]
  have g : 256 * (tile t).val + r.val - 8 = 8 * max (32 + 32 * ((grid0.coords t) 1).val - 1) 32 + r.val := by
    show 256 * (((grid0.coords t) 1).val + 1) + r.val - 8 = _
    omega
  exact (e.trans (at_X m c (batch t) _ q)).trans (congrFun ((congrArg (rowAt (inX m c (batch t))) g).trans (rowAt_of _ _ hr)) _).symm

theorem block10 (c : Dev nD) (t : Fin cfg0.N) (r : Fin 256) (q : Fin 1024) :
    (iblk m c 10 t : Vec Ideal S1x256x1024 .f32) (ix3 0 r q) = rowAt (inX m c (batch t)) (256 * (tile t).val + r.val) q := by
  have ht := tile_lt t
  have hr : 256 * (((grid0.coords t) 1).val + 1) + r.val < 2304 := by omega
  have e : (iblk m c 10 t : Vec Ideal S1x256x1024 .f32) (ix3 0 r q) = (V m c main_arg3 : FVec Ideal S16x2304x1024 .f32) (ix3 (batch t) ⟨256 * (((grid0.coords t) 1).val + 1) + r.val, hr⟩ q) := by
    blk_ext [iblk, idx t]
  have g : 256 * (tile t).val + r.val = 256 * (((grid0.coords t) 1).val + 1) + r.val := by
    show 256 * (((grid0.coords t) 1).val + 1) + r.val = _
    omega
  exact (e.trans (at_X m c (batch t) _ q)).trans (congrFun ((congrArg (rowAt (inX m c (batch t))) g).trans (rowAt_of _ _ hr)) _).symm

theorem block11 (c : Dev nD) (t : Fin cfg0.N) (h : ((grid0.coords t) 1).val < 7) (r : Fin 8) (q : Fin 1024) :
    (iblk m c 11 t : Vec Ideal S1x8x1024 .f32) (ix3 0 r q) = rowAt (inX m c (batch t)) (256 * (tile t).val + 256 + r.val) q := by
  have ht := tile_lt t
  have hr : 8 * min (32 + 32 * (((grid0.coords t) 1).val + 1)) 287 + r.val < 2304 := by omega
  have e : (iblk m c 11 t : Vec Ideal S1x8x1024 .f32) (ix3 0 r q) = (V m c main_arg3 : FVec Ideal S16x2304x1024 .f32) (ix3 (batch t) ⟨8 * min (32 + 32 * (((grid0.coords t) 1).val + 1)) 287 + r.val, hr⟩ q) := by
    blk_ext [iblk, idx t]
  have g : 256 * (tile t).val + 256 + r.val = 8 * min (32 + 32 * (((grid0.coords t) 1).val + 1)) 287 + r.val := by
    show 256 * (((grid0.coords t) 1).val + 1) + 256 + r.val = _
    omega
  exact (e.trans (at_X m c (batch t) _ q)).trans (congrFun ((congrArg (rowAt (inX m c (batch t))) g).trans (rowAt_of _ _ hr)) _).symm

end Cert.Ffn2
-- ==== Proof.FfnAt.lean ====
/-
  What a tile stores, as the rows of the context's or the latents' sequence after the block.
-/
module

public import proofs.«01_k».proof.Proof.FfnSlab

@[expose] public section

set_option maxRecDepth 16384

noncomputable section

namespace Cert.Ffn

open Idealize.ShloMosaic Idealize.ShloMosaic.TcCoe Cert.Layer
open Cert.Kernel2Ideal Cert.Kernel2Ideal.Gen

/-- A vector as one row. -/
theorem flat1024 (v : FVec Ideal S1024 .f32) (k : Fin 1024) : shapeCast S1x1024 v shapeCasts_S1024_S1x1024 (ix2 0 k) = v (ix1 k) := by pointwise

set_option maxHeartbeats 1000000 in
theorem flat5632 (v : FVec Ideal S5632 .f32) (k : Fin 5632) : shapeCast S1x5632 v shapeCasts_S5632_S1x5632 (ix2 0 k) = v (ix1 k) := by pointwise

/-- The rows of the context's sequence, the first 256. -/
def ctx {α : Type} (x : Fin 2304 → α) (r : Fin 256) : α := x ⟨r.val, by omega⟩

/-- The rows of the latents' sequence, those after the context's. -/
def lat {α : Type} (x : Fin 2304 → α) (r : Fin 2048) : α := x ⟨256 + r.val, by omega⟩

/-- A row after the block: the context and the latents are two sequences, each with its own modulation. -/
def layerAt (W : Weights) (modsC modsL : Fin 6 → Fin 1024 → EReal) (x y : Fin 2304 → Fin 1024 → EReal) (r : Fin 2304) : Fin 1024 → EReal :=
  if h : r.val < 256 then layerRow W modsC (ctx x) (ctx y) ⟨r.val, h⟩ else layerRow W modsL (lat x) (lat y) ⟨r.val - 256, by omega⟩

theorem layerAt_ctx (W : Weights) (modsC modsL : Fin 6 → Fin 1024 → EReal) (x y : Fin 2304 → Fin 1024 → EReal) (r : Fin 256) :
    layerAt W modsC modsL x y ⟨r.val, by omega⟩ = layerRow W modsC (ctx x) (ctx y) r := dif_pos r.isLt

theorem layerAt_lat (W : Weights) (modsC modsL : Fin 6 → Fin 1024 → EReal) (x y : Fin 2304 → Fin 1024 → EReal) (r : Fin 2048) :
    layerAt W modsC modsL x y ⟨256 + r.val, by omega⟩ = layerRow W modsL (lat x) (lat y) r := by
  unfold layerAt
  rw [dif_neg (by show ¬ 256 + r.val < 256; omega)]
  exact congrArg _ (Fin.ext (Nat.add_sub_cancel_left 256 r.val))

/-- The mixers' rows, side by side. -/
def sides (a b : Fin 2304 → Fin 384 → EReal) (c : Fin 2304 → Fin 256 → EReal) (r : Fin 2304) : Fin 1024 → EReal := mixed (a r) (b r) (c r)

section

variable (T : Fin 9) (mods : FVec Ideal S8x1024 .f32) (tok : FVec Ideal S288x1024 .bf16) (w : Vec Ideal S1024x1024 .bf16) (xs : FVec Ideal S272x1024 .f32)
  (g1 b1 : Vec Ideal S1x1024 .f32) (x16 : Vec Ideal S1024x5632 .bf16) (x17 : Vec Ideal S3x5632 .f32)
  (x18 : Vec Ideal S1x5632 .f32) (x19 : Vec Ideal S2816x1024 .bf16) (g2 b2 : Vec Ideal S1x1024 .f32)
  (W : Weights) (modsC modsL : Fin 6 → Fin 1024 → EReal) (a b : Fin 2304 → Fin 384 → EReal) (c : Fin 2304 → Fin 256 → EReal) (x : Fin 2304 → Fin 1024 → EReal)

theorem tile_eq (hW : weights w g1 b1 x16 x17 x18 x19 g2 b2 = { W with out := fun q => W.out (rowOf q) })
    (hm : vectors mods = if T = 0 then modsC else modsL)
    (hx : ∀ e : Fin 272, keep T.val e.val → ∀ k, xs (ix2 e k) = rowAt x (256 * T.val + e.val - 8) k)
    (hy : ∀ e : Fin 272, keep T.val e.val → ∀ q, tok (ix2 ⟨8 + e.val, by omega⟩ q)
      = mixed (rowAt a (256 * T.val + e.val - 8)) (fun q => rowAt b (256 * T.val + e.val - 8) (headOf q)) (rowAt c (256 * T.val + e.val - 8)) q)
    (r : Fin 256) (k : Fin 1024) :
    finish (BitVec.ofNat 32 T.val) mods (affine272 (branch mods tok w xs) g1 b1) x16 x17 x18 x19 g2 b2 (ix3 0 r k)
      = layerAt W modsC modsL x (sides a b c) ⟨256 * T.val + r.val, by omega⟩ k := by
  have hy' : ∀ (e : Fin 272) (h : keep T.val e.val) (hg : 256 * T.val + e.val - 8 < 2304) q, tok (ix2 ⟨8 + e.val, by omega⟩ q) = sides a b c ⟨256 * T.val + e.val - 8, hg⟩ (rowOf q) := by
    intro e h hg q
    rw [hy e h, rowAt_of _ _ hg, rowAt_of _ _ hg, rowAt_of _ _ hg]
    exact mixed_rowOf _ _ _ q
  by_cases hT : T = 0
  · subst hT
    have hk : ∀ e : Fin 272, keep (0 : Fin 9).val e.val ↔ 8 ≤ 0 + e.val ∧ 0 + e.val - 8 < 256 := by
      intro e
      show ((8 ≤ e.val ∨ 2 ≤ 0) ∧ (e.val < 264 ∨ (1 ≤ 0 ∧ 0 < 8))) ↔ _
      omega
    rw [finish_seq 0 mods tok w xs g1 b1 x16 x17 x18 x19 g2 b2 0 (ctx x) (fun r q => ctx (sides a b c) r (rowOf q)) hk ?_ ?_ r (by omega) k, hm, if_pos rfl, hW,
      layerRow_rowOf]
    · have := congrFun (layerAt_ctx W modsC modsL x (sides a b c) r) k
      refine Eq.trans ?_ (this.symm.trans ?_)
      · exact congrFun (congrArg (layerRow W modsC (ctx x) (ctx (sides a b c))) (Fin.ext (Nat.zero_add r.val))) k
      · exact congrFun (congrArg (layerAt W modsC modsL x (sides a b c)) (Fin.ext (by show r.val = 256 * 0 + r.val; omega))) k
    · intro e h h8 k
      rw [hx e ((hk e).2 ⟨h8, h⟩) k, rowAt_of _ _ (by show 256 * 0 + e.val - 8 < 2304; omega)]
      exact congrFun (congrArg x (Fin.ext (by show 256 * 0 + e.val - 8 = 0 + e.val - 8; omega))) k
    · intro e h h8 q
      rw [hy' e ((hk e).2 ⟨h8, h⟩) (by show 256 * 0 + e.val - 8 < 2304; omega) q]
      exact congrFun (congrArg (sides a b c) (Fin.ext (by show 256 * 0 + e.val - 8 = 0 + e.val - 8; omega))) _
  · have hT1 : 1 ≤ T.val := Nat.one_le_iff_ne_zero.2 fun h => hT (Fin.ext h)
    have hk : ∀ e : Fin 272, keep T.val e.val ↔ 8 ≤ 256 * (T.val - 1) + e.val ∧ 256 * (T.val - 1) + e.val - 8 < 2048 := by
      intro e
      show ((8 ≤ e.val ∨ 2 ≤ T.val) ∧ (e.val < 264 ∨ (1 ≤ T.val ∧ T.val < 8))) ↔ _
      omega
    rw [finish_seq T mods tok w xs g1 b1 x16 x17 x18 x19 g2 b2 (256 * (T.val - 1)) (lat x) (fun r q => lat (sides a b c) r (rowOf q)) hk ?_ ?_ r (by omega) k, hm, if_neg hT, hW,
      layerRow_rowOf]
    · refine (congrFun (layerAt_lat W modsC modsL x (sides a b c) ⟨256 * (T.val - 1) + r.val, by omega⟩) k).symm.trans ?_
      exact congrFun (congrArg (layerAt W modsC modsL x (sides a b c)) (Fin.ext (by show 256 + (256 * (T.val - 1) + r.val) = 256 * T.val + r.val; omega))) k
    · intro e h h8 k
      rw [hx e ((hk e).2 ⟨h8, h⟩) k, rowAt_of _ _ (by omega)]
      exact congrFun (congrArg x (Fin.ext (by show 256 * T.val + e.val - 8 = 256 + (256 * (T.val - 1) + e.val - 8); omega))) k
    · intro e h h8 q
      rw [hy' e ((hk e).2 ⟨h8, h⟩) (by omega) q]
      exact congrFun (congrArg (sides a b c) (Fin.ext (by show 256 * T.val + e.val - 8 = 256 + (256 * (T.val - 1) + e.val - 8); omega))) _

end

end Cert.Ffn
-- ==== Proof.FfnValue2.lean ====
/-
  What the last layer's call leaves in its result.
-/
module

public import proofs.«01_k».proof.Proof.FfnBlocks2
public import proofs.«01_k».proof.Proof.FfnAt

@[expose] public section

set_option maxRecDepth 16384

noncomputable section

namespace Cert.Ffn2

open Idealize.ShloMosaic Idealize.ShloMosaic.TcCoe Idealize.SL.Sem Cert.Layer
open Cert.Kernel2Ideal Cert.Kernel2Ideal.Gen Cert.Ffn

variable (m : (ℓ : Loc nD τ sig) → Buf (Elt Ideal) ℓ)

/-- The layer's weights. -/
def W (c : Dev nD) : Weights where
  out := fun q k => (m ((c : Thread nD τ).loc main_arg6) : FVec Ideal S1024x1024 .f32) (ix2 q k)
  g1 := fun k => (m ((c : Thread nD τ).loc main_arg7) : FVec Ideal S1024 .f32) (ix1 k)
  b1 := fun k => (m ((c : Thread nD τ).loc main_arg8) : FVec Ideal S1024 .f32) (ix1 k)
  up := fun k j => (m ((c : Thread nD τ).loc main_arg9) : FVec Ideal S1024x5632 .f32) (ix2 k j)
  taps := fun i j => (m ((c : Thread nD τ).loc main_arg10) : FVec Ideal S3x5632 .f32) (ix2 i j)
  offset := fun j => (m ((c : Thread nD τ).loc main_arg11) : FVec Ideal S5632 .f32) (ix1 j)
  down := fun j k => (m ((c : Thread nD τ).loc main_arg12) : FVec Ideal S2816x1024 .f32) (ix2 j k)
  g2 := fun k => (m ((c : Thread nD τ).loc main_arg13) : FVec Ideal S1024 .f32) (ix1 k)
  b2 := fun k => (m ((c : Thread nD τ).loc main_arg14) : FVec Ideal S1024 .f32) (ix1 k)

/-- The context's modulation vectors. -/
def modsC (c : Dev nD) (q : Fin 6) (k : Fin 1024) : EReal := (m ((c : Thread nD τ).loc main_arg5) : FVec Ideal S6x1024 .f32) (ix2 q k)

/-- A batch's modulation vectors. -/
def modsL (c : Dev nD) (b : Fin 16) (q : Fin 6) (k : Fin 1024) : EReal := (m ((c : Thread nD τ).loc main_arg4) : FVec Ideal S16x6x1024 .f32) (ix3 b q k)

theorem block12 (c : Dev nD) (t : Fin cfg0.N) (s : Fin 2) (q : Fin 6) (k : Fin 1024) :
    (iblk m c 12 t : Vec Ideal S1x2x8x1024 .f32) (ix4 0 s (q.castLE (by decide)) k) = if s = 0 then modsC m c q k else modsL m c (batch t) q k := by
  refine Eq.trans ?_ (V_mods m c (batch t) s q k)
  blk_ext [iblk, idx t]

theorem block13 (c : Dev nD) (t : Fin cfg0.N) (q k : Fin 1024) :
    (iblk m c 13 t : Vec Ideal S1024x1024 .bf16) (ix2 q k) = (W m c).out (rowOf q) k := by
  have e : (iblk m c 13 t : Vec Ideal S1024x1024 .bf16) (ix2 q k) = (V m c main_v23 : FVec Ideal S1024x1024 .bf16) (ix2 q k) := by blk_ext [iblk, idx t]
  rw [e, V_out]
  exact rowed_apply _ q k

theorem block14 (c : Dev nD) (t : Fin cfg0.N) (k : Fin 1024) : (iblk m c 14 t : Vec Ideal S1x1024 .f32) (ix2 0 k) = (W m c).g1 k := by
  have e : (iblk m c 14 t : Vec Ideal S1x1024 .f32) (ix2 0 k) = (V m c main_v24 : FVec Ideal S1x1024 .f32) (ix2 0 k) := by blk_ext [iblk, idx t]
  rw [e, V_g1, show (W m c).g1 k = (m ((c : Thread nD τ).loc main_arg7) : FVec Ideal S1024 .f32) (ix1 k) from rfl]
  exact flat1024 _ k

theorem block15 (c : Dev nD) (t : Fin cfg0.N) (k : Fin 1024) : (iblk m c 15 t : Vec Ideal S1x1024 .f32) (ix2 0 k) = (W m c).b1 k := by
  have e : (iblk m c 15 t : Vec Ideal S1x1024 .f32) (ix2 0 k) = (V m c main_v25 : FVec Ideal S1x1024 .f32) (ix2 0 k) := by blk_ext [iblk, idx t]
  rw [e, V_b1, show (W m c).b1 k = (m ((c : Thread nD τ).loc main_arg8) : FVec Ideal S1024 .f32) (ix1 k) from rfl]
  exact flat1024 _ k

theorem block18 (c : Dev nD) (t : Fin cfg0.N) (k : Fin 5632) : (iblk m c 18 t : Vec Ideal S1x5632 .f32) (ix2 0 k) = (W m c).offset k := by
  have e : (iblk m c 18 t : Vec Ideal S1x5632 .f32) (ix2 0 k) = (V m c main_v27 : FVec Ideal S1x5632 .f32) (ix2 0 k) := by blk_ext [iblk, idx t]
  rw [e, V_offset, show (W m c).offset k = (m ((c : Thread nD τ).loc main_arg11) : FVec Ideal S5632 .f32) (ix1 k) from rfl]
  exact flat5632 _ k

theorem block20 (c : Dev nD) (t : Fin cfg0.N) (k : Fin 1024) : (iblk m c 20 t : Vec Ideal S1x1024 .f32) (ix2 0 k) = (W m c).g2 k := by
  have e : (iblk m c 20 t : Vec Ideal S1x1024 .f32) (ix2 0 k) = (V m c main_v29 : FVec Ideal S1x1024 .f32) (ix2 0 k) := by blk_ext [iblk, idx t]
  rw [e, V_g2, show (W m c).g2 k = (m ((c : Thread nD τ).loc main_arg13) : FVec Ideal S1024 .f32) (ix1 k) from rfl]
  exact flat1024 _ k

theorem block21 (c : Dev nD) (t : Fin cfg0.N) (k : Fin 1024) : (iblk m c 21 t : Vec Ideal S1x1024 .f32) (ix2 0 k) = (W m c).b2 k := by
  have e : (iblk m c 21 t : Vec Ideal S1x1024 .f32) (ix2 0 k) = (V m c main_v30 : FVec Ideal S1x1024 .f32) (ix2 0 k) := by blk_ext [iblk, idx t]
  rw [e, V_b2, show (W m c).b2 k = (m ((c : Thread nD τ).loc main_arg14) : FVec Ideal S1024 .f32) (ix1 k) from rfl]
  exact flat1024 _ k

theorem block16 (c : Dev nD) (t : Fin cfg0.N) (i : Fin 1024) (j : Fin 5632) : (iblk m c 16 t : Vec Ideal S1024x5632 .bf16) (ix2 i j) = (W m c).up i j := by
  have e : (iblk m c 16 t : Vec Ideal S1024x5632 .bf16) (ix2 i j) = (V m c main_v26 : FVec Ideal S1024x5632 .bf16) (ix2 i j) := by blk_ext [iblk, idx t]
  rw [e, V_up]
  rfl

theorem block19 (c : Dev nD) (t : Fin cfg0.N) (i : Fin 2816) (j : Fin 1024) : (iblk m c 19 t : Vec Ideal S2816x1024 .bf16) (ix2 i j) = (W m c).down i j := by
  have e : (iblk m c 19 t : Vec Ideal S2816x1024 .bf16) (ix2 i j) = (V m c main_v28 : FVec Ideal S2816x1024 .bf16) (ix2 i j) := by blk_ext [iblk, idx t]
  rw [e, V_down]
  rfl

theorem block17 (c : Dev nD) (t : Fin cfg0.N) (i : Fin 3) (j : Fin 5632) : (iblk m c 17 t : Vec Ideal S3x5632 .f32) (ix2 i j) = (W m c).taps i j := by
  have e : (iblk m c 17 t : Vec Ideal S3x5632 .f32) (ix2 i j) = (V m c main_arg10 : FVec Ideal S3x5632 .f32) (ix2 i j) := by blk_ext [iblk, idx t]
  rw [e]
  rfl

/-- The weights that a grid point reads: those of the projection in the kernel's order. -/
theorem blockW (c : Dev nD) (t : Fin cfg0.N) : weights (iblk m c 13 t) (iblk m c 14 t) (iblk m c 15 t) (iblk m c 16 t) (iblk m c 17 t) (iblk m c 18 t) (iblk m c 19 t) (iblk m c 20 t)
    (iblk m c 21 t) = { W m c with out := fun q => (W m c).out (rowOf q) } := by
  unfold weights
  simp only [block13, block14, block15, block16, block17, block18, block19, block20, block21]

/-- The result: the latents' rows after the block. -/
def G (c : Dev nD) : FVec Ideal S16x2048x1024 .f32 := fun i =>
  layerRow (W m c) (modsL m c (i 0)) (lat (inX m c (i 0))) (lat (sides (inA m c (i 0)) (inB m c (i 0)) (inC m c (i 0)))) (i 1) (i 2)

/-- The row of the result at which row `r` of a grid point's block lies. -/
abbrev row (t : Fin cfg0.N) (r : Fin 256) : Fin 2048 :=
  ⟨256 * ((grid0.coords t) 1).val + r.val, by have := tile_lt t; omega⟩

theorem tileOf_eq : ∀ t : Fin cfg0.N, tileOf (grid0.coords t) = BitVec.ofNat 32 (tile t).val :=
  (by decide +kernel : ∀ t : Fin grid0.N, _)

theorem vectors_eq (c : Dev nD) (t : Fin cfg0.N) :
    vectors (tileMods (BitVec.ofNat 32 (tile t).val) (View.ld (iblk m c 12 t : Vec Ideal S1x2x8x1024 .f32) r0_0) (View.ld (iblk m c 12 t : Vec Ideal S1x2x8x1024 .f32) r0_1))
      = if tile t = 0 then modsC m c else modsL m c (batch t) := by
  have hT : tile t ≠ 0 := fun h => absurd (congrArg Fin.val h) (Nat.succ_ne_zero _)
  rw [if_neg hT]
  funext q k
  unfold vectors
  rw [tileMods_apply, if_neg hT]
  refine Eq.trans ?_ ((block12 m c t 1 q k).trans (if_neg (by decide)))
  generalize (iblk m c 12 t : Vec Ideal S1x2x8x1024 .f32) = v
  pointwise [r0_1]
  rfl

/-- The residual rows that a grid point gathers. -/
theorem rows_x (c : Dev nD) (t : Fin cfg0.N) (e : Fin 272) (he : keep (tile t).val e.val) (k : Fin 1024) :
    residuals (iblk m c 9 t) (iblk m c 10 t) (iblk m c 11 t) (ix2 e k) = rowAt (inX m c (batch t)) (256 * (tile t).val + e.val - 8) k := by
  obtain ⟨h1, h2⟩ := he
  rw [residuals_apply]
  exact gathered (lo := 2 ≤ (tile t).val) (hi := 1 ≤ (tile t).val ∧ (tile t).val < 8) 8 256 (256 * (tile t).val) (rowAt (inX m c (batch t)))
    (fun r q => (iblk m c 9 t : Vec Ideal S1x8x1024 .f32) (ix3 0 r q)) (fun r q => (iblk m c 10 t : Vec Ideal S1x256x1024 .f32) (ix3 0 r q))
    (fun r q => (iblk m c 11 t : Vec Ideal S1x8x1024 .f32) (ix3 0 r q))
    (fun h => block9 m c t (Nat.le_of_succ_le_succ h)) (block10 m c t) (fun h => block11 m c t (Nat.lt_of_succ_lt_succ h.2)) e h1 h2 k

theorem rows_a (c : Dev nD) (t : Fin cfg0.N) (e : Fin 272) (he : keep (tile t).val e.val) (q : Fin 384) :
    k0_pay3 (iblk m c 0 t : Vec Ideal S1x16x384 .bf16) (iblk m c 1 t : Vec Ideal S1x256x384 .bf16) (iblk m c 2 t : Vec Ideal S1x16x384 .bf16) (ix2 ⟨8 + e.val, by omega⟩ q)
      = rowAt (inA m c (batch t)) (256 * (tile t).val + e.val - 8) q := by
  obtain ⟨h1, h2⟩ := he
  rw [join_apply]
  refine (gathered (lo := 2 ≤ (tile t).val) (hi := 1 ≤ (tile t).val ∧ (tile t).val < 8) 16 256 (256 * (tile t).val) (rowAt (inA m c (batch t)))
    (fun r q => (iblk m c 0 t : Vec Ideal S1x16x384 .bf16) (ix3 0 r q)) (fun r q => (iblk m c 1 t : Vec Ideal S1x256x384 .bf16) (ix3 0 r q))
    (fun r q => (iblk m c 2 t : Vec Ideal S1x16x384 .bf16) (ix3 0 r q))
    (fun h => block0 m c t (Nat.le_of_succ_le_succ h)) (block1 m c t) (fun h => block2 m c t (Nat.lt_of_succ_lt_succ h.2)) ⟨8 + e.val, by omega⟩
    (h1.imp (fun h => Nat.add_le_add_left h 8) id) (h2.imp (fun h => Nat.add_lt_add_left h 8) id) q).trans ?_
  exact congrFun (congrArg (rowAt (inA m c (batch t))) (show 256 * (tile t).val + (8 + e.val) - 16 = 256 * (tile t).val + e.val - 8 by omega)) _

theorem rows_b (c : Dev nD) (t : Fin cfg0.N) (e : Fin 272) (he : keep (tile t).val e.val) (q : Fin 384) :
    k0_pay3 (iblk m c 3 t : Vec Ideal S1x16x384 .bf16) (iblk m c 4 t : Vec Ideal S1x256x384 .bf16) (iblk m c 5 t : Vec Ideal S1x16x384 .bf16) (ix2 ⟨8 + e.val, by omega⟩ q)
      = rowAt (inB m c (batch t)) (256 * (tile t).val + e.val - 8) (headOf q) := by
  obtain ⟨h1, h2⟩ := he
  rw [join_apply]
  refine (gathered (lo := 2 ≤ (tile t).val) (hi := 1 ≤ (tile t).val ∧ (tile t).val < 8) 16 256 (256 * (tile t).val) ((fun g q => rowAt (inB m c (batch t)) g (headOf q)))
    (fun r q => (iblk m c 3 t : Vec Ideal S1x16x384 .bf16) (ix3 0 r q)) (fun r q => (iblk m c 4 t : Vec Ideal S1x256x384 .bf16) (ix3 0 r q))
    (fun r q => (iblk m c 5 t : Vec Ideal S1x16x384 .bf16) (ix3 0 r q))
    (fun h => block3 m c t (Nat.le_of_succ_le_succ h)) (block4 m c t) (fun h => block5 m c t (Nat.lt_of_succ_lt_succ h.2)) ⟨8 + e.val, by omega⟩
    (h1.imp (fun h => Nat.add_le_add_left h 8) id) (h2.imp (fun h => Nat.add_lt_add_left h 8) id) q).trans ?_
  exact congrFun (congrArg (rowAt (inB m c (batch t))) (show 256 * (tile t).val + (8 + e.val) - 16 = 256 * (tile t).val + e.val - 8 by omega)) _

theorem rows_c (c : Dev nD) (t : Fin cfg0.N) (e : Fin 272) (he : keep (tile t).val e.val) (q : Fin 256) :
    joined (iblk m c 6 t : Vec Ideal S1x16x256 .bf16) (iblk m c 7 t : Vec Ideal S1x256x256 .bf16) (iblk m c 8 t : Vec Ideal S1x16x256 .bf16) (ix2 ⟨8 + e.val, by omega⟩ q)
      = rowAt (inC m c (batch t)) (256 * (tile t).val + e.val - 8) q := by
  obtain ⟨h1, h2⟩ := he
  rw [joined_apply]
  refine (gathered (lo := 2 ≤ (tile t).val) (hi := 1 ≤ (tile t).val ∧ (tile t).val < 8) 16 256 (256 * (tile t).val) (rowAt (inC m c (batch t)))
    (fun r q => (iblk m c 6 t : Vec Ideal S1x16x256 .bf16) (ix3 0 r q)) (fun r q => (iblk m c 7 t : Vec Ideal S1x256x256 .bf16) (ix3 0 r q))
    (fun r q => (iblk m c 8 t : Vec Ideal S1x16x256 .bf16) (ix3 0 r q))
    (fun h => block6 m c t (Nat.le_of_succ_le_succ h)) (block7 m c t) (fun h => block8 m c t (Nat.lt_of_succ_lt_succ h.2)) ⟨8 + e.val, by omega⟩
    (h1.imp (fun h => Nat.add_le_add_left h 8) id) (h2.imp (fun h => Nat.add_lt_add_left h 8) id) q).trans ?_
  exact congrFun (congrArg (rowAt (inC m c (batch t))) (show 256 * (tile t).val + (8 + e.val) - 16 = 256 * (tile t).val + e.val - 8 by omega)) _

/-- The mixers' rows that a grid point gathers. -/
theorem rows_y (c : Dev nD) (t : Fin cfg0.N) (e : Fin 272) (he : keep (tile t).val e.val) (q : Fin 1024) :
    tokens (iblk m c 0 t) (iblk m c 1 t) (iblk m c 2 t) (iblk m c 3 t) (iblk m c 4 t) (iblk m c 5 t) (iblk m c 6 t) (iblk m c 7 t) (iblk m c 8 t) (ix2 ⟨8 + e.val, by omega⟩ q)
      = mixed (rowAt (inA m c (batch t)) (256 * (tile t).val + e.val - 8)) (fun q => rowAt (inB m c (batch t)) (256 * (tile t).val + e.val - 8) (headOf q))
        (rowAt (inC m c (batch t)) (256 * (tile t).val + e.val - 8)) q := by
  rw [tokens_eq, columns_apply]
  simp only [rows_a m c t e he, rows_b m c t e he, rows_c m c t e he]

/-- What a grid point stores. -/
theorem point (c : Dev nD) (t : Fin cfg0.N) (r : Fin 256) (k : Fin 1024) :
    out0_22 (grid0.coords t) (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t) (iblk m c 15 t) (iblk m c 16 t) (iblk m c 17 t) (iblk m c 18 t) (iblk m c 19 t) (iblk m c 20 t)
      (iblk m c 21 t) (ix3 0 r k) = G m c (ix3 (batch t) (row t r) k) := by
  rw [out_eq, tileOf_eq, View.canon_cons_unit_lit _ _ _ (by decide)]
  simp only [r0_2, r0_3, r0_4, r0_5, r0_6, r0_7, r0_8, r0_9]
  repeat rw [View.ld_unit_lit _ _ (by decide)]
  refine (tile_eq (tile t) _ _ _ _ _ _ _ _ _ _ _ _ (W m c) (modsC m c) (modsL m c (batch t)) (inA m c (batch t)) (inB m c (batch t)) (inC m c (batch t)) (inX m c (batch t))
    (blockW m c t) (vectors_eq m c t) (rows_x m c t) (rows_y m c t) r k).trans ?_
  refine Eq.trans ?_ (congrFun (layerAt_lat (W m c) (modsC m c) (modsL m c (batch t)) (inX m c (batch t)) (sides (inA m c (batch t)) (inB m c (batch t)) (inC m c (batch t))) (row t r)) k)
  refine congrFun (congrArg (layerAt _ _ _ _ _) (Fin.ext ?_)) k
  show 256 * (((grid0.coords t) 1).val + 1) + r.val = 256 + (256 * ((grid0.coords t) 1).val + r.val)
  omega

/-- What a grid point stores, at its place in the array. -/
theorem place (c : Dev nD) (t : Fin cfg0.N) (y : S1x256x1024.Idx) :
    out0_22 (grid0.coords t) (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t) (iblk m c 15 t) (iblk m c 16 t) (iblk m c 17 t) (iblk m c 18 t) (iblk m c 19 t) (iblk m c 20 t)
      (iblk m c 21 t) y = G m c (((cfg0.win 22).blk t).view.emb y) := by
  obtain ⟨r, j, rfl⟩ := unit_idx (a := 256) (b := 1024) y
  rw [point]
  blk_ext [idx t]

/-- The result after the run. -/
theorem final (c : Dev nD) : (dats m 0 c).arrAt 22 cfg0.N = G m c := by
  refine (dats m 0 c).arrAt_eq_of_covers 22 _ (by decide +kernel) fun t _ y => ?_
  have h := place m c t y
  blk_simp
  rw [after0_22]
  exact h

end Cert.Ffn2
-- ==== Proof.RefNorm.lean ====
module
public import proofs.«01_k».proof.Proof.Gen.Reference4Ideal
public import proofs.«01_k».proof.Proof.Layer
public import Idealize.ShloMosaic.Lib.Pipeline.ValueKit
@[expose] public section
set_option maxRecDepth 16384
noncomputable section
namespace Cert.RefNorm
open Idealize.ShloMosaic Idealize.ShloMosaic.TcCoe
open Cert.Reference4Ideal Cert.Reference4Ideal.Gen Cert.Layer

/-- The mean over the features of every context row. -/
def mean256 (x : FVec Ideal S16x256x1024 .f32) : FVec Ideal S16x256x1 .f32 :=
  Host.divf (broadcastInDim S16x256x1 ![0, 1] bcast_S16x256_S16x256x1_0_1 (Host.reduceAdd x (constant S_ .f32 0x00000000#32) reducesTo_S16x256x1024_S16x256_d2 h_S_)) (broadcastInDim S16x256x1 ![] bcast_S_S16x256x1 (constant S_ .f32 0x44800000#32))

/-- Every context row less its mean. -/
def centred256 (x : FVec Ideal S16x256x1024 .f32) : FVec Ideal S16x256x1024 .f32 :=
  subf x (broadcastInDim S16x256x1024 ![0, 1, 2] bcast_S16x256x1_S16x256x1024_0_1_2 (mean256 x))

/-- Every context row normalised. -/
def norm256 (x : FVec Ideal S16x256x1024 .f32) : FVec Ideal S16x256x1024 .f32 :=
  mulf (centred256 x) (broadcastInDim S16x256x1024 ![0, 1, 2] bcast_S16x256x1_S16x256x1024_0_1_2 (Host.rsqrt (addf (mean256 (mulf (centred256 x) (centred256 x))) (broadcastInDim S16x256x1 ![] bcast_S_S16x256x1 (constant S_ .f32 0x358637BD#32)))))

theorem mean256_apply (x : FVec Ideal S16x256x1024 .f32) (b : Fin 16) (r : Fin 256) (z : Fin 1) : mean256 x (ix3 b r z) = mean (fun k => x (ix3 b r k)) := by
  pointwise [mean256, mean]

theorem centred256_apply (x : FVec Ideal S16x256x1024 .f32) (b : Fin 16) (r : Fin 256) (k : Fin 1024) : centred256 x (ix3 b r k) = x (ix3 b r k) - mean (fun k => x (ix3 b r k)) := by
  pointwise [centred256]
  simp only [mean256_apply]

theorem norm256_apply (x : FVec Ideal S16x256x1024 .f32) (b : Fin 16) (r : Fin 256) (k : Fin 1024) : norm256 x (ix3 b r k) = rowNorm (fun k => x (ix3 b r k)) k := by
  pointwise [norm256, rowNorm]
  simp only [mean256_apply, centred256_apply]
  pointwise
  simp only [centred256_apply]

/-- The mean over the features of every latent row. -/
def mean2048 (x : FVec Ideal S16x2048x1024 .f32) : FVec Ideal S16x2048x1 .f32 :=
  Host.divf (broadcastInDim S16x2048x1 ![0, 1] bcast_S16x2048_S16x2048x1_0_1 (Host.reduceAdd x (constant S_ .f32 0x00000000#32) reducesTo_S16x2048x1024_S16x2048_d2 h_S_)) (broadcastInDim S16x2048x1 ![] bcast_S_S16x2048x1 (constant S_ .f32 0x44800000#32))

/-- Every latent row less its mean. -/
def centred2048 (x : FVec Ideal S16x2048x1024 .f32) : FVec Ideal S16x2048x1024 .f32 :=
  subf x (broadcastInDim S16x2048x1024 ![0, 1, 2] bcast_S16x2048x1_S16x2048x1024_0_1_2 (mean2048 x))

/-- Every latent row normalised. -/
def norm2048 (x : FVec Ideal S16x2048x1024 .f32) : FVec Ideal S16x2048x1024 .f32 :=
  mulf (centred2048 x) (broadcastInDim S16x2048x1024 ![0, 1, 2] bcast_S16x2048x1_S16x2048x1024_0_1_2 (Host.rsqrt (addf (mean2048 (mulf (centred2048 x) (centred2048 x))) (broadcastInDim S16x2048x1 ![] bcast_S_S16x2048x1 (constant S_ .f32 0x358637BD#32)))))

theorem mean2048_apply (x : FVec Ideal S16x2048x1024 .f32) (b : Fin 16) (r : Fin 2048) (z : Fin 1) : mean2048 x (ix3 b r z) = mean (fun k => x (ix3 b r k)) := by
  pointwise [mean2048, mean]

theorem centred2048_apply (x : FVec Ideal S16x2048x1024 .f32) (b : Fin 16) (r : Fin 2048) (k : Fin 1024) : centred2048 x (ix3 b r k) = x (ix3 b r k) - mean (fun k => x (ix3 b r k)) := by
  pointwise [centred2048]
  simp only [mean2048_apply]

theorem norm2048_apply (x : FVec Ideal S16x2048x1024 .f32) (b : Fin 16) (r : Fin 2048) (k : Fin 1024) : norm2048 x (ix3 b r k) = rowNorm (fun k => x (ix3 b r k)) k := by
  pointwise [norm2048, rowNorm]
  simp only [mean2048_apply, centred2048_apply]
  pointwise
  simp only [centred2048_apply]
end Cert.RefNorm
-- ==== Proof.RefFfn.lean ====
/-
  The references' output projection and feed-forward block, row by row.
-/
module

public import proofs.«01_k».proof.Proof.Gen.Reference3Ideal
public import proofs.«01_k».proof.Proof.RefNorm
public import proofs.«01_k».proof.Proof.FfnRow
public import Idealize.ShloMosaic.Lib.Pipeline.ValueKit

@[expose] public section

set_option maxRecDepth 16384

noncomputable section

namespace Cert.RefFfn

open Idealize.ShloMosaic Idealize.ShloMosaic.TcCoe
open Cert.Reference3Ideal Cert.Reference3Ideal.Gen Cert.Layer Cert.RefNorm Cert.Ffn

/-- The residual sum of every context row. -/
def resid256 (g x y : FVec Ideal S16x256x1024 .f32) : FVec Ideal S16x256x1024 .f32 :=
  addf (mulf (broadcastInDim S16x256x1024 ![] bcast_S_S16x256x1024 (constant S_ .f32 0x3FD744FD#32)) x) (mulf g y)

/-- Every context row normalised, with a gain and an offset. -/
def affine256 (x : FVec Ideal S16x256x1024 .f32) (g b : FVec Ideal S1024 .f32) : FVec Ideal S16x256x1024 .f32 :=
  addf (mulf (norm256 x) (broadcastInDim S16x256x1024 ![0, 1, 2] bcast_S1x1x1024_S16x256x1024_0_1_2 (broadcastInDim S1x1x1024 ![2] bcast_S1024_S1x1x1024_2 g)))
    (broadcastInDim S16x256x1024 ![0, 1, 2] bcast_S1x1x1024_S16x256x1024_0_1_2 (broadcastInDim S1x1x1024 ![2] bcast_S1024_S1x1x1024_2 b))

/-- The output projection of every context row. -/
def proj256 (y : FVec Ideal S16x256x1024 .f32) (w : FVec Ideal S1024x1024 .f32) : FVec Ideal S16x256x1024 .f32 :=
  Host.dotGeneral (φ₂ := .f32) dot_S16x256x1024_S1024x1024_S16x256x1024_2_0_01_1_n_n none y w

/-- The hidden columns of every context row before the convolution. -/
def up256 (x sc sh : FVec Ideal S16x256x1024 .f32) (w : FVec Ideal S1024x5632 .f32) : FVec Ideal S16x256x5632 .f32 :=
  Host.dotGeneral (φ₂ := .f32) dot_S16x256x1024_S1024x5632_S16x256x5632_2_0_01_1_n_n none (addf (mulf (norm256 x) sc) sh) w

/-- The context rows with a row of zeros before and after them. -/
def padded256 (u : FVec Ideal S16x256x5632 .f32) : FVec Ideal S16x258x5632 .f32 :=
  pad S16x258x5632 ![0, 1, 0] ![0, 1, 0] ![0, 0, 0] u (sitofp .f32 (constantI S_ 32 0#32)) pads_S16x256x5632_S16x258x5632_000_110_000 h_S_

/-- The convolution over every context row and its two neighbours. -/
def conv256 (p : FVec Ideal S16x258x5632 .f32) (w : FVec Ideal S3x5632 .f32) (o : FVec Ideal S5632 .f32) : FVec Ideal S16x256x5632 .f32 :=
  addf (addf (addf (addf (broadcastInDim S16x256x5632 ![] bcast_S_S16x256x5632 (constant S_ .f32 0x00000000#32)) (mulf (extractStridedSlice S16x256x5632 ![0, 0, 0] p slices_S16x258x5632_S16x256x5632_0_0_0) (broadcastInDim S16x256x5632 ![0, 1, 2] bcast_S1x1x5632_S16x256x5632_0_1_2 (broadcastInDim S1x1x5632 ![2] bcast_S5632_S1x1x5632_2 (shapeCast _ (extractStridedSlice S1x5632 ![0, 0] w slices_S3x5632_S1x5632_0_0) shapeCasts_S1x5632_S5632))))) (mulf (extractStridedSlice S16x256x5632 ![0, 1, 0] p slices_S16x258x5632_S16x256x5632_0_1_0) (broadcastInDim S16x256x5632 ![0, 1, 2] bcast_S1x1x5632_S16x256x5632_0_1_2 (broadcastInDim S1x1x5632 ![2] bcast_S5632_S1x1x5632_2 (shapeCast _ (extractStridedSlice S1x5632 ![1, 0] w slices_S3x5632_S1x5632_1_0) shapeCasts_S1x5632_S5632))))) (mulf (extractStridedSlice S16x256x5632 ![0, 2, 0] p slices_S16x258x5632_S16x256x5632_0_2_0) (broadcastInDim S16x256x5632 ![0, 1, 2] bcast_S1x1x5632_S16x256x5632_0_1_2 (broadcastInDim S1x1x5632 ![2] bcast_S5632_S1x1x5632_2 (shapeCast _ (extractStridedSlice S1x5632 ![2, 0] w slices_S3x5632_S1x5632_2_0) shapeCasts_S1x5632_S5632)))))
    (broadcastInDim S16x256x5632 ![0, 1, 2] bcast_S1x1x5632_S16x256x5632_0_1_2 (broadcastInDim S1x1x5632 ![2] bcast_S5632_S1x1x5632_2 o))

/-- The first half of every context row's hidden columns. -/
def half256 (v : FVec Ideal S16x256x5632 .f32) : FVec Ideal S16x256x2816 .f32 := extractStridedSlice S16x256x2816 ![0, 0, 0] v slices_S16x256x5632_S16x256x2816_0_0_0

/-- Every context row's activations. -/
def act256 (v : FVec Ideal S16x256x5632 .f32) : FVec Ideal S16x256x2816 .f32 :=
  mulf (mulf (half256 v) (Host.divf (broadcastInDim S16x256x2816 ![] bcast_S_S16x256x2816 (constant S_ .f32 0x3F800000#32)) (addf (broadcastInDim S16x256x2816 ![] bcast_S_S16x256x2816 (constant S_ .f32 0x3F800000#32)) (Host.exp (Host.negf (half256 v))))))
    (extractStridedSlice S16x256x2816 ![0, 0, 2816] v slices_S16x256x5632_S16x256x2816_0_0_2816)

/-- The down-projection of every context row. -/
def down256 (a : FVec Ideal S16x256x2816 .f32) (w : FVec Ideal S2816x1024 .f32) : FVec Ideal S16x256x1024 .f32 :=
  Host.dotGeneral (φ₂ := .f32) dot_S16x256x2816_S2816x1024_S16x256x1024_2_0_01_1_n_n none a w

theorem resid256_apply (g x y : FVec Ideal S16x256x1024 .f32) (b : Fin 16) (r : Fin 256) (k : Fin 1024) : resid256 g x y (ix3 b r k)
    = residRow (fun k => g (ix3 b r k)) (fun k => x (ix3 b r k)) (fun k => y (ix3 b r k)) k := by
  pointwise [resid256, residRow]

theorem affine256_apply (x : FVec Ideal S16x256x1024 .f32) (g o : FVec Ideal S1024 .f32) (b : Fin 16) (r : Fin 256) (k : Fin 1024) : affine256 x g o (ix3 b r k)
    = normRow (fun k => g (ix1 k)) (fun k => o (ix1 k)) (fun k => x (ix3 b r k)) k := by
  pointwise [affine256, normRow]
  simp only [norm256_apply]

theorem proj256_apply (y : FVec Ideal S16x256x1024 .f32) (w : FVec Ideal S1024x1024 .f32) (b : Fin 16) (r : Fin 256) (k : Fin 1024) : proj256 y w (ix3 b r k)
    = mulRow (fun q k => w (ix2 q k)) (fun q => y (ix3 b r q)) k := by
  pointwise [proj256, mulRow]

theorem up256_apply (x sc sh : FVec Ideal S16x256x1024 .f32) (w : FVec Ideal S1024x5632 .f32) (b : Fin 16) (r : Fin 256) (j : Fin 5632) : up256 x sc sh w (ix3 b r j)
    = mulRow (fun k j => w (ix2 k j)) (fun k => rowNorm (fun k => x (ix3 b r k)) k * sc (ix3 b r k) + sh (ix3 b r k)) j := by
  pointwise [up256, mulRow]
  simp only [norm256_apply]

theorem padded256_apply (u : FVec Ideal S16x256x5632 .f32) (b : Fin 16) (r : Fin 258) (j : Fin 5632) : padded256 u (ix3 b r j)
    = if h : 1 ≤ r.val ∧ r.val - 1 < 256 then u (ix3 b ⟨r.val - 1, h.2⟩ j) else 0 := by
  pointwise [padded256]
  split_ifs
  · rfl
  · show ((((0#32 : BitVec 32).toInt : ℤ) : ℝ) : EReal) = 0
    simp

theorem conv256_apply (p : FVec Ideal S16x258x5632 .f32) (w : FVec Ideal S3x5632 .f32) (o : FVec Ideal S5632 .f32) (b : Fin 16) (r : Fin 256) (j : Fin 5632) : conv256 p w o (ix3 b r j)
    = convRow (fun i j => w (ix2 i j)) (fun j => o (ix1 j)) (fun j => p (ix3 b ⟨r.val, by omega⟩ j)) (fun j => p (ix3 b ⟨1 + r.val, by omega⟩ j)) (fun j => p (ix3 b ⟨2 + r.val, by omega⟩ j)) j := by
  pointwise [conv256, convRow]

theorem half256_apply (v : FVec Ideal S16x256x5632 .f32) (b : Fin 16) (r : Fin 256) (j : Fin 2816) : half256 v (ix3 b r j) = v (ix3 b r ⟨j.val, by omega⟩) := by
  pointwise [half256]

theorem act256_apply (v : FVec Ideal S16x256x5632 .f32) (b : Fin 16) (r : Fin 256) (j : Fin 2816) : act256 v (ix3 b r j) = actRow (fun j => v (ix3 b r j)) j := by
  pointwise [act256, actRow]
  simp only [half256_apply]
  rfl

theorem down256_apply (a : FVec Ideal S16x256x2816 .f32) (w : FVec Ideal S2816x1024 .f32) (b : Fin 16) (r : Fin 256) (k : Fin 1024) : down256 a w (ix3 b r k)
    = mulRow (fun j k => w (ix2 j k)) (fun j => a (ix3 b r j)) k := by
  pointwise [down256, mulRow]

/-- The residual sum of every latent row. -/
def resid2048 (g x y : FVec Ideal S16x2048x1024 .f32) : FVec Ideal S16x2048x1024 .f32 :=
  addf (mulf (broadcastInDim S16x2048x1024 ![] bcast_S_S16x2048x1024 (constant S_ .f32 0x3FD744FD#32)) x) (mulf g y)

/-- Every latent row normalised, with a gain and an offset. -/
def affine2048 (x : FVec Ideal S16x2048x1024 .f32) (g b : FVec Ideal S1024 .f32) : FVec Ideal S16x2048x1024 .f32 :=
  addf (mulf (norm2048 x) (broadcastInDim S16x2048x1024 ![0, 1, 2] bcast_S1x1x1024_S16x2048x1024_0_1_2 (broadcastInDim S1x1x1024 ![2] bcast_S1024_S1x1x1024_2 g)))
    (broadcastInDim S16x2048x1024 ![0, 1, 2] bcast_S1x1x1024_S16x2048x1024_0_1_2 (broadcastInDim S1x1x1024 ![2] bcast_S1024_S1x1x1024_2 b))

/-- The output projection of every latent row. -/
def proj2048 (y : FVec Ideal S16x2048x1024 .f32) (w : FVec Ideal S1024x1024 .f32) : FVec Ideal S16x2048x1024 .f32 :=
  Host.dotGeneral (φ₂ := .f32) dot_S16x2048x1024_S1024x1024_S16x2048x1024_2_0_01_1_n_n none y w

/-- The hidden columns of every latent row before the convolution. -/
def up2048 (x sc sh : FVec Ideal S16x2048x1024 .f32) (w : FVec Ideal S1024x5632 .f32) : FVec Ideal S16x2048x5632 .f32 :=
  Host.dotGeneral (φ₂ := .f32) dot_S16x2048x1024_S1024x5632_S16x2048x5632_2_0_01_1_n_n none (addf (mulf (norm2048 x) sc) sh) w

/-- The latent rows with a row of zeros before and after them. -/
def padded2048 (u : FVec Ideal S16x2048x5632 .f32) : FVec Ideal S16x2050x5632 .f32 :=
  pad S16x2050x5632 ![0, 1, 0] ![0, 1, 0] ![0, 0, 0] u (sitofp .f32 (constantI S_ 32 0#32)) pads_S16x2048x5632_S16x2050x5632_000_110_000 h_S_

/-- The convolution over every latent row and its two neighbours. -/
def conv2048 (p : FVec Ideal S16x2050x5632 .f32) (w : FVec Ideal S3x5632 .f32) (o : FVec Ideal S5632 .f32) : FVec Ideal S16x2048x5632 .f32 :=
  addf (addf (addf (addf (broadcastInDim S16x2048x5632 ![] bcast_S_S16x2048x5632 (constant S_ .f32 0x00000000#32)) (mulf (extractStridedSlice S16x2048x5632 ![0, 0, 0] p slices_S16x2050x5632_S16x2048x5632_0_0_0) (broadcastInDim S16x2048x5632 ![0, 1, 2] bcast_S1x1x5632_S16x2048x5632_0_1_2 (broadcastInDim S1x1x5632 ![2] bcast_S5632_S1x1x5632_2 (shapeCast _ (extractStridedSlice S1x5632 ![0, 0] w slices_S3x5632_S1x5632_0_0) shapeCasts_S1x5632_S5632))))) (mulf (extractStridedSlice S16x2048x5632 ![0, 1, 0] p slices_S16x2050x5632_S16x2048x5632_0_1_0) (broadcastInDim S16x2048x5632 ![0, 1, 2] bcast_S1x1x5632_S16x2048x5632_0_1_2 (broadcastInDim S1x1x5632 ![2] bcast_S5632_S1x1x5632_2 (shapeCast _ (extractStridedSlice S1x5632 ![1, 0] w slices_S3x5632_S1x5632_1_0) shapeCasts_S1x5632_S5632))))) (mulf (extractStridedSlice S16x2048x5632 ![0, 2, 0] p slices_S16x2050x5632_S16x2048x5632_0_2_0) (broadcastInDim S16x2048x5632 ![0, 1, 2] bcast_S1x1x5632_S16x2048x5632_0_1_2 (broadcastInDim S1x1x5632 ![2] bcast_S5632_S1x1x5632_2 (shapeCast _ (extractStridedSlice S1x5632 ![2, 0] w slices_S3x5632_S1x5632_2_0) shapeCasts_S1x5632_S5632)))))
    (broadcastInDim S16x2048x5632 ![0, 1, 2] bcast_S1x1x5632_S16x2048x5632_0_1_2 (broadcastInDim S1x1x5632 ![2] bcast_S5632_S1x1x5632_2 o))

/-- The first half of every latent row's hidden columns. -/
def half2048 (v : FVec Ideal S16x2048x5632 .f32) : FVec Ideal S16x2048x2816 .f32 := extractStridedSlice S16x2048x2816 ![0, 0, 0] v slices_S16x2048x5632_S16x2048x2816_0_0_0

/-- Every latent row's activations. -/
def act2048 (v : FVec Ideal S16x2048x5632 .f32) : FVec Ideal S16x2048x2816 .f32 :=
  mulf (mulf (half2048 v) (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf (half2048 v))))))
    (extractStridedSlice S16x2048x2816 ![0, 0, 2816] v slices_S16x2048x5632_S16x2048x2816_0_0_2816)

/-- The down-projection of every latent row. -/
def down2048 (a : FVec Ideal S16x2048x2816 .f32) (w : FVec Ideal S2816x1024 .f32) : FVec Ideal S16x2048x1024 .f32 :=
  Host.dotGeneral (φ₂ := .f32) dot_S16x2048x2816_S2816x1024_S16x2048x1024_2_0_01_1_n_n none a w

theorem resid2048_apply (g x y : FVec Ideal S16x2048x1024 .f32) (b : Fin 16) (r : Fin 2048) (k : Fin 1024) : resid2048 g x y (ix3 b r k)
    = residRow (fun k => g (ix3 b r k)) (fun k => x (ix3 b r k)) (fun k => y (ix3 b r k)) k := by
  pointwise [resid2048, residRow]

theorem affine2048_apply (x : FVec Ideal S16x2048x1024 .f32) (g o : FVec Ideal S1024 .f32) (b : Fin 16) (r : Fin 2048) (k : Fin 1024) : affine2048 x g o (ix3 b r k)
    = normRow (fun k => g (ix1 k)) (fun k => o (ix1 k)) (fun k => x (ix3 b r k)) k := by
  pointwise [affine2048, normRow]
  simp only [norm2048_apply]

theorem proj2048_apply (y : FVec Ideal S16x2048x1024 .f32) (w : FVec Ideal S1024x1024 .f32) (b : Fin 16) (r : Fin 2048) (k : Fin 1024) : proj2048 y w (ix3 b r k)
    = mulRow (fun q k => w (ix2 q k)) (fun q => y (ix3 b r q)) k := by
  pointwise [proj2048, mulRow]

theorem up2048_apply (x sc sh : FVec Ideal S16x2048x1024 .f32) (w : FVec Ideal S1024x5632 .f32) (b : Fin 16) (r : Fin 2048) (j : Fin 5632) : up2048 x sc sh w (ix3 b r j)
    = mulRow (fun k j => w (ix2 k j)) (fun k => rowNorm (fun k => x (ix3 b r k)) k * sc (ix3 b r k) + sh (ix3 b r k)) j := by
  pointwise [up2048, mulRow]
  simp only [norm2048_apply]

theorem padded2048_apply (u : FVec Ideal S16x2048x5632 .f32) (b : Fin 16) (r : Fin 2050) (j : Fin 5632) : padded2048 u (ix3 b r j)
    = if h : 1 ≤ r.val ∧ r.val - 1 < 2048 then u (ix3 b ⟨r.val - 1, h.2⟩ j) else 0 := by
  pointwise [padded2048]
  split_ifs
  · rfl
  · show ((((0#32 : BitVec 32).toInt : ℤ) : ℝ) : EReal) = 0
    simp

theorem conv2048_apply (p : FVec Ideal S16x2050x5632 .f32) (w : FVec Ideal S3x5632 .f32) (o : FVec Ideal S5632 .f32) (b : Fin 16) (r : Fin 2048) (j : Fin 5632) : conv2048 p w o (ix3 b r j)
    = convRow (fun i j => w (ix2 i j)) (fun j => o (ix1 j)) (fun j => p (ix3 b ⟨r.val, by omega⟩ j)) (fun j => p (ix3 b ⟨1 + r.val, by omega⟩ j)) (fun j => p (ix3 b ⟨2 + r.val, by omega⟩ j)) j := by
  pointwise [conv2048, convRow]

theorem half2048_apply (v : FVec Ideal S16x2048x5632 .f32) (b : Fin 16) (r : Fin 2048) (j : Fin 2816) : half2048 v (ix3 b r j) = v (ix3 b r ⟨j.val, by omega⟩) := by
  pointwise [half2048]

theorem act2048_apply (v : FVec Ideal S16x2048x5632 .f32) (b : Fin 16) (r : Fin 2048) (j : Fin 2816) : act2048 v (ix3 b r j) = actRow (fun j => v (ix3 b r j)) j := by
  pointwise [act2048, actRow]
  simp only [half2048_apply]
  rfl

theorem down2048_apply (a : FVec Ideal S16x2048x2816 .f32) (w : FVec Ideal S2816x1024 .f32) (b : Fin 16) (r : Fin 2048) (k : Fin 1024) : down2048 a w (ix3 b r k)
    = mulRow (fun j k => w (ix2 j k)) (fun j => a (ix3 b r j)) k := by
  pointwise [down2048, mulRow]

/-- The weights as the references' arguments hold them. -/
def arrays (w : FVec Ideal S1024x1024 .f32) (ga be : FVec Ideal S1024 .f32) (wu : FVec Ideal S1024x5632 .f32) (cw : FVec Ideal S3x5632 .f32)
    (cb : FVec Ideal S5632 .f32) (wd : FVec Ideal S2816x1024 .f32) (ga' be' : FVec Ideal S1024 .f32) : Weights where
  out := fun q k => w (ix2 q k)
  g1 := fun k => ga (ix1 k)
  b1 := fun k => be (ix1 k)
  up := fun k j => wu (ix2 k j)
  taps := fun i j => cw (ix2 i j)
  offset := fun j => cb (ix1 j)
  down := fun j k => wd (ix2 j k)
  g2 := fun k => ga' (ix1 k)
  b2 := fun k => be' (ix1 k)

/-- Every context row after the first norm. -/
def first256 (g2 x y : FVec Ideal S16x256x1024 .f32) (w : FVec Ideal S1024x1024 .f32) (ga be : FVec Ideal S1024 .f32) : FVec Ideal S16x256x1024 .f32 :=
  affine256 (resid256 g2 x (proj256 y w)) ga be

/-- Every context row after the block. -/
def block256 (g2 sc sh g5 x y : FVec Ideal S16x256x1024 .f32) (w : FVec Ideal S1024x1024 .f32) (ga be : FVec Ideal S1024 .f32) (wu : FVec Ideal S1024x5632 .f32) (cw : FVec Ideal S3x5632 .f32)
    (cb : FVec Ideal S5632 .f32) (wd : FVec Ideal S2816x1024 .f32) (ga' be' : FVec Ideal S1024 .f32) : FVec Ideal S16x256x1024 .f32 :=
  affine256 (resid256 g5 (first256 g2 x y w ga be) (down256 (act256 (conv256 (padded256 (up256 (first256 g2 x y w ga be) sc sh wu)) cw cb)) wd)) ga' be'

section

variable (g2 sc sh g5 x y : FVec Ideal S16x256x1024 .f32) (w : FVec Ideal S1024x1024 .f32) (ga be : FVec Ideal S1024 .f32) (wu : FVec Ideal S1024x5632 .f32) (cw : FVec Ideal S3x5632 .f32)
    (cb : FVec Ideal S5632 .f32) (wd : FVec Ideal S2816x1024 .f32) (ga' be' : FVec Ideal S1024 .f32)
  (mods : Fin 16 → Fin 6 → Fin 1024 → EReal)

theorem first256_apply (h2 : ∀ b (r : Fin 256) k, g2 (ix3 b r k) = mods b 2 k) (b : Fin 16) (r : Fin 256) : (fun k => first256 g2 x y w ga be (ix3 b r k))
    = firstRow (arrays w ga be wu cw cb wd ga' be') (mods b) (fun k => x (ix3 b r k)) (fun k => y (ix3 b r k)) := by
  funext k
  unfold first256
  rw [affine256_apply]
  simp only [resid256_apply, proj256_apply, h2]
  rfl

theorem lifted256 (h2 : ∀ b (r : Fin 256) k, g2 (ix3 b r k) = mods b 2 k) (h3 : ∀ b (r : Fin 256) k, sh (ix3 b r k) = mods b 3 k) (h4 : ∀ b (r : Fin 256) k, sc (ix3 b r k) = 1 + mods b 4 k)
    (b : Fin 16) (r : Fin 256) : (fun j => up256 (first256 g2 x y w ga be) sc sh wu (ix3 b r j))
    = upRow (arrays w ga be wu cw cb wd ga' be') (mods b) (firstRow (arrays w ga be wu cw cb wd ga' be') (mods b) (fun k => x (ix3 b r k)) (fun k => y (ix3 b r k))) := by
  rw [← first256_apply g2 x y w ga be wu cw cb wd ga' be' mods h2]
  funext j
  rw [up256_apply]
  simp only [h3, h4]
  rfl

theorem block256_apply (h2 : ∀ b (r : Fin 256) k, g2 (ix3 b r k) = mods b 2 k) (h3 : ∀ b (r : Fin 256) k, sh (ix3 b r k) = mods b 3 k) (h4 : ∀ b (r : Fin 256) k, sc (ix3 b r k) = 1 + mods b 4 k)
    (h5 : ∀ b (r : Fin 256) k, g5 (ix3 b r k) = mods b 5 k) (b : Fin 16) (r : Fin 256) (k : Fin 1024) :
    block256 g2 sc sh g5 x y w ga be wu cw cb wd ga' be' (ix3 b r k)
      = layerRow (arrays w ga be wu cw cb wd ga' be') (mods b) (fun r k => x (ix3 b r k)) (fun r k => y (ix3 b r k)) r k := by
  have up := lifted256 g2 sc sh x y w ga be wu cw cb wd ga' be' mods h2 h3 h4 b
  have fst := first256_apply g2 x y w ga be wu cw cb wd ga' be' mods h2 b r
  have p : (fun j => padded256 (up256 (first256 g2 x y w ga be) sc sh wu) (ix3 b ⟨r.val, by omega⟩ j)) = if h : 0 < r.val then
      (fun j => up256 (first256 g2 x y w ga be) sc sh wu (ix3 b ⟨r.val - 1, by omega⟩ j)) else fun _ => 0 := by
    funext j
    rw [padded256_apply]
    by_cases h : 0 < r.val
    · rw [dif_pos h, dif_pos ⟨h, by show r.val - 1 < 256; omega⟩]
    · rw [dif_neg h, dif_neg fun h' => h h'.1]
  have c : (fun j => padded256 (up256 (first256 g2 x y w ga be) sc sh wu) (ix3 b ⟨1 + r.val, by omega⟩ j))
      = fun j => up256 (first256 g2 x y w ga be) sc sh wu (ix3 b r j) := by
    funext j
    have e : (⟨1 + r.val - 1, by omega⟩ : Fin 256) = r := Fin.ext (Nat.add_sub_cancel_left 1 r.val)
    rw [padded256_apply, dif_pos ⟨by show 1 ≤ 1 + r.val; omega, by show 1 + r.val - 1 < 256; omega⟩]
    exact congrArg (fun r => up256 (first256 g2 x y w ga be) sc sh wu (ix3 b r j)) e
  have n : (fun j => padded256 (up256 (first256 g2 x y w ga be) sc sh wu) (ix3 b ⟨2 + r.val, by omega⟩ j)) = if h : r.val + 1 < 256 then
      (fun j => up256 (first256 g2 x y w ga be) sc sh wu (ix3 b ⟨r.val + 1, h⟩ j)) else fun _ => 0 := by
    funext j
    rw [padded256_apply]
    by_cases h : r.val + 1 < 256
    · have e : (⟨2 + r.val - 1, by omega⟩ : Fin 256) = ⟨r.val + 1, h⟩ := Fin.ext (by show 2 + r.val - 1 = r.val + 1; omega)
      rw [dif_pos h, dif_pos ⟨by show 1 ≤ 2 + r.val; omega, by show 2 + r.val - 1 < 256; omega⟩]
      exact congrArg (fun r => up256 (first256 g2 x y w ga be) sc sh wu (ix3 b r j)) e
    · rw [dif_neg h, dif_neg fun h' => h (by have h2 : 2 + r.val - 1 < 256 := h'.2; omega)]
  unfold block256
  rw [affine256_apply]
  simp only [resid256_apply, down256_apply, act256_apply, conv256_apply]
  rw [p, c, n, fst]
  simp only [up, h5]
  rfl

end

/-- Every latent row after the first norm. -/
def first2048 (g2 x y : FVec Ideal S16x2048x1024 .f32) (w : FVec Ideal S1024x1024 .f32) (ga be : FVec Ideal S1024 .f32) : FVec Ideal S16x2048x1024 .f32 :=
  affine2048 (resid2048 g2 x (proj2048 y w)) ga be

/-- Every latent row after the block. -/
def block2048 (g2 sc sh g5 x y : FVec Ideal S16x2048x1024 .f32) (w : FVec Ideal S1024x1024 .f32) (ga be : FVec Ideal S1024 .f32) (wu : FVec Ideal S1024x5632 .f32) (cw : FVec Ideal S3x5632 .f32)
    (cb : FVec Ideal S5632 .f32) (wd : FVec Ideal S2816x1024 .f32) (ga' be' : FVec Ideal S1024 .f32) : FVec Ideal S16x2048x1024 .f32 :=
  affine2048 (resid2048 g5 (first2048 g2 x y w ga be) (down2048 (act2048 (conv2048 (padded2048 (up2048 (first2048 g2 x y w ga be) sc sh wu)) cw cb)) wd)) ga' be'

section

variable (g2 sc sh g5 x y : FVec Ideal S16x2048x1024 .f32) (w : FVec Ideal S1024x1024 .f32) (ga be : FVec Ideal S1024 .f32) (wu : FVec Ideal S1024x5632 .f32) (cw : FVec Ideal S3x5632 .f32)
    (cb : FVec Ideal S5632 .f32) (wd : FVec Ideal S2816x1024 .f32) (ga' be' : FVec Ideal S1024 .f32)
  (mods : Fin 16 → Fin 6 → Fin 1024 → EReal)

theorem first2048_apply (h2 : ∀ b (r : Fin 2048) k, g2 (ix3 b r k) = mods b 2 k) (b : Fin 16) (r : Fin 2048) : (fun k => first2048 g2 x y w ga be (ix3 b r k))
    = firstRow (arrays w ga be wu cw cb wd ga' be') (mods b) (fun k => x (ix3 b r k)) (fun k => y (ix3 b r k)) := by
  funext k
  unfold first2048
  rw [affine2048_apply]
  simp only [resid2048_apply, proj2048_apply, h2]
  rfl

theorem lifted2048 (h2 : ∀ b (r : Fin 2048) k, g2 (ix3 b r k) = mods b 2 k) (h3 : ∀ b (r : Fin 2048) k, sh (ix3 b r k) = mods b 3 k) (h4 : ∀ b (r : Fin 2048) k, sc (ix3 b r k) = 1 + mods b 4 k)
    (b : Fin 16) (r : Fin 2048) : (fun j => up2048 (first2048 g2 x y w ga be) sc sh wu (ix3 b r j))
    = upRow (arrays w ga be wu cw cb wd ga' be') (mods b) (firstRow (arrays w ga be wu cw cb wd ga' be') (mods b) (fun k => x (ix3 b r k)) (fun k => y (ix3 b r k))) := by
  rw [← first2048_apply g2 x y w ga be wu cw cb wd ga' be' mods h2]
  funext j
  rw [up2048_apply]
  simp only [h3, h4]
  rfl

theorem block2048_apply (h2 : ∀ b (r : Fin 2048) k, g2 (ix3 b r k) = mods b 2 k) (h3 : ∀ b (r : Fin 2048) k, sh (ix3 b r k) = mods b 3 k) (h4 : ∀ b (r : Fin 2048) k, sc (ix3 b r k) = 1 + mods b 4 k)
    (h5 : ∀ b (r : Fin 2048) k, g5 (ix3 b r k) = mods b 5 k) (b : Fin 16) (r : Fin 2048) (k : Fin 1024) :
    block2048 g2 sc sh g5 x y w ga be wu cw cb wd ga' be' (ix3 b r k)
      = layerRow (arrays w ga be wu cw cb wd ga' be') (mods b) (fun r k => x (ix3 b r k)) (fun r k => y (ix3 b r k)) r k := by
  have up := lifted2048 g2 sc sh x y w ga be wu cw cb wd ga' be' mods h2 h3 h4 b
  have fst := first2048_apply g2 x y w ga be wu cw cb wd ga' be' mods h2 b r
  have p : (fun j => padded2048 (up2048 (first2048 g2 x y w ga be) sc sh wu) (ix3 b ⟨r.val, by omega⟩ j)) = if h : 0 < r.val then
      (fun j => up2048 (first2048 g2 x y w ga be) sc sh wu (ix3 b ⟨r.val - 1, by omega⟩ j)) else fun _ => 0 := by
    funext j
    rw [padded2048_apply]
    by_cases h : 0 < r.val
    · rw [dif_pos h, dif_pos ⟨h, by show r.val - 1 < 2048; omega⟩]
    · rw [dif_neg h, dif_neg fun h' => h h'.1]
  have c : (fun j => padded2048 (up2048 (first2048 g2 x y w ga be) sc sh wu) (ix3 b ⟨1 + r.val, by omega⟩ j))
      = fun j => up2048 (first2048 g2 x y w ga be) sc sh wu (ix3 b r j) := by
    funext j
    have e : (⟨1 + r.val - 1, by omega⟩ : Fin 2048) = r := Fin.ext (Nat.add_sub_cancel_left 1 r.val)
    rw [padded2048_apply, dif_pos ⟨by show 1 ≤ 1 + r.val; omega, by show 1 + r.val - 1 < 2048; omega⟩]
    exact congrArg (fun r => up2048 (first2048 g2 x y w ga be) sc sh wu (ix3 b r j)) e
  have n : (fun j => padded2048 (up2048 (first2048 g2 x y w ga be) sc sh wu) (ix3 b ⟨2 + r.val, by omega⟩ j)) = if h : r.val + 1 < 2048 then
      (fun j => up2048 (first2048 g2 x y w ga be) sc sh wu (ix3 b ⟨r.val + 1, h⟩ j)) else fun _ => 0 := by
    funext j
    rw [padded2048_apply]
    by_cases h : r.val + 1 < 2048
    · have e : (⟨2 + r.val - 1, by omega⟩ : Fin 2048) = ⟨r.val + 1, h⟩ := Fin.ext (by show 2 + r.val - 1 = r.val + 1; omega)
      rw [dif_pos h, dif_pos ⟨by show 1 ≤ 2 + r.val; omega, by show 2 + r.val - 1 < 2048; omega⟩]
      exact congrArg (fun r => up2048 (first2048 g2 x y w ga be) sc sh wu (ix3 b r j)) e
    · rw [dif_neg h, dif_neg fun h' => h (by have h2 : 2 + r.val - 1 < 2048 := h'.2; omega)]
  unfold block2048
  rw [affine2048_apply]
  simp only [resid2048_apply, down2048_apply, act2048_apply, conv2048_apply]
  rw [p, c, n, fst]
  simp only [up, h5]
  rfl

end

end Cert.RefFfn
-- ==== Proof.FfnRef2.lean ====
/-
  The last layer's reference: the latents' rows after the block.
-/
module

public import proofs.«01_k».proof.Proof.Gen.Reference2Ideal.Run
public import proofs.«01_k».proof.Proof.RefFfn
public import proofs.«01_k».proof.Proof.FfnAt

@[expose] public section

set_option maxRecDepth 16384

noncomputable section

namespace Cert.FfnRef2

open Idealize.ShloMosaic Idealize.ShloMosaic.TcCoe Idealize.SL.Sem Idealize.ShloMosaic.StableHlo
open Cert.Reference2Ideal Cert.Reference2Ideal.Gen Cert.Reference2Ideal.Value Cert.Layer Cert.RefFfn Cert.Ffn

/-- The latents' rows of the three mixers, side by side. -/
def latMix (a b : FVec Ideal S16x2304x384 .f32) (e : FVec Ideal S16x2304x256 .f32) : FVec Ideal S16x2048x1024 .f32 :=
  concatenate S16x2048x1024 2 [⟨S16x2048x384, extractStridedSlice S16x2048x384 ![0, 256, 0] a slices_S16x2304x384_S16x2048x384_0_256_0⟩,
    ⟨S16x2048x384, extractStridedSlice S16x2048x384 ![0, 256, 0] b slices_S16x2304x384_S16x2048x384_0_256_0⟩,
    ⟨S16x2048x256, extractStridedSlice S16x2048x256 ![0, 256, 0] e slices_S16x2304x256_S16x2048x256_0_256_0⟩] concatenates_S16x2048x384_S16x2048x384_S16x2048x256_S16x2048x1024_d2

/-- One of the batches' modulation vectors, for every latent row. -/
def latMod (o : ℕ) (h : S16x1x6144.Slices ![0, 0, o] S16x1x1024) (v : FVec Ideal S16x6x1024 .f32) : FVec Ideal S16x1x1024 .f32 :=
  extractStridedSlice S16x1x1024 ![0, 0, o] (shapeCast S16x1x6144 v shapeCasts_S16x6x1024_S16x1x6144) h

/-- A row for every latent row. -/
def latSpread (v : FVec Ideal S16x1x1024 .f32) : FVec Ideal S16x2048x1024 .f32 := broadcastInDim S16x2048x1024 ![0, 1, 2] bcast_S16x1x1024_S16x2048x1024_0_1_2 v

/-- A row of scales, with one added. -/
def latOne (v : FVec Ideal S16x1x1024 .f32) : FVec Ideal S16x1x1024 .f32 :=
  addf (broadcastInDim S16x1x1024 ![] bcast_S_S16x1x1024 (constant S_ .f32 0x3F800000#32)) v

theorem latMix_apply (x0 x1 : FVec Ideal S16x2304x384 .f32) (x2 : FVec Ideal S16x2304x256 .f32) (b : Fin 16) (r : Fin 2048) :
    (fun q => latMix x0 x1 x2 (ix3 b r q)) = lat (sides (fun r q => x0 (ix3 b r q)) (fun r q => x1 (ix3 b r q)) (fun r q => x2 (ix3 b r q))) r := by
  funext q
  pointwise [latMix, lat, sides, mixed]

theorem latSpread_apply (v : FVec Ideal S16x1x1024 .f32) (b : Fin 16) (r : Fin 2048) (k : Fin 1024) : latSpread v (ix3 b r k) = v (ix3 b 0 k) := by
  pointwise [latSpread]

theorem latOne_apply (v : FVec Ideal S16x1x1024 .f32) (b : Fin 16) (k : Fin 1024) : latOne v (ix3 b 0 k) = 1 + v (ix3 b 0 k) := by
  pointwise [latOne]

theorem latMod_apply (n : Fin 6) (h : S16x1x6144.Slices ![0, 0, 1024 * n.val] S16x1x1024) (v : FVec Ideal S16x6x1024 .f32) (b : Fin 16) (k : Fin 1024) :
    latMod (1024 * n.val) h v (ix3 b 0 k) = v (ix3 b n k) := by
  pointwise [latMod]

/-- The latents' rows of the layer's input. -/
def latRows (x : FVec Ideal S16x2304x1024 .f32) : FVec Ideal S16x2048x1024 .f32 := extractStridedSlice S16x2048x1024 ![0, 256, 0] x slices_S16x2304x1024_S16x2048x1024_0_256_0

theorem latRows_apply (x : FVec Ideal S16x2304x1024 .f32) (b : Fin 16) (r : Fin 2048) : (fun k => latRows x (ix3 b r k)) = lat (fun r k => x (ix3 b r k)) r := by
  funext q
  pointwise [latRows, lat]

/-- The latents' rows after the block. -/
def latBlock (x0 x1 : FVec Ideal S16x2304x384 .f32) (x2 : FVec Ideal S16x2304x256 .f32) (x3 : FVec Ideal S16x2304x1024 .f32) (x4 : FVec Ideal S16x6x1024 .f32)
    (x6 : FVec Ideal S1024x1024 .f32) (x7 x8 : FVec Ideal S1024 .f32) (x9 : FVec Ideal S1024x5632 .f32) (x10 : FVec Ideal S3x5632 .f32) (x11 : FVec Ideal S5632 .f32)
    (x12 : FVec Ideal S2816x1024 .f32) (x13 x14 : FVec Ideal S1024 .f32) : FVec Ideal S16x2048x1024 .f32 :=
  block2048 (latSpread (latMod (1024 * (2 : Fin 6).val) slices_S16x1x6144_S16x1x1024_0_0_2048 x4)) (latSpread (latOne (latMod (1024 * (4 : Fin 6).val) slices_S16x1x6144_S16x1x1024_0_0_4096 x4)))
    (latSpread (latMod (1024 * (3 : Fin 6).val) slices_S16x1x6144_S16x1x1024_0_0_3072 x4)) (latSpread (latMod (1024 * (5 : Fin 6).val) slices_S16x1x6144_S16x1x1024_0_0_5120 x4))
    (latRows x3) (latMix x0 x1 x2) x6 x7 x8 x9 x10 x11 x12 x13 x14

theorem latBlock_apply (x0 x1 : FVec Ideal S16x2304x384 .f32) (x2 : FVec Ideal S16x2304x256 .f32) (x3 : FVec Ideal S16x2304x1024 .f32) (x4 : FVec Ideal S16x6x1024 .f32)
    (x6 : FVec Ideal S1024x1024 .f32) (x7 x8 : FVec Ideal S1024 .f32) (x9 : FVec Ideal S1024x5632 .f32) (x10 : FVec Ideal S3x5632 .f32) (x11 : FVec Ideal S5632 .f32)
    (x12 : FVec Ideal S2816x1024 .f32) (x13 x14 : FVec Ideal S1024 .f32) (b : Fin 16) (r : Fin 2048) (k : Fin 1024) :
    latBlock x0 x1 x2 x3 x4 x6 x7 x8 x9 x10 x11 x12 x13 x14 (ix3 b r k) = layerRow (arrays x6 x7 x8 x9 x10 x11 x12 x13 x14) (fun q k => x4 (ix3 b q k))
      (lat (fun r k => x3 (ix3 b r k))) (lat (sides (fun r q => x0 (ix3 b r q)) (fun r q => x1 (ix3 b r q)) (fun r q => x2 (ix3 b r q)))) r k := by
  unfold latBlock
  rw [block2048_apply _ _ _ _ _ _ _ _ _ _ _ _ _ _ _ (fun b q k => x4 (ix3 b q k))
    (fun b r k => (latSpread_apply _ b r k).trans (latMod_apply 2 _ x4 b k)) (fun b r k => (latSpread_apply _ b r k).trans (latMod_apply 3 _ x4 b k))
    (fun b r k => (latSpread_apply _ b r k).trans ((latOne_apply _ b k).trans (congrArg (1 + ·) (latMod_apply 4 _ x4 b k)))) (fun b r k => (latSpread_apply _ b r k).trans (latMod_apply 5 _ x4 b k)) b r k]
  rw [show (fun r k => latRows x3 (ix3 b r k)) = _ from funext (latRows_apply x3 b), show (fun r k => latMix x0 x1 x2 (ix3 b r k)) = _ from funext (latMix_apply x0 x1 x2 b)]

variable (m : (ℓ : Loc nD τ sig) → Buf (Elt Ideal) ℓ)

/-- The reference's result, stage by stage. -/
theorem result_eq (c : Dev nD) : (addf (mulf (mulf (subf (res_main_v102 (launchContents m c)) (broadcastInDim S16x2048x1024 ![0, 1, 2] bcast_S16x2048x1_S16x2048x1024_0_1_2 (res_main_v106 (launchContents m c)))) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (res_main_v108 (launchContents m c)) (res_main_v108 (launchContents m c))) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 ((launchContents m c) (Proc.devRef .tc main_arg13))))) (broadcastInDim S16x2048x1024 ![0, 1, 2] bcast_S1x1x1024_S16x2048x1024_0_1_2 (broadcastInDim S1x1x1024 ![2] bcast_S1024_S1x1x1024_2 ((launchContents m c) (Proc.devRef .tc main_arg14)))) : FVec Ideal S16x2048x1024 .f32)
    = latBlock (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := rfl

end Cert.FfnRef2
-- ==== Proof.FfnClaim2.lean ====
/-
  The claims about the last layer's output projection and feed-forward block.
-/
module

public import proofs.«01_k».proof.Defs
public import proofs.«01_k».proof.Proof.Gen.Kernel2
public import proofs.«01_k».proof.Proof.Gen.Kernel2Ideal
public import proofs.«01_k».proof.Proof.FfnValue2
public import proofs.«01_k».proof.Proof.FfnRef2
public import Idealize.ShloMosaic.Adequacy
public import Idealize.ShloMosaic.Init

@[expose] public section

set_option maxRecDepth 16384

noncomputable section

namespace Cert.FfnClaim2

open Idealize.ShloMosaic Idealize.ShloMosaic.TcCoe Idealize.SL.Sem Cert.Ffn2

/-- Over the extended reals the call and the reference end with the same array. -/
theorem same : Cert.algebraic_Kernel2Ideal_Reference2Ideal (hKernel2Ideal := Cert.Kernel2Ideal.Gen.facts) (hReference2Ideal := Cert.Reference2Ideal.Gen.facts) := by
  intro m g m' g' _ hag
  refine ⟨fun c => G m c, ?_, ?_⟩
  · refine (θ_run Cert.Kernel2Ideal.defs _ _).mono (fun r h c => ?_) (Cert.Kernel2Ideal.Value.run_blocks m g)
    obtain ⟨h, k0, k1, k2, k3, k4, k5, k6, k7, k8, k9, k10, k11, k12, k13, k14⟩ := h c
    exact ⟨h.trans (final m c), k0, k1, k2, k3, k4, k5, k6, k7, k8, k9, k10, k11, k12, k13, k14⟩
  · refine (θ_run Cert.Reference2Ideal.defs _ _).mono (fun r h c => ?_) (Cert.Reference2Ideal.Value.run m' g')
    obtain ⟨h, k0, k1, k2, k3, k4, k5, k6, k7, k8, k9, k10, k11, k12, k13, k14⟩ := h c
    obtain ⟨ag0, ag1, ag2, ag3, ag4, ag5, ag6, ag7, ag8, ag9, ag10, ag11, ag12, ag13, ag14⟩ := hag c
    refine ⟨h.trans ((FfnRef2.result_eq m' c).trans ?_), k0, k1, k2, k3, k4, k5, k6, k7, k8, k9, k10, k11, k12, k13, k14⟩
    funext i
    obtain ⟨b, r, k, rfl⟩ : ∃ (b : Fin 16) (r : Fin 2048) (k : Fin 1024), i = ix3 b r k := ⟨i 0, i 1, i 2, by funext a; fin_cases a <;> rfl⟩
    rw [FfnRef2.latBlock_apply, ag0, ag1, ag2, ag3, ag4, ag6, ag7, ag8, ag9, ag10, ag11, ag12, ag13, ag14]
    rfl

/-- The reference's run leaves its arguments, and ends with every counter at zero. -/
theorem referenceFrame : Cert.quiescent_Reference2Ideal (hReference2Ideal := Cert.Reference2Ideal.Gen.facts) := by
  intro m g _
  exact (θ_run Cert.Reference2Ideal.defs _ _).mono (fun r h => ⟨fun c => (h c).2, sem_eq_zero_of_no_sems (by decide) r.2⟩)
    (Cert.Reference2Ideal.Value.run m g)

attribute [local instance] Cert.Kernel2.Gen.facts Cert.Kernel2Ideal.Gen.facts

set_option maxHeartbeats 4000000 in
/-- The kernel's body is one function at the machine's values. -/
theorem bodies : Cert.Kernel2.defs₀ (F := Bits) = Cert.Kernel2Ideal.defs₀ (F := Bits) :=
  congrArg Defs.onTc (funext fun l => funext fun a => match l, a with | 0, (_, _) => rfl)

set_option maxHeartbeats 4000000 in
/-- So are the definitions the two runs start from. -/
theorem definitions : Cert.Kernel2.defs (F := Bits) = Cert.Kernel2Ideal.defs (F := Bits) :=
  congrArg (Pipeline.defs Cert.Kernel2Ideal.pcfgs) bodies

set_option maxHeartbeats 4000000 in
/-- The frame of the program as printed: the idealized one has the same text, so the same run serves at the machine's values. -/
theorem frame : Cert.quiescent_Kernel2 (hKernel2 := Cert.Kernel2.Gen.facts) := by
  intro m g _
  rw [definitions]
  exact Cert.Kernel2Ideal.Gen.frame (F := Bits) m g

/-- The frame over the extended reals. -/
theorem frameIdeal : Cert.quiescent_Kernel2Ideal (hKernel2Ideal := Cert.Kernel2Ideal.Gen.facts) := by
  intro m g _
  exact Cert.Kernel2Ideal.Gen.frame (F := Ideal) m g

end Cert.FfnClaim2
-- ==== Proof.FfnHost3.lean ====
/-
  What the call's operands hold when the kernel starts.
-/
module

public import proofs.«01_k».proof.Proof.FfnHost2
public import proofs.«01_k».proof.Proof.Gen.Kernel3Ideal.Value

@[expose] public section

set_option maxRecDepth 16384

noncomputable section

namespace Cert.Ffn3

open Idealize.ShloMosaic Idealize.ShloMosaic.TcCoe Idealize.SL.Sem
open Cert.Kernel3Ideal Cert.Kernel3Ideal.Gen Cert.Ffn

/-- The first operations of the host code, with the concatenation named. -/
theorem ops0_eq : (hostOps0 : List (HloOp τ sig (Elt Ideal))) =
  [ StableHlo.unary main_arg1 main_v0 ((extractStridedSlice S16x2304x64 ![0, 0, 0] · slices_S16x2304x384_S16x2304x64_0_0_0) : (⟨S16x2304x384, .f32⟩ : BufTy).Contents (Elt Ideal) → (⟨S16x2304x64, .f32⟩ : BufTy).Contents (Elt Ideal)),
    StableHlo.unary main_arg1 main_v1 ((extractStridedSlice S16x2304x64 ![0, 0, 192] · slices_S16x2304x384_S16x2304x64_0_0_192) : (⟨S16x2304x384, .f32⟩ : BufTy).Contents (Elt Ideal) → (⟨S16x2304x64, .f32⟩ : BufTy).Contents (Elt Ideal)),
    StableHlo.unary main_arg1 main_v2 ((extractStridedSlice S16x2304x64 ![0, 0, 64] · slices_S16x2304x384_S16x2304x64_0_0_64) : (⟨S16x2304x384, .f32⟩ : BufTy).Contents (Elt Ideal) → (⟨S16x2304x64, .f32⟩ : BufTy).Contents (Elt Ideal)),
    StableHlo.unary main_arg1 main_v3 ((extractStridedSlice S16x2304x64 ![0, 0, 256] · slices_S16x2304x384_S16x2304x64_0_0_256) : (⟨S16x2304x384, .f32⟩ : BufTy).Contents (Elt Ideal) → (⟨S16x2304x64, .f32⟩ : BufTy).Contents (Elt Ideal)),
    StableHlo.unary main_arg1 main_v4 ((extractStridedSlice S16x2304x64 ![0, 0, 128] · slices_S16x2304x384_S16x2304x64_0_0_128) : (⟨S16x2304x384, .f32⟩ : BufTy).Contents (Elt Ideal) → (⟨S16x2304x64, .f32⟩ : BufTy).Contents (Elt Ideal)),
    StableHlo.unary main_arg1 main_v5 ((extractStridedSlice S16x2304x64 ![0, 0, 320] · slices_S16x2304x384_S16x2304x64_0_0_320) : (⟨S16x2304x384, .f32⟩ : BufTy).Contents (Elt Ideal) → (⟨S16x2304x64, .f32⟩ : BufTy).Contents (Elt Ideal)),
    StableHlo.nary ![main_v0, main_v1, main_v2, main_v3, main_v4, main_v5] main_v6 (fun u => heads (u 0) (u 1) (u 2) (u 3) (u 4) (u 5)),
    StableHlo.unary main_arg5 main_v7 (broadcastInDim S1x6x1024 ![1, 2] bcast_S6x1024_S1x6x1024_1_2 : (⟨S6x1024, .f32⟩ : BufTy).Contents (Elt Ideal) → (⟨S1x6x1024, .f32⟩ : BufTy).Contents (Elt Ideal)),
    StableHlo.unary main_v7 main_v8 (broadcastInDim S16x6x1024 ![0, 1, 2] bcast_S1x6x1024_S16x6x1024_0_1_2 : (⟨S1x6x1024, .f32⟩ : BufTy).Contents (Elt Ideal) → (⟨S16x6x1024, .f32⟩ : BufTy).Contents (Elt Ideal)),
    StableHlo.unary main_v8 main_v9 (broadcastInDim S16x1x6x1024 ![0, 2, 3] bcast_S16x6x1024_S16x1x6x1024_0_2_3 : (⟨S16x6x1024, .f32⟩ : BufTy).Contents (Elt Ideal) → (⟨S16x1x6x1024, .f32⟩ : BufTy).Contents (Elt Ideal)),
    StableHlo.unary main_arg4 main_v10 (broadcastInDim S16x1x6x1024 ![0, 2, 3] bcast_S16x6x1024_S16x1x6x1024_0_2_3 : (⟨S16x6x1024, .f32⟩ : BufTy).Contents (Elt Ideal) → (⟨S16x1x6x1024, .f32⟩ : BufTy).Contents (Elt Ideal)),
    StableHlo.binary main_v9 main_v10 main_v11 pair,
    StableHlo.nullary main_c (constantI S_ 32 0#32) ] := rfl

/-- The last operations of the host code, with the concatenation named. -/
theorem ops2_eq : (hostOps0_2 : List (HloOp τ sig (Elt Ideal))) =
  [ StableHlo.unary main_arg0 main_v13 ((fun x => truncf (F := Ideal) .bf16 (x : FVec Ideal S16x2304x384 .f32) bitsLt_bf16_f32) : (⟨S16x2304x384, .f32⟩ : BufTy).Contents (Elt Ideal) → (⟨S16x2304x384, .bf16⟩ : BufTy).Contents (Elt Ideal)),
    StableHlo.unary main_v6 main_v14 ((fun x => truncf (F := Ideal) .bf16 (x : FVec Ideal S16x2304x384 .f32) bitsLt_bf16_f32) : (⟨S16x2304x384, .f32⟩ : BufTy).Contents (Elt Ideal) → (⟨S16x2304x384, .bf16⟩ : BufTy).Contents (Elt Ideal)),
    StableHlo.unary main_arg2 main_v15 ((fun x => truncf (F := Ideal) .bf16 (x : FVec Ideal S16x2304x256 .f32) bitsLt_bf16_f32) : (⟨S16x2304x256, .f32⟩ : BufTy).Contents (Elt Ideal) → (⟨S16x2304x256, .bf16⟩ : BufTy).Contents (Elt Ideal)),
    StableHlo.unary main_arg6 main_v16 ((extractStridedSlice S448x1024 ![0, 0] · slices_S1024x1024_S448x1024_0_0) : (⟨S1024x1024, .f32⟩ : BufTy).Contents (Elt Ideal) → (⟨S448x1024, .f32⟩ : BufTy).Contents (Elt Ideal)),
    StableHlo.unary main_arg6 main_v17 ((extractStridedSlice S64x1024 ![576, 0] · slices_S1024x1024_S64x1024_576_0) : (⟨S1024x1024, .f32⟩ : BufTy).Contents (Elt Ideal) → (⟨S64x1024, .f32⟩ : BufTy).Contents (Elt Ideal)),
    StableHlo.unary main_arg6 main_v18 ((extractStridedSlice S64x1024 ![448, 0] · slices_S1024x1024_S64x1024_448_0) : (⟨S1024x1024, .f32⟩ : BufTy).Contents (Elt Ideal) → (⟨S64x1024, .f32⟩ : BufTy).Contents (Elt Ideal)),
    StableHlo.unary main_arg6 main_v19 ((extractStridedSlice S64x1024 ![640, 0] · slices_S1024x1024_S64x1024_640_0) : (⟨S1024x1024, .f32⟩ : BufTy).Contents (Elt Ideal) → (⟨S64x1024, .f32⟩ : BufTy).Contents (Elt Ideal)),
    StableHlo.unary main_arg6 main_v20 ((extractStridedSlice S64x1024 ![512, 0] · slices_S1024x1024_S64x1024_512_0) : (⟨S1024x1024, .f32⟩ : BufTy).Contents (Elt Ideal) → (⟨S64x1024, .f32⟩ : BufTy).Contents (Elt Ideal)),
    StableHlo.unary main_arg6 main_v21 ((extractStridedSlice S320x1024 ![704, 0] · slices_S1024x1024_S320x1024_704_0) : (⟨S1024x1024, .f32⟩ : BufTy).Contents (Elt Ideal) → (⟨S320x1024, .f32⟩ : BufTy).Contents (Elt Ideal)),
    StableHlo.nary ![main_v16, main_v17, main_v18, main_v19, main_v20, main_v21] main_v22 (fun u => runs (u 0) (u 1) (u 2) (u 3) (u 4) (u 5)),
    StableHlo.unary main_v22 main_v23 ((fun x => truncf (F := Ideal) .bf16 (x : FVec Ideal S1024x1024 .f32) bitsLt_bf16_f32) : (⟨S1024x1024, .f32⟩ : BufTy).Contents (Elt Ideal) → (⟨S1024x1024, .bf16⟩ : BufTy).Contents (Elt Ideal)),
    StableHlo.reshape main_arg7 main_v24 (rfl : (.f32 : EltTy) = .f32) shapeCasts_S1024_S1x1024,
    StableHlo.reshape main_arg8 main_v25 (rfl : (.f32 : EltTy) = .f32) shapeCasts_S1024_S1x1024,
    StableHlo.unary main_arg9 main_v26 ((fun x => truncf (F := Ideal) .bf16 (x : FVec Ideal S1024x5632 .f32) bitsLt_bf16_f32) : (⟨S1024x5632, .f32⟩ : BufTy).Contents (Elt Ideal) → (⟨S1024x5632, .bf16⟩ : BufTy).Contents (Elt Ideal)),
    StableHlo.reshape main_arg11 main_v27 (rfl : (.f32 : EltTy) = .f32) shapeCasts_S5632_S1x5632,
    StableHlo.unary main_arg12 main_v28 ((fun x => truncf (F := Ideal) .bf16 (x : FVec Ideal S2816x1024 .f32) bitsLt_bf16_f32) : (⟨S2816x1024, .f32⟩ : BufTy).Contents (Elt Ideal) → (⟨S2816x1024, .bf16⟩ : BufTy).Contents (Elt Ideal)),
    StableHlo.reshape main_arg13 main_v29 (rfl : (.f32 : EltTy) = .f32) shapeCasts_S1024_S1x1024,
    StableHlo.reshape main_arg14 main_v30 (rfl : (.f32 : EltTy) = .f32) shapeCasts_S1024_S1x1024 ] := rfl

variable (m : (ℓ : Loc nD τ sig) → Buf (Elt Ideal) ℓ)

/-- The modulation vectors: the context's, then the batch's. -/
theorem V_mods (c : Dev nD) (b : Fin 16) (s : Fin 2) (q : Fin 6) (k : Fin 1024) : (V m c main_v12 : FVec Ideal S16x2x8x1024 .f32) (ix4 b s (q.castLE (by decide)) k)
    = if s = 0 then (m ((c : Thread nD τ).loc main_arg5) : FVec Ideal S6x1024 .f32) (ix2 q k) else (m ((c : Thread nD τ).loc main_arg4) : FVec Ideal S16x6x1024 .f32) (ix3 b q k) := by
  simp only [V]
  rw [ops0_eq, ops2_eq]
  simp only [hostOps0_1, List.flatten_cons, List.flatten_nil, List.append_nil, List.cons_append, List.nil_append]
  after_results_simp
  simp only [StableHlo.TRef.toBuf, StableHlo.TRef.ofBuf, cast_eq]
  pointwise [pair]
  rw [dif_pos (show (Fin.castLE (by decide : 6 ≤ 8) q).val < 6 from q.isLt)]
  by_cases hs : s = 0
  · subst hs; rfl
  · have h1 : ¬ s.val < 1 := fun h => hs (Fin.ext (by show s.val = 0; omega))
    rw [dif_neg h1, if_neg hs]; rfl

/-- The first mixer's output. -/
theorem V_a (c : Dev nD) : V m c main_v13 = (truncf (F := Ideal) .bf16 (m ((c : Thread nD τ).loc main_arg0) : FVec Ideal S16x2304x384 .f32) bitsLt_bf16_f32 : FVec Ideal S16x2304x384 .bf16) := by
  simp only [V]
  rw [ops0_eq, ops2_eq]
  simp only [hostOps0_1, List.flatten_cons, List.flatten_nil, List.append_nil, List.cons_append, List.nil_append]
  after_results_simp

/-- The second mixer's output, its heads in the kernel's order. -/
theorem V_b (c : Dev nD) : V m c main_v14 = (truncf (F := Ideal) .bf16 (headed (m ((c : Thread nD τ).loc main_arg1) : FVec Ideal S16x2304x384 .f32)) bitsLt_bf16_f32 : FVec Ideal S16x2304x384 .bf16) := by
  simp only [V]
  rw [ops0_eq, ops2_eq]
  simp only [hostOps0_1, List.flatten_cons, List.flatten_nil, List.append_nil, List.cons_append, List.nil_append]
  after_results_simp
  rfl

/-- The third mixer's output. -/
theorem V_c (c : Dev nD) : V m c main_v15 = (truncf (F := Ideal) .bf16 (m ((c : Thread nD τ).loc main_arg2) : FVec Ideal S16x2304x256 .f32) bitsLt_bf16_f32 : FVec Ideal S16x2304x256 .bf16) := by
  simp only [V]
  rw [ops0_eq, ops2_eq]
  simp only [hostOps0_1, List.flatten_cons, List.flatten_nil, List.append_nil, List.cons_append, List.nil_append]
  after_results_simp

/-- The output projection's weights, their rows in the kernel's order. -/
theorem V_out (c : Dev nD) : V m c main_v23 = (truncf (F := Ideal) .bf16 (rowed (m ((c : Thread nD τ).loc main_arg6) : FVec Ideal S1024x1024 .f32)) bitsLt_bf16_f32 : FVec Ideal S1024x1024 .bf16) := by
  simp only [V]
  rw [ops0_eq, ops2_eq]
  simp only [hostOps0_1, List.flatten_cons, List.flatten_nil, List.append_nil, List.cons_append, List.nil_append]
  after_results_simp
  rfl

/-- The weights into the hidden columns. -/
theorem V_up (c : Dev nD) : V m c main_v26 = (truncf (F := Ideal) .bf16 (m ((c : Thread nD τ).loc main_arg9) : FVec Ideal S1024x5632 .f32) bitsLt_bf16_f32 : FVec Ideal S1024x5632 .bf16) := by
  simp only [V]
  rw [ops0_eq, ops2_eq]
  simp only [hostOps0_1, List.flatten_cons, List.flatten_nil, List.append_nil, List.cons_append, List.nil_append]
  after_results_simp

/-- The weights out of the hidden columns. -/
theorem V_down (c : Dev nD) : V m c main_v28 = (truncf (F := Ideal) .bf16 (m ((c : Thread nD τ).loc main_arg12) : FVec Ideal S2816x1024 .f32) bitsLt_bf16_f32 : FVec Ideal S2816x1024 .bf16) := by
  simp only [V]
  rw [ops0_eq, ops2_eq]
  simp only [hostOps0_1, List.flatten_cons, List.flatten_nil, List.append_nil, List.cons_append, List.nil_append]
  after_results_simp

/-- A vector as one row. -/
theorem V_g1 (c : Dev nD) : V m c main_v24 = (shapeCast S1x1024 (m ((c : Thread nD τ).loc main_arg7) : FVec Ideal S1024 .f32) shapeCasts_S1024_S1x1024 : FVec Ideal S1x1024 .f32) := by
  simp only [V]
  rw [ops0_eq, ops2_eq]
  simp only [hostOps0_1, List.flatten_cons, List.flatten_nil, List.append_nil, List.cons_append, List.nil_append]
  after_results_simp
  rfl

/-- A vector as one row. -/
theorem V_b1 (c : Dev nD) : V m c main_v25 = (shapeCast S1x1024 (m ((c : Thread nD τ).loc main_arg8) : FVec Ideal S1024 .f32) shapeCasts_S1024_S1x1024 : FVec Ideal S1x1024 .f32) := by
  simp only [V]
  rw [ops0_eq, ops2_eq]
  simp only [hostOps0_1, List.flatten_cons, List.flatten_nil, List.append_nil, List.cons_append, List.nil_append]
  after_results_simp
  rfl

/-- A vector as one row. -/
theorem V_offset (c : Dev nD) : V m c main_v27 = (shapeCast S1x5632 (m ((c : Thread nD τ).loc main_arg11) : FVec Ideal S5632 .f32) shapeCasts_S5632_S1x5632 : FVec Ideal S1x5632 .f32) := by
  simp only [V]
  rw [ops0_eq, ops2_eq]
  simp only [hostOps0_1, List.flatten_cons, List.flatten_nil, List.append_nil, List.cons_append, List.nil_append]
  after_results_simp
  rfl

/-- A vector as one row. -/
theorem V_g2 (c : Dev nD) : V m c main_v29 = (shapeCast S1x1024 (m ((c : Thread nD τ).loc main_arg13) : FVec Ideal S1024 .f32) shapeCasts_S1024_S1x1024 : FVec Ideal S1x1024 .f32) := by
  simp only [V]
  rw [ops0_eq, ops2_eq]
  simp only [hostOps0_1, List.flatten_cons, List.flatten_nil, List.append_nil, List.cons_append, List.nil_append]
  after_results_simp
  rfl

/-- A vector as one row. -/
theorem V_b2 (c : Dev nD) : V m c main_v30 = (shapeCast S1x1024 (m ((c : Thread nD τ).loc main_arg14) : FVec Ideal S1024 .f32) shapeCasts_S1024_S1x1024 : FVec Ideal S1x1024 .f32) := by
  simp only [V]
  rw [ops0_eq, ops2_eq]
  simp only [hostOps0_1, List.flatten_cons, List.flatten_nil, List.append_nil, List.cons_append, List.nil_append]
  after_results_simp
  rfl

end Cert.Ffn3
-- ==== Proof.FfnBlocks3.lean ====
/-
  What a grid point of the earlier layers' call reads.
-/
module

public import proofs.«01_k».proof.Proof.FfnHost3
public import proofs.«01_k».proof.Proof.FfnSlab

@[expose] public section

set_option maxRecDepth 16384

noncomputable section

namespace Cert.Ffn3

open Idealize.ShloMosaic Idealize.ShloMosaic.TcCoe Idealize.SL.Sem Cert.Layer
open Cert.Kernel3Ideal Cert.Kernel3Ideal.Gen
open Cert.Ffn (headOf rowOf headed headed_apply rowAt rowAt_of)

/-- The blocks that a grid point reads: three tiles of a batch, and the blocks of rows before and after them. -/
theorem idx : ∀ t : Fin cfg0.N,
    (win0_0.index t = ![(grid0.coords t 0).val, max (48 * (grid0.coords t 1).val - 1) 0, 0] ∧ win0_1.index t = ![(grid0.coords t 0).val, (grid0.coords t 1).val, 0]
      ∧ win0_2.index t = ![(grid0.coords t 0).val, min (48 * ((grid0.coords t 1).val + 1)) 143, 0])
    ∧ (win0_3.index t = win0_0.index t ∧ win0_4.index t = win0_1.index t ∧ win0_5.index t = win0_2.index t)
    ∧ (win0_6.index t = win0_0.index t ∧ win0_7.index t = win0_1.index t ∧ win0_8.index t = win0_2.index t)
    ∧ (win0_9.index t = ![(grid0.coords t 0).val, max (96 * (grid0.coords t 1).val - 1) 0, 0] ∧ win0_10.index t = win0_1.index t
      ∧ win0_11.index t = ![(grid0.coords t 0).val, min (96 * ((grid0.coords t 1).val + 1)) 287, 0])
    ∧ win0_12.index t = ![(grid0.coords t 0).val, 0, 0, 0]
    ∧ (win0_13.index t = ![0, 0] ∧ win0_14.index t = ![0, 0] ∧ win0_15.index t = ![0, 0] ∧ win0_16.index t = ![0, 0] ∧ win0_17.index t = ![0, 0]
      ∧ win0_18.index t = ![0, 0] ∧ win0_19.index t = ![0, 0] ∧ win0_20.index t = ![0, 0] ∧ win0_21.index t = ![0, 0])
    ∧ win0_22.index t = ![(grid0.coords t 0).val, (grid0.coords t 1).val, 0] :=
  (by decide +kernel : ∀ t : Fin grid0.N, _)

/-- The batch of a grid point. -/
abbrev batch (t : Fin cfg0.N) : Fin 16 := ⟨((grid0.coords t) 0).val, ((grid0.coords t) 0).isLt⟩

/-- The number of a grid point within its batch. -/
abbrev step (t : Fin cfg0.N) : ℕ := ((grid0.coords t) 1).val

theorem step_lt (t : Fin cfg0.N) : step t < 3 := ((grid0.coords t) 1).isLt

/-- The tiles of a grid point. -/
abbrev tile (t : Fin cfg0.N) (j : Fin 3) : Fin 9 := ⟨3 * step t + j.val, by have := step_lt t; omega⟩

variable (m : (ℓ : Loc nD τ sig) → Buf (Elt Ideal) ℓ)

/-- The mixers' rows and the layer's rows of a batch. -/
def inA (c : Dev nD) (b : Fin 16) (r : Fin 2304) (q : Fin 384) : EReal := (m ((c : Thread nD τ).loc main_arg0) : FVec Ideal S16x2304x384 .f32) (ix3 b r q)
def inB (c : Dev nD) (b : Fin 16) (r : Fin 2304) (q : Fin 384) : EReal := (m ((c : Thread nD τ).loc main_arg1) : FVec Ideal S16x2304x384 .f32) (ix3 b r q)
def inC (c : Dev nD) (b : Fin 16) (r : Fin 2304) (q : Fin 256) : EReal := (m ((c : Thread nD τ).loc main_arg2) : FVec Ideal S16x2304x256 .f32) (ix3 b r q)
def inX (c : Dev nD) (b : Fin 16) (r : Fin 2304) (q : Fin 1024) : EReal := (m ((c : Thread nD τ).loc main_arg3) : FVec Ideal S16x2304x1024 .f32) (ix3 b r q)

theorem at_A (c : Dev nD) (b : Fin 16) (r : Fin 2304) (q : Fin 384) : (V m c main_v13 : FVec Ideal S16x2304x384 .bf16) (ix3 b r q) = inA m c b r q := by
  rw [V_a]; rfl

theorem at_B (c : Dev nD) (b : Fin 16) (r : Fin 2304) (q : Fin 384) : (V m c main_v14 : FVec Ideal S16x2304x384 .bf16) (ix3 b r q) = inB m c b r (headOf q) := by
  rw [V_b]; exact headed_apply _ b r q

theorem at_C (c : Dev nD) (b : Fin 16) (r : Fin 2304) (q : Fin 256) : (V m c main_v15 : FVec Ideal S16x2304x256 .bf16) (ix3 b r q) = inC m c b r q := by
  rw [V_c]; rfl

theorem at_X (c : Dev nD) (b : Fin 16) (r : Fin 2304) (q : Fin 1024) : (V m c main_arg3 : FVec Ideal S16x2304x1024 .f32) (ix3 b r q) = inX m c b r q := by
  rfl

theorem block0 (c : Dev nD) (t : Fin cfg0.N) (h : 1 ≤ step t) (r : Fin 16) (q : Fin 384) :
    (iblk m c 0 t : Vec Ideal S1x16x384 .bf16) (ix3 0 r q) = rowAt (inA m c (batch t)) (768 * step t + r.val - 16) q := by
  have ht : ((grid0.coords t) 1).val < 3 := step_lt t
  have h : 1 ≤ ((grid0.coords t) 1).val := h
  have hr : 16 * max (48 * ((grid0.coords t) 1).val - 1) 0 + r.val < 2304 := by omega
  have e : (iblk m c 0 t : Vec Ideal S1x16x384 .bf16) (ix3 0 r q) = (V m c main_v13 : FVec Ideal S16x2304x384 .bf16) (ix3 (batch t) ⟨16 * max (48 * ((grid0.coords t) 1).val - 1) 0 + r.val, hr⟩ q) := by
    blk_ext [iblk, idx t]
  have g : 768 * step t + r.val - 16 = 16 * max (48 * ((grid0.coords t) 1).val - 1) 0 + r.val := by
    show 768 * ((grid0.coords t) 1).val + r.val - 16 = _
    omega
  exact (e.trans (at_A m c (batch t) _ q)).trans (congrFun ((congrArg (rowAt (inA m c (batch t))) g).trans (rowAt_of _ _ hr)) _).symm

theorem block1 (c : Dev nD) (t : Fin cfg0.N) (r : Fin 768) (q : Fin 384) :
    (iblk m c 1 t : Vec Ideal S1x768x384 .bf16) (ix3 0 r q) = rowAt (inA m c (batch t)) (768 * step t + r.val) q := by
  have ht : ((grid0.coords t) 1).val < 3 := step_lt t
  have hr : 768 * ((grid0.coords t) 1).val + r.val < 2304 := by omega
  have e : (iblk m c 1 t : Vec Ideal S1x768x384 .bf16) (ix3 0 r q) = (V m c main_v13 : FVec Ideal S16x2304x384 .bf16) (ix3 (batch t) ⟨768 * ((grid0.coords t) 1).val + r.val, hr⟩ q) := by
    blk_ext [iblk, idx t]
  have g : 768 * step t + r.val = 768 * ((grid0.coords t) 1).val + r.val := by
    show 768 * ((grid0.coords t) 1).val + r.val = _
    omega
  exact (e.trans (at_A m c (batch t) _ q)).trans (congrFun ((congrArg (rowAt (inA m c (batch t))) g).trans (rowAt_of _ _ hr)) _).symm

theorem block2 (c : Dev nD) (t : Fin cfg0.N) (h : step t < 2) (r : Fin 16) (q : Fin 384) :
    (iblk m c 2 t : Vec Ideal S1x16x384 .bf16) (ix3 0 r q) = rowAt (inA m c (batch t)) (768 * step t + 768 + r.val) q := by
  have ht : ((grid0.coords t) 1).val < 3 := step_lt t
  have h : ((grid0.coords t) 1).val < 2 := h
  have hr : 16 * min (48 * (((grid0.coords t) 1).val + 1)) 143 + r.val < 2304 := by omega
  have e : (iblk m c 2 t : Vec Ideal S1x16x384 .bf16) (ix3 0 r q) = (V m c main_v13 : FVec Ideal S16x2304x384 .bf16) (ix3 (batch t) ⟨16 * min (48 * (((grid0.coords t) 1).val + 1)) 143 + r.val, hr⟩ q) := by
    blk_ext [iblk, idx t]
  have g : 768 * step t + 768 + r.val = 16 * min (48 * (((grid0.coords t) 1).val + 1)) 143 + r.val := by
    show 768 * ((grid0.coords t) 1).val + 768 + r.val = _
    omega
  exact (e.trans (at_A m c (batch t) _ q)).trans (congrFun ((congrArg (rowAt (inA m c (batch t))) g).trans (rowAt_of _ _ hr)) _).symm

theorem block3 (c : Dev nD) (t : Fin cfg0.N) (h : 1 ≤ step t) (r : Fin 16) (q : Fin 384) :
    (iblk m c 3 t : Vec Ideal S1x16x384 .bf16) (ix3 0 r q) = rowAt (inB m c (batch t)) (768 * step t + r.val - 16) (headOf q) := by
  have ht : ((grid0.coords t) 1).val < 3 := step_lt t
  have h : 1 ≤ ((grid0.coords t) 1).val := h
  have hr : 16 * max (48 * ((grid0.coords t) 1).val - 1) 0 + r.val < 2304 := by omega
  have e : (iblk m c 3 t : Vec Ideal S1x16x384 .bf16) (ix3 0 r q) = (V m c main_v14 : FVec Ideal S16x2304x384 .bf16) (ix3 (batch t) ⟨16 * max (48 * ((grid0.coords t) 1).val - 1) 0 + r.val, hr⟩ q) := by
    blk_ext [iblk, idx t]
  have g : 768 * step t + r.val - 16 = 16 * max (48 * ((grid0.coords t) 1).val - 1) 0 + r.val := by
    show 768 * ((grid0.coords t) 1).val + r.val - 16 = _
    omega
  exact (e.trans (at_B m c (batch t) _ q)).trans (congrFun ((congrArg (rowAt (inB m c (batch t))) g).trans (rowAt_of _ _ hr)) _).symm

theorem block4 (c : Dev nD) (t : Fin cfg0.N) (r : Fin 768) (q : Fin 384) :
    (iblk m c 4 t : Vec Ideal S1x768x384 .bf16) (ix3 0 r q) = rowAt (inB m c (batch t)) (768 * step t + r.val) (headOf q) := by
  have ht : ((grid0.coords t) 1).val < 3 := step_lt t
  have hr : 768 * ((grid0.coords t) 1).val + r.val < 2304 := by omega
  have e : (iblk m c 4 t : Vec Ideal S1x768x384 .bf16) (ix3 0 r q) = (V m c main_v14 : FVec Ideal S16x2304x384 .bf16) (ix3 (batch t) ⟨768 * ((grid0.coords t) 1).val + r.val, hr⟩ q) := by
    blk_ext [iblk, idx t]
  have g : 768 * step t + r.val = 768 * ((grid0.coords t) 1).val + r.val := by
    show 768 * ((grid0.coords t) 1).val + r.val = _
    omega
  exact (e.trans (at_B m c (batch t) _ q)).trans (congrFun ((congrArg (rowAt (inB m c (batch t))) g).trans (rowAt_of _ _ hr)) _).symm

theorem block5 (c : Dev nD) (t : Fin cfg0.N) (h : step t < 2) (r : Fin 16) (q : Fin 384) :
    (iblk m c 5 t : Vec Ideal S1x16x384 .bf16) (ix3 0 r q) = rowAt (inB m c (batch t)) (768 * step t + 768 + r.val) (headOf q) := by
  have ht : ((grid0.coords t) 1).val < 3 := step_lt t
  have h : ((grid0.coords t) 1).val < 2 := h
  have hr : 16 * min (48 * (((grid0.coords t) 1).val + 1)) 143 + r.val < 2304 := by omega
  have e : (iblk m c 5 t : Vec Ideal S1x16x384 .bf16) (ix3 0 r q) = (V m c main_v14 : FVec Ideal S16x2304x384 .bf16) (ix3 (batch t) ⟨16 * min (48 * (((grid0.coords t) 1).val + 1)) 143 + r.val, hr⟩ q) := by
    blk_ext [iblk, idx t]
  have g : 768 * step t + 768 + r.val = 16 * min (48 * (((grid0.coords t) 1).val + 1)) 143 + r.val := by
    show 768 * ((grid0.coords t) 1).val + 768 + r.val = _
    omega
  exact (e.trans (at_B m c (batch t) _ q)).trans (congrFun ((congrArg (rowAt (inB m c (batch t))) g).trans (rowAt_of _ _ hr)) _).symm

theorem block6 (c : Dev nD) (t : Fin cfg0.N) (h : 1 ≤ step t) (r : Fin 16) (q : Fin 256) :
    (iblk m c 6 t : Vec Ideal S1x16x256 .bf16) (ix3 0 r q) = rowAt (inC m c (batch t)) (768 * step t + r.val - 16) q := by
  have ht : ((grid0.coords t) 1).val < 3 := step_lt t
  have h : 1 ≤ ((grid0.coords t) 1).val := h
  have hr : 16 * max (48 * ((grid0.coords t) 1).val - 1) 0 + r.val < 2304 := by omega
  have e : (iblk m c 6 t : Vec Ideal S1x16x256 .bf16) (ix3 0 r q) = (V m c main_v15 : FVec Ideal S16x2304x256 .bf16) (ix3 (batch t) ⟨16 * max (48 * ((grid0.coords t) 1).val - 1) 0 + r.val, hr⟩ q) := by
    blk_ext [iblk, idx t]
  have g : 768 * step t + r.val - 16 = 16 * max (48 * ((grid0.coords t) 1).val - 1) 0 + r.val := by
    show 768 * ((grid0.coords t) 1).val + r.val - 16 = _
    omega
  exact (e.trans (at_C m c (batch t) _ q)).trans (congrFun ((congrArg (rowAt (inC m c (batch t))) g).trans (rowAt_of _ _ hr)) _).symm

theorem block7 (c : Dev nD) (t : Fin cfg0.N) (r : Fin 768) (q : Fin 256) :
    (iblk m c 7 t : Vec Ideal S1x768x256 .bf16) (ix3 0 r q) = rowAt (inC m c (batch t)) (768 * step t + r.val) q := by
  have ht : ((grid0.coords t) 1).val < 3 := step_lt t
  have hr : 768 * ((grid0.coords t) 1).val + r.val < 2304 := by omega
  have e : (iblk m c 7 t : Vec Ideal S1x768x256 .bf16) (ix3 0 r q) = (V m c main_v15 : FVec Ideal S16x2304x256 .bf16) (ix3 (batch t) ⟨768 * ((grid0.coords t) 1).val + r.val, hr⟩ q) := by
    blk_ext [iblk, idx t]
  have g : 768 * step t + r.val = 768 * ((grid0.coords t) 1).val + r.val := by
    show 768 * ((grid0.coords t) 1).val + r.val = _
    omega
  exact (e.trans (at_C m c (batch t) _ q)).trans (congrFun ((congrArg (rowAt (inC m c (batch t))) g).trans (rowAt_of _ _ hr)) _).symm

theorem block8 (c : Dev nD) (t : Fin cfg0.N) (h : step t < 2) (r : Fin 16) (q : Fin 256) :
    (iblk m c 8 t : Vec Ideal S1x16x256 .bf16) (ix3 0 r q) = rowAt (inC m c (batch t)) (768 * step t + 768 + r.val) q := by
  have ht : ((grid0.coords t) 1).val < 3 := step_lt t
  have h : ((grid0.coords t) 1).val < 2 := h
  have hr : 16 * min (48 * (((grid0.coords t) 1).val + 1)) 143 + r.val < 2304 := by omega
  have e : (iblk m c 8 t : Vec Ideal S1x16x256 .bf16) (ix3 0 r q) = (V m c main_v15 : FVec Ideal S16x2304x256 .bf16) (ix3 (batch t) ⟨16 * min (48 * (((grid0.coords t) 1).val + 1)) 143 + r.val, hr⟩ q) := by
    blk_ext [iblk, idx t]
  have g : 768 * step t + 768 + r.val = 16 * min (48 * (((grid0.coords t) 1).val + 1)) 143 + r.val := by
    show 768 * ((grid0.coords t) 1).val + 768 + r.val = _
    omega
  exact (e.trans (at_C m c (batch t) _ q)).trans (congrFun ((congrArg (rowAt (inC m c (batch t))) g).trans (rowAt_of _ _ hr)) _).symm

theorem block9 (c : Dev nD) (t : Fin cfg0.N) (h : 1 ≤ step t) (r : Fin 8) (q : Fin 1024) :
    (iblk m c 9 t : Vec Ideal S1x8x1024 .f32) (ix3 0 r q) = rowAt (inX m c (batch t)) (768 * step t + r.val - 8) q := by
  have ht : ((grid0.coords t) 1).val < 3 := step_lt t
  have h : 1 ≤ ((grid0.coords t) 1).val := h
  have hr : 8 * max (96 * ((grid0.coords t) 1).val - 1) 0 + r.val < 2304 := by omega
  have e : (iblk m c 9 t : Vec Ideal S1x8x1024 .f32) (ix3 0 r q) = (V m c main_arg3 : FVec Ideal S16x2304x1024 .f32) (ix3 (batch t) ⟨8 * max (96 * ((grid0.coords t) 1).val - 1) 0 + r.val, hr⟩ q) := by
    blk_ext [iblk, idx t]
  have g : 768 * step t + r.val - 8 = 8 * max (96 * ((grid0.coords t) 1).val - 1) 0 + r.val := by
    show 768 * ((grid0.coords t) 1).val + r.val - 8 = _
    omega
  exact (e.trans (at_X m c (batch t) _ q)).trans (congrFun ((congrArg (rowAt (inX m c (batch t))) g).trans (rowAt_of _ _ hr)) _).symm

theorem block10 (c : Dev nD) (t : Fin cfg0.N) (r : Fin 768) (q : Fin 1024) :
    (iblk m c 10 t : Vec Ideal S1x768x1024 .f32) (ix3 0 r q) = rowAt (inX m c (batch t)) (768 * step t + r.val) q := by
  have ht : ((grid0.coords t) 1).val < 3 := step_lt t
  have hr : 768 * ((grid0.coords t) 1).val + r.val < 2304 := by omega
  have e : (iblk m c 10 t : Vec Ideal S1x768x1024 .f32) (ix3 0 r q) = (V m c main_arg3 : FVec Ideal S16x2304x1024 .f32) (ix3 (batch t) ⟨768 * ((grid0.coords t) 1).val + r.val, hr⟩ q) := by
    blk_ext [iblk, idx t]
  have g : 768 * step t + r.val = 768 * ((grid0.coords t) 1).val + r.val := by
    show 768 * ((grid0.coords t) 1).val + r.val = _
    omega
  exact (e.trans (at_X m c (batch t) _ q)).trans (congrFun ((congrArg (rowAt (inX m c (batch t))) g).trans (rowAt_of _ _ hr)) _).symm

theorem block11 (c : Dev nD) (t : Fin cfg0.N) (h : step t < 2) (r : Fin 8) (q : Fin 1024) :
    (iblk m c 11 t : Vec Ideal S1x8x1024 .f32) (ix3 0 r q) = rowAt (inX m c (batch t)) (768 * step t + 768 + r.val) q := by
  have ht : ((grid0.coords t) 1).val < 3 := step_lt t
  have h : ((grid0.coords t) 1).val < 2 := h
  have hr : 8 * min (96 * (((grid0.coords t) 1).val + 1)) 287 + r.val < 2304 := by omega
  have e : (iblk m c 11 t : Vec Ideal S1x8x1024 .f32) (ix3 0 r q) = (V m c main_arg3 : FVec Ideal S16x2304x1024 .f32) (ix3 (batch t) ⟨8 * min (96 * (((grid0.coords t) 1).val + 1)) 287 + r.val, hr⟩ q) := by
    blk_ext [iblk, idx t]
  have g : 768 * step t + 768 + r.val = 8 * min (96 * (((grid0.coords t) 1).val + 1)) 287 + r.val := by
    show 768 * ((grid0.coords t) 1).val + 768 + r.val = _
    omega
  exact (e.trans (at_X m c (batch t) _ q)).trans (congrFun ((congrArg (rowAt (inX m c (batch t))) g).trans (rowAt_of _ _ hr)) _).symm

end Cert.Ffn3
-- ==== Proof.FfnTile3.lean ====
/-
  The three tiles of 256 tokens that the earlier layers' call stores at a grid point, by the operations named for one.
-/
module

public import proofs.«01_k».proof.Proof.Gen.Kernel3Ideal.Value
public import proofs.«01_k».proof.Proof.FfnAt
public import Idealize.ShloMosaic.Lib.Pipeline.ValueKit

@[expose] public section

set_option maxRecDepth 16384

noncomputable section

namespace Cert.Ffn3

open Idealize.ShloMosaic Idealize.ShloMosaic.TcCoe Cert.Layer
open Cert.Kernel3Ideal Cert.Kernel3Ideal.Gen
open Cert.Ffn (columns finish affine272 branch tileMods)

/-- A halo before 272 rows of 384 columns. -/
def before384 (p : Vec Ideal S1x16x384 .bf16) (a : Vec Ideal S1x272x384 .bf16) : FVec Ideal S288x384 .bf16 :=
  concatenate S288x384 0 [⟨S16x384, shapeCast S16x384 p shapeCasts_S1x16x384_S16x384⟩, ⟨S272x384, shapeCast S272x384 a shapeCasts_S1x272x384_S272x384⟩] concatenates_S16x384_S272x384_S288x384_d0

/-- A halo after 272 rows of 384 columns. -/
def after384 (a : Vec Ideal S1x272x384 .bf16) (n : Vec Ideal S1x16x384 .bf16) : FVec Ideal S288x384 .bf16 :=
  concatenate S288x384 0 [⟨S272x384, shapeCast S272x384 a shapeCasts_S1x272x384_S272x384⟩, ⟨S16x384, shapeCast S16x384 n shapeCasts_S1x16x384_S16x384⟩] concatenates_S272x384_S16x384_S288x384_d0

/-- 288 rows of 384 columns. -/
def within384 (a : Vec Ideal S1x288x384 .bf16) : FVec Ideal S288x384 .bf16 := shapeCast S288x384 a shapeCasts_S1x288x384_S288x384

/-- A halo before 272 rows of 256 columns. -/
def before256 (p : Vec Ideal S1x16x256 .bf16) (a : Vec Ideal S1x272x256 .bf16) : FVec Ideal S288x256 .bf16 :=
  concatenate S288x256 0 [⟨S16x256, shapeCast S16x256 p shapeCasts_S1x16x256_S16x256⟩, ⟨S272x256, shapeCast S272x256 a shapeCasts_S1x272x256_S272x256⟩] concatenates_S16x256_S272x256_S288x256_d0

/-- A halo after 272 rows of 256 columns. -/
def after256 (a : Vec Ideal S1x272x256 .bf16) (n : Vec Ideal S1x16x256 .bf16) : FVec Ideal S288x256 .bf16 :=
  concatenate S288x256 0 [⟨S272x256, shapeCast S272x256 a shapeCasts_S1x272x256_S272x256⟩, ⟨S16x256, shapeCast S16x256 n shapeCasts_S1x16x256_S16x256⟩] concatenates_S272x256_S16x256_S288x256_d0

/-- 288 rows of 256 columns. -/
def within256 (a : Vec Ideal S1x288x256 .bf16) : FVec Ideal S288x256 .bf16 := shapeCast S288x256 a shapeCasts_S1x288x256_S288x256

/-- The residual rows of a halo and the 264 rows after it. -/
def residBefore (p : Vec Ideal S1x8x1024 .f32) (a : Vec Ideal S1x264x1024 .f32) : FVec Ideal S272x1024 .f32 :=
  concatenate S272x1024 0 [⟨S8x1024, shapeCast S8x1024 p shapeCasts_S1x8x1024_S8x1024⟩, ⟨S264x1024, shapeCast S264x1024 a shapeCasts_S1x264x1024_S264x1024⟩] concatenates_S8x1024_S264x1024_S272x1024_d0

/-- The residual rows of 264 rows and the halo after them. -/
def residAfter (a : Vec Ideal S1x264x1024 .f32) (n : Vec Ideal S1x8x1024 .f32) : FVec Ideal S272x1024 .f32 :=
  concatenate S272x1024 0 [⟨S264x1024, shapeCast S264x1024 a shapeCasts_S1x264x1024_S264x1024⟩, ⟨S8x1024, shapeCast S8x1024 n shapeCasts_S1x8x1024_S8x1024⟩] concatenates_S264x1024_S8x1024_S272x1024_d0

/-- The residual rows of 272 rows. -/
def residWithin (a : Vec Ideal S1x272x1024 .f32) : FVec Ideal S272x1024 .f32 := shapeCast S272x1024 a shapeCasts_S1x272x1024_S272x1024

/-- Modulation vectors as rows. -/
def flatMods (l : Vec Ideal S1x1x8x1024 .f32) : FVec Ideal S8x1024 .f32 := shapeCast S8x1024 l shapeCasts_S1x1x8x1024_S8x1024

/-- Tile `j` of a grid point. -/
def tileOf (i : grid0.Coords) (j : BitVec 32) : BitVec 32 := Scalar.addi (Scalar.addi (Scalar.muli (BitVec.ofNat 32 (i 1).val) 3#32) j) 0#32

/-- What is stored of a tile. -/
def tileOut (tile : BitVec 32) (mods : FVec Ideal S8x1024 .f32) (u v : FVec Ideal S288x384 .bf16) (w : FVec Ideal S288x256 .bf16) (x13 : Vec Ideal S1024x1024 .bf16) (xs : FVec Ideal S272x1024 .f32)
    (x14 x15 : Vec Ideal S1x1024 .f32) (x16 : Vec Ideal S1024x5632 .bf16) (x17 : Vec Ideal S3x5632 .f32) (x18 : Vec Ideal S1x5632 .f32) (x19 : Vec Ideal S2816x1024 .bf16)
    (x20 x21 : Vec Ideal S1x1024 .f32) : FVec Ideal S1x256x1024 .f32 :=
  finish tile mods (affine272 (branch mods (columns u v w) x13 xs) x14 x15) x16 x17 x18 x19 x20 x21

set_option maxHeartbeats 8000000 in
/-- The text of tile 0 is the named operations'. -/
theorem piece0 (i : grid0.Coords) (x0 : Vec Ideal S1x16x384 .bf16) (x1 : Vec Ideal S1x768x384 .bf16) (x2 : Vec Ideal S1x16x384 .bf16) (x3 : Vec Ideal S1x16x384 .bf16) (x4 : Vec Ideal S1x768x384 .bf16) (x5 : Vec Ideal S1x16x384 .bf16) (x6 : Vec Ideal S1x16x256 .bf16) (x7 : Vec Ideal S1x768x256 .bf16) (x8 : Vec Ideal S1x16x256 .bf16) (x9 : Vec Ideal S1x8x1024 .f32) (x10 : Vec Ideal S1x768x1024 .f32) (x11 : Vec Ideal S1x8x1024 .f32) (x12 : Vec Ideal S1x2x8x1024 .f32) (x13 : Vec Ideal S1024x1024 .bf16) (x14 : Vec Ideal S1x1024 .f32) (x15 : Vec Ideal S1x1024 .f32) (x16 : Vec Ideal S1024x5632 .bf16) (x17 : Vec Ideal S3x5632 .f32) (x18 : Vec Ideal S1x5632 .f32) (x19 : Vec Ideal S2816x1024 .bf16) (x20 : Vec Ideal S1x1024 .f32) (x21 : Vec Ideal S1x1024 .f32) :
    k0_pay82 (k0_pay81 (k0_pay8 (k0_pay209 i x0 x1 x2 x3 x4 x5 x6 x7 x8 x9 x10 x11 x12 x13 x14 x15 x16 x17 x18 x19 x20 x21)) (k0_pay9 (k0_pay207 i x0 x1 x2 x3 x4 x5 x6 x7 x8 x9 x10 x11 x12 x13 x14 x15 x16 x17 x18 x19 x20 x21)) (k0_pay73 (k0_pay63 (k0_pay212 i x0 x1 x2 x3 x4 x5 x6 x7 x8 x9 x10 x11 x12 x13 x14 x15 x16 x17 x18 x19 x20 x21) (View.ld x16 r0_106)) (k0_pay70 (k0_pay222 i x0 x1 x2 x3 x4 x5 x6 x7 x8 x9 x10 x11 x12 x13 x14 x15 x16 x17 x18 x19 x20 x21) (k0_pay67 (k0_pay221 i x0 x1 x2 x3 x4 x5 x6 x7 x8 x9 x10 x11 x12 x13 x14 x15 x16 x17 x18 x19 x20 x21) (k0_pay61 (k0_pay57 (k0_pay36 (k0_pay212 i x0 x1 x2 x3 x4 x5 x6 x7 x8 x9 x10 x11 x12 x13 x14 x15 x16 x17 x18 x19 x20 x21) (View.ld x16 r0_59)) (k0_pay51 (k0_pay216 i x0 x1 x2 x3 x4 x5 x6 x7 x8 x9 x10 x11 x12 x13 x14 x15 x16 x17 x18 x19 x20 x21) (k0_pay38 (k0_pay215 i x0 x1 x2 x3 x4 x5 x6 x7 x8 x9 x10 x11 x12 x13 x14 x15 x16 x17 x18 x19 x20 x21) (k0_pay26 (k0_pay212 i x0 x1 x2 x3 x4 x5 x6 x7 x8 x9 x10 x11 x12 x13 x14 x15 x16 x17 x18 x19 x20 x21) (View.ld x16 r0_37)) (k0_pay34 (k0_pay214 i x0 x1 x2 x3 x4 x5 x6 x7 x8 x9 x10 x11 x12 x13 x14 x15 x16 x17 x18 x19 x20 x21) (k0_pay29 (k0_pay23 (k0_pay213 i x0 x1 x2 x3 x4 x5 x6 x7 x8 x9 x10 x11 x12 x13 x14 x15 x16 x17 x18 x19 x20 x21) (k0_pay14 (k0_pay212 i x0 x1 x2 x3 x4 x5 x6 x7 x8 x9 x10 x11 x12 x13 x14 x15 x16 x17 x18 x19 x20 x21) (View.ld x16 r0_13)) (k0_pay18 (k0_pay10 (F := Ideal)) (k0_pay12 (k0_pay212 i x0 x1 x2 x3 x4 x5 x6 x7 x8 x9 x10 x11 x12 x13 x14 x15 x16 x17 x18 x19 x20 x21) (View.ld x16 r0_11)) (k0_pay17 (k0_pay11 (Scalar.addi (Scalar.addi (Scalar.muli (BitVec.ofNat 32 (i 1).val) 3#32) 0#32) 0#32) (k0_pay207 i x0 x1 x2 x3 x4 x5 x6 x7 x8 x9 x10 x11 x12 x13 x14 x15 x16 x17 x18 x19 x20 x21) (k0_pay209 i x0 x1 x2 x3 x4 x5 x6 x7 x8 x9 x10 x11 x12 x13 x14 x15 x16 x17 x18 x19 x20 x21) (k0_pay210 i x0 x1 x2 x3 x4 x5 x6 x7 x8 x9 x10 x11 x12 x13 x14 x15 x16 x17 x18 x19 x20 x21) (k0_pay211 i x0 x1 x2 x3 x4 x5 x6 x7 x8 x9 x10 x11 x12 x13 x14 x15 x16 x17 x18 x19 x20 x21) (View.ld x16 r0_10)) (View.ld x17 r0_16) (View.ld x17 r0_17) (View.ld x17 r0_18) (View.ld x18 r0_19)) (View.ld x17 r0_20) (View.ld x17 r0_21) (View.ld x17 r0_22) (View.ld x18 r0_23) (View.ld x19 r0_24)) (k0_pay21 (k0_pay213 i x0 x1 x2 x3 x4 x5 x6 x7 x8 x9 x10 x11 x12 x13 x14 x15 x16 x17 x18 x19 x20 x21) (View.ld x17 r0_27)) (k0_pay22 (View.ld x17 r0_28)) (View.ld x17 r0_29) (View.ld x18 r0_30) (View.ld x17 r0_31) (View.ld x17 r0_32) (View.ld x17 r0_33) (View.ld x18 r0_34) (View.ld x19 r0_35)) (k0_pay27 (k0_pay15 (k0_pay212 i x0 x1 x2 x3 x4 x5 x6 x7 x8 x9 x10 x11 x12 x13 x14 x15 x16 x17 x18 x19 x20 x21) (View.ld x16 r0_14)) (View.ld x17 r0_38) (View.ld x17 r0_39) (View.ld x17 r0_40) (View.ld x18 r0_41)) (k0_pay28 (k0_pay16 (k0_pay212 i x0 x1 x2 x3 x4 x5 x6 x7 x8 x9 x10 x11 x12 x13 x14 x15 x16 x17 x18 x19 x20 x21) (View.ld x16 r0_15)) (View.ld x17 r0_42) (View.ld x17 r0_43) (View.ld x17 r0_44)) (View.ld x18 r0_45) (View.ld x19 r0_46)) (k0_pay32 (k0_pay19 (k0_pay212 i x0 x1 x2 x3 x4 x5 x6 x7 x8 x9 x10 x11 x12 x13 x14 x15 x16 x17 x18 x19 x20 x21) (View.ld x16 r0_25)) (View.ld x17 r0_49) (View.ld x17 r0_50) (View.ld x17 r0_51) (View.ld x18 r0_52)) (k0_pay33 (k0_pay214 i x0 x1 x2 x3 x4 x5 x6 x7 x8 x9 x10 x11 x12 x13 x14 x15 x16 x17 x18 x19 x20 x21)) (View.ld x17 r0_53) (View.ld x17 r0_54) (View.ld x17 r0_55) (View.ld x18 r0_56) (View.ld x19 r0_57)) (k0_pay37 (k0_pay215 i x0 x1 x2 x3 x4 x5 x6 x7 x8 x9 x10 x11 x12 x13 x14 x15 x16 x17 x18 x19 x20 x21) (View.ld x17 r0_60) (View.ld x17 r0_61)) 271#32 (View.ld x17 r0_62) (View.ld x18 r0_63) (View.ld x17 r0_64) (View.ld x17 r0_65) (View.ld x17 r0_66) (View.ld x18 r0_67) (View.ld x19 r0_68)) (k0_pay49 (k0_pay30 (k0_pay212 i x0 x1 x2 x3 x4 x5 x6 x7 x8 x9 x10 x11 x12 x13 x14 x15 x16 x17 x18 x19 x20 x21) (View.ld x16 r0_47)) (View.ld x17 r0_74) (View.ld x17 r0_75) (View.ld x17 r0_76) (View.ld x18 r0_77)) (k0_pay50 (k0_pay216 i x0 x1 x2 x3 x4 x5 x6 x7 x8 x9 x10 x11 x12 x13 x14 x15 x16 x17 x18 x19 x20 x21) (View.ld x17 r0_78)) (View.ld x17 r0_79) (View.ld x17 r0_80) (View.ld x18 r0_81) (View.ld x19 r0_82)) (k0_pay54 (k0_pay217 i x0 x1 x2 x3 x4 x5 x6 x7 x8 x9 x10 x11 x12 x13 x14 x15 x16 x17 x18 x19 x20 x21) (View.ld x17 r0_85) (View.ld x17 r0_86)) (k0_pay55 (k0_pay217 i x0 x1 x2 x3 x4 x5 x6 x7 x8 x9 x10 x11 x12 x13 x14 x15 x16 x17 x18 x19 x20 x21)) (k0_pay56 (View.ld x17 r0_87)) (View.ld x18 r0_88) (View.ld x17 r0_89) (View.ld x17 r0_90) (View.ld x17 r0_91) (View.ld x18 r0_92) (View.ld x19 r0_93)) (k0_pay60 (k0_pay39 (k0_pay212 i x0 x1 x2 x3 x4 x5 x6 x7 x8 x9 x10 x11 x12 x13 x14 x15 x16 x17 x18 x19 x20 x21) (View.ld x16 r0_69)) (k0_pay40 (k0_pay212 i x0 x1 x2 x3 x4 x5 x6 x7 x8 x9 x10 x11 x12 x13 x14 x15 x16 x17 x18 x19 x20 x21) (View.ld x16 r0_70)) (View.ld x17 r0_96) (View.ld x17 r0_97) (View.ld x17 r0_98) (View.ld x18 r0_99) (View.ld x17 r0_100) (View.ld x17 r0_101) (View.ld x17 r0_102) (View.ld x18 r0_103)) (View.ld x19 r0_104)) (k0_pay64 (k0_pay52 (k0_pay212 i x0 x1 x2 x3 x4 x5 x6 x7 x8 x9 x10 x11 x12 x13 x14 x15 x16 x17 x18 x19 x20 x21) (View.ld x16 r0_83)) (View.ld x17 r0_107) (View.ld x17 r0_108) (View.ld x17 r0_109) (View.ld x18 r0_110)) (k0_pay65 (k0_pay221 i x0 x1 x2 x3 x4 x5 x6 x7 x8 x9 x10 x11 x12 x13 x14 x15 x16 x17 x18 x19 x20 x21) (View.ld x17 r0_111)) (k0_pay66 (View.ld x17 r0_112)) (View.ld x17 r0_113) (View.ld x18 r0_114) (View.ld x19 r0_115)) (k0_pay68 (k0_pay58 (k0_pay212 i x0 x1 x2 x3 x4 x5 x6 x7 x8 x9 x10 x11 x12 x13 x14 x15 x16 x17 x18 x19 x20 x21) (View.ld x16 r0_94)) (View.ld x17 r0_116) (View.ld x17 r0_117) (View.ld x17 r0_118) (View.ld x18 r0_119)) (k0_pay69 (k0_pay222 i x0 x1 x2 x3 x4 x5 x6 x7 x8 x9 x10 x11 x12 x13 x14 x15 x16 x17 x18 x19 x20 x21)) (View.ld x17 r0_120) (View.ld x17 r0_121) (View.ld x17 r0_122) (View.ld x18 r0_123) (View.ld x19 r0_124)) (k0_pay71 (k0_pay62 (k0_pay212 i x0 x1 x2 x3 x4 x5 x6 x7 x8 x9 x10 x11 x12 x13 x14 x15 x16 x17 x18 x19 x20 x21) (View.ld x16 r0_105)) (View.ld x17 r0_125) (View.ld x17 r0_126) (View.ld x17 r0_127)) (k0_pay72 (View.ld x18 r0_128)) (View.ld x17 r0_129) (View.ld x17 r0_130) (View.ld x17 r0_131) (View.ld x18 r0_132) (View.ld x19 r0_133)) (View.ld x20 r0_9) (View.ld x21 r0_9)) =
      tileOut (tileOf i 0#32) (tileMods (tileOf i 0#32) (View.ld x12 r0_0) (View.ld x12 r0_1)) (before384 (View.ld x0 r0_2) (View.ld x1 r0_3)) (before384 (View.ld x3 r0_2) (View.ld x4 r0_3))
        (before256 (View.ld x6 r0_4) (View.ld x7 r0_5)) (View.ld x13 r0_6) (residBefore (View.ld x9 r0_7) (View.ld x10 r0_8)) (View.ld x14 r0_9) (View.ld x15 r0_9) x16 x17 x18 x19 (View.ld x20 r0_9) (View.ld x21 r0_9) := by
  rfl

set_option maxHeartbeats 8000000 in
/-- The text of tile 1 is the named operations'. -/
theorem piece1 (i : grid0.Coords) (x0 : Vec Ideal S1x16x384 .bf16) (x1 : Vec Ideal S1x768x384 .bf16) (x2 : Vec Ideal S1x16x384 .bf16) (x3 : Vec Ideal S1x16x384 .bf16) (x4 : Vec Ideal S1x768x384 .bf16) (x5 : Vec Ideal S1x16x384 .bf16) (x6 : Vec Ideal S1x16x256 .bf16) (x7 : Vec Ideal S1x768x256 .bf16) (x8 : Vec Ideal S1x16x256 .bf16) (x9 : Vec Ideal S1x8x1024 .f32) (x10 : Vec Ideal S1x768x1024 .f32) (x11 : Vec Ideal S1x8x1024 .f32) (x12 : Vec Ideal S1x2x8x1024 .f32) (x13 : Vec Ideal S1024x1024 .bf16) (x14 : Vec Ideal S1x1024 .f32) (x15 : Vec Ideal S1x1024 .f32) (x16 : Vec Ideal S1024x5632 .bf16) (x17 : Vec Ideal S3x5632 .f32) (x18 : Vec Ideal S1x5632 .f32) (x19 : Vec Ideal S2816x1024 .bf16) (x20 : Vec Ideal S1x1024 .f32) (x21 : Vec Ideal S1x1024 .f32) :
    k0_pay152 (k0_pay151 (k0_pay47 (k0_pay43 (k0_pay219 i x0 x1 x2 x3 x4 x5 x6 x7 x8 x9 x10 x11 x12 x13 x14 x15 x16 x17 x18 x19 x20 x21) (View.ld x14 r0_9) (View.ld x15 r0_9))) (k0_pay48 (k0_pay218 i x0 x1 x2 x3 x4 x5 x6 x7 x8 x9 x10 x11 x12 x13 x14 x15 x16 x17 x18 x19 x20 x21)) (k0_pay143 (k0_pay133 (k0_pay220 i x0 x1 x2 x3 x4 x5 x6 x7 x8 x9 x10 x11 x12 x13 x14 x15 x16 x17 x18 x19 x20 x21) (View.ld x16 r0_106)) (k0_pay140 (k0_pay234 i x0 x1 x2 x3 x4 x5 x6 x7 x8 x9 x10 x11 x12 x13 x14 x15 x16 x17 x18 x19 x20 x21) (k0_pay136 (k0_pay233 i x0 x1 x2 x3 x4 x5 x6 x7 x8 x9 x10 x11 x12 x13 x14 x15 x16 x17 x18 x19 x20 x21) (k0_pay131 (k0_pay126 (k0_pay103 (k0_pay220 i x0 x1 x2 x3 x4 x5 x6 x7 x8 x9 x10 x11 x12 x13 x14 x15 x16 x17 x18 x19 x20 x21) (View.ld x16 r0_59)) (k0_pay122 (k0_pay226 i x0 x1 x2 x3 x4 x5 x6 x7 x8 x9 x10 x11 x12 x13 x14 x15 x16 x17 x18 x19 x20 x21) (k0_pay106 (k0_pay225 i x0 x1 x2 x3 x4 x5 x6 x7 x8 x9 x10 x11 x12 x13 x14 x15 x16 x17 x18 x19 x20 x21) (k0_pay101 (k0_pay96 (k0_pay80 (k0_pay220 i x0 x1 x2 x3 x4 x5 x6 x7 x8 x9 x10 x11 x12 x13 x14 x15 x16 x17 x18 x19 x20 x21) (View.ld x16 r0_15)) (k0_pay91 (k0_pay223 i x0 x1 x2 x3 x4 x5 x6 x7 x8 x9 x10 x11 x12 x13 x14 x15 x16 x17 x18 x19 x20 x21) (k0_pay86 (k0_pay74 (F := Ideal)) (k0_pay83 (k0_pay75 (k0_pay220 i x0 x1 x2 x3 x4 x5 x6 x7 x8 x9 x10 x11 x12 x13 x14 x15 x16 x17 x18 x19 x20 x21) (View.ld x16 r0_10)) (View.ld x17 r0_16) (View.ld x17 r0_17) (View.ld x17 r0_18) (View.ld x18 r0_19)) (k0_pay84 (k0_pay76 (k0_pay220 i x0 x1 x2 x3 x4 x5 x6 x7 x8 x9 x10 x11 x12 x13 x14 x15 x16 x17 x18 x19 x20 x21) (View.ld x16 r0_11)) (View.ld x17 r0_20) (View.ld x17 r0_21) (View.ld x17 r0_22)) (k0_pay85 (View.ld x18 r0_23)) (View.ld x19 r0_24)) (k0_pay89 (k0_pay77 (k0_pay220 i x0 x1 x2 x3 x4 x5 x6 x7 x8 x9 x10 x11 x12 x13 x14 x15 x16 x17 x18 x19 x20 x21) (View.ld x16 r0_12)) (View.ld x17 r0_27) (View.ld x17 r0_28) (View.ld x17 r0_29) (View.ld x18 r0_30)) (k0_pay90 (k0_pay223 i x0 x1 x2 x3 x4 x5 x6 x7 x8 x9 x10 x11 x12 x13 x14 x15 x16 x17 x18 x19 x20 x21) (View.ld x17 r0_31)) (View.ld x17 r0_32) (View.ld x17 r0_33) (View.ld x18 r0_34) (View.ld x19 r0_35)) (k0_pay94 (k0_pay224 i x0 x1 x2 x3 x4 x5 x6 x7 x8 x9 x10 x11 x12 x13 x14 x15 x16 x17 x18 x19 x20 x21) (View.ld x17 r0_38) (View.ld x17 r0_39)) (k0_pay95 (k0_pay224 i x0 x1 x2 x3 x4 x5 x6 x7 x8 x9 x10 x11 x12 x13 x14 x15 x16 x17 x18 x19 x20 x21)) (View.ld x17 r0_40) (View.ld x18 r0_41) (View.ld x17 r0_42) (View.ld x17 r0_43) (View.ld x17 r0_44) (View.ld x18 r0_45) (View.ld x19 r0_46)) (k0_pay100 (k0_pay87 (k0_pay220 i x0 x1 x2 x3 x4 x5 x6 x7 x8 x9 x10 x11 x12 x13 x14 x15 x16 x17 x18 x19 x20 x21) (View.ld x16 r0_25)) (k0_pay88 (k0_pay220 i x0 x1 x2 x3 x4 x5 x6 x7 x8 x9 x10 x11 x12 x13 x14 x15 x16 x17 x18 x19 x20 x21) (View.ld x16 r0_26)) (View.ld x17 r0_49) (View.ld x17 r0_50) (View.ld x17 r0_51) (View.ld x18 r0_52) (View.ld x17 r0_53) (View.ld x17 r0_54) (View.ld x17 r0_55) (View.ld x18 r0_56)) (View.ld x19 r0_57)) (k0_pay104 (k0_pay92 (k0_pay220 i x0 x1 x2 x3 x4 x5 x6 x7 x8 x9 x10 x11 x12 x13 x14 x15 x16 x17 x18 x19 x20 x21) (View.ld x16 r0_36)) (View.ld x17 r0_60) (View.ld x17 r0_61) (View.ld x17 r0_62) (View.ld x18 r0_63)) (k0_pay105 (k0_pay225 i x0 x1 x2 x3 x4 x5 x6 x7 x8 x9 x10 x11 x12 x13 x14 x15 x16 x17 x18 x19 x20 x21) (View.ld x17 r0_64)) (View.ld x17 r0_65) (View.ld x17 r0_66) (View.ld x18 r0_67) (View.ld x19 r0_68)) (k0_pay120 (k0_pay97 (k0_pay220 i x0 x1 x2 x3 x4 x5 x6 x7 x8 x9 x10 x11 x12 x13 x14 x15 x16 x17 x18 x19 x20 x21) (View.ld x16 r0_47)) (View.ld x17 r0_74) (View.ld x17 r0_75) (View.ld x17 r0_76) (View.ld x18 r0_77)) (k0_pay121 (k0_pay226 i x0 x1 x2 x3 x4 x5 x6 x7 x8 x9 x10 x11 x12 x13 x14 x15 x16 x17 x18 x19 x20 x21) (View.ld x17 r0_78)) (View.ld x17 r0_79) (View.ld x17 r0_80) (View.ld x18 r0_81) (View.ld x19 r0_82)) (k0_pay125 (k0_pay102 (k0_pay220 i x0 x1 x2 x3 x4 x5 x6 x7 x8 x9 x10 x11 x12 x13 x14 x15 x16 x17 x18 x19 x20 x21) (View.ld x16 r0_58)) (View.ld x17 r0_85) (View.ld x17 r0_86) (View.ld x17 r0_87)) (View.ld x18 r0_88) (View.ld x17 r0_89) (View.ld x17 r0_90) (View.ld x17 r0_91) (View.ld x18 r0_92) (View.ld x19 r0_93)) (k0_pay130 (k0_pay227 i x0 x1 x2 x3 x4 x5 x6 x7 x8 x9 x10 x11 x12 x13 x14 x15 x16 x17 x18 x19 x20 x21) (k0_pay108 (k0_pay220 i x0 x1 x2 x3 x4 x5 x6 x7 x8 x9 x10 x11 x12 x13 x14 x15 x16 x17 x18 x19 x20 x21) (View.ld x16 r0_70)) (k0_pay129 (k0_pay227 i x0 x1 x2 x3 x4 x5 x6 x7 x8 x9 x10 x11 x12 x13 x14 x15 x16 x17 x18 x19 x20 x21)) (View.ld x17 r0_96) (View.ld x17 r0_97) (View.ld x17 r0_98) (View.ld x18 r0_99) (View.ld x17 r0_100) (View.ld x17 r0_101) (View.ld x17 r0_102) (View.ld x18 r0_103)) (View.ld x19 r0_104)) (k0_pay134 (k0_pay123 (k0_pay220 i x0 x1 x2 x3 x4 x5 x6 x7 x8 x9 x10 x11 x12 x13 x14 x15 x16 x17 x18 x19 x20 x21) (View.ld x16 r0_83)) (View.ld x17 r0_107) (View.ld x17 r0_108) (View.ld x17 r0_109) (View.ld x18 r0_110)) (k0_pay135 (k0_pay233 i x0 x1 x2 x3 x4 x5 x6 x7 x8 x9 x10 x11 x12 x13 x14 x15 x16 x17 x18 x19 x20 x21) (View.ld x17 r0_111) (View.ld x17 r0_112)) (View.ld x17 r0_113) (View.ld x18 r0_114) (View.ld x19 r0_115)) (k0_pay137 (k0_pay127 (k0_pay220 i x0 x1 x2 x3 x4 x5 x6 x7 x8 x9 x10 x11 x12 x13 x14 x15 x16 x17 x18 x19 x20 x21) (View.ld x16 r0_94)) (View.ld x17 r0_116) (View.ld x17 r0_117) (View.ld x17 r0_118) (View.ld x18 r0_119)) (k0_pay138 (k0_pay234 i x0 x1 x2 x3 x4 x5 x6 x7 x8 x9 x10 x11 x12 x13 x14 x15 x16 x17 x18 x19 x20 x21)) (k0_pay139 (View.ld x17 r0_120)) (View.ld x17 r0_121) (View.ld x17 r0_122) (View.ld x18 r0_123) (View.ld x19 r0_124)) (k0_pay141 (k0_pay235 i x0 x1 x2 x3 x4 x5 x6 x7 x8 x9 x10 x11 x12 x13 x14 x15 x16 x17 x18 x19 x20 x21) (View.ld x17 r0_125) (View.ld x17 r0_126) (View.ld x17 r0_127) (View.ld x18 r0_128)) (k0_pay142 (k0_pay235 i x0 x1 x2 x3 x4 x5 x6 x7 x8 x9 x10 x11 x12 x13 x14 x15 x16 x17 x18 x19 x20 x21) (View.ld x17 r0_125) (View.ld x17 r0_126) (View.ld x17 r0_127) (View.ld x18 r0_128)) (View.ld x17 r0_129) (View.ld x17 r0_130) (View.ld x17 r0_131) (View.ld x18 r0_132) (View.ld x19 r0_133)) (View.ld x20 r0_9) (View.ld x21 r0_9)) =
      tileOut (tileOf i 1#32) (flatMods (View.ld x12 r0_1)) (within384 (View.ld x1 r0_71)) (within384 (View.ld x4 r0_71))
        (within256 (View.ld x7 r0_72)) (View.ld x13 r0_6) (residWithin (View.ld x10 r0_73)) (View.ld x14 r0_9) (View.ld x15 r0_9) x16 x17 x18 x19 (View.ld x20 r0_9) (View.ld x21 r0_9) := by
  rfl

set_option maxHeartbeats 8000000 in
/-- The text of tile 2 is the named operations'. -/
theorem piece2 (i : grid0.Coords) (x0 : Vec Ideal S1x16x384 .bf16) (x1 : Vec Ideal S1x768x384 .bf16) (x2 : Vec Ideal S1x16x384 .bf16) (x3 : Vec Ideal S1x16x384 .bf16) (x4 : Vec Ideal S1x768x384 .bf16) (x5 : Vec Ideal S1x16x384 .bf16) (x6 : Vec Ideal S1x16x256 .bf16) (x7 : Vec Ideal S1x768x256 .bf16) (x8 : Vec Ideal S1x16x256 .bf16) (x9 : Vec Ideal S1x8x1024 .f32) (x10 : Vec Ideal S1x768x1024 .f32) (x11 : Vec Ideal S1x8x1024 .f32) (x12 : Vec Ideal S1x2x8x1024 .f32) (x13 : Vec Ideal S1024x1024 .bf16) (x14 : Vec Ideal S1x1024 .f32) (x15 : Vec Ideal S1x1024 .f32) (x16 : Vec Ideal S1024x5632 .bf16) (x17 : Vec Ideal S3x5632 .f32) (x18 : Vec Ideal S1x5632 .f32) (x19 : Vec Ideal S2816x1024 .bf16) (x20 : Vec Ideal S1x1024 .f32) (x21 : Vec Ideal S1x1024 .f32) :
    k0_pay1 (k0_pay205 (k0_pay243 i x0 x1 x2 x3 x4 x5 x6 x7 x8 x9 x10 x11 x12 x13 x14 x15 x16 x17 x18 x19 x20 x21) (k0_pay244 i x0 x1 x2 x3 x4 x5 x6 x7 x8 x9 x10 x11 x12 x13 x14 x15 x16 x17 x18 x19 x20 x21)) (k0_pay206 (k0_pay243 i x0 x1 x2 x3 x4 x5 x6 x7 x8 x9 x10 x11 x12 x13 x14 x15 x16 x17 x18 x19 x20 x21) (k0_pay244 i x0 x1 x2 x3 x4 x5 x6 x7 x8 x9 x10 x11 x12 x13 x14 x15 x16 x17 x18 x19 x20 x21)) (View.ld x20 r0_9) (View.ld x21 r0_9) =
      tileOut (tileOf i 2#32) (flatMods (View.ld x12 r0_1)) (after384 (View.ld x1 r0_135) (View.ld x2 r0_2)) (after384 (View.ld x4 r0_135) (View.ld x5 r0_2))
        (after256 (View.ld x7 r0_136) (View.ld x8 r0_4)) (View.ld x13 r0_6) (residAfter (View.ld x10 r0_137) (View.ld x11 r0_7)) (View.ld x14 r0_9) (View.ld x15 r0_9) x16 x17 x18 x19 (View.ld x20 r0_9) (View.ld x21 r0_9) := by
  rfl

/-- The stored tiles are the named operations' values. -/
theorem out_eq (i : grid0.Coords) (x0 : Vec Ideal S1x16x384 .bf16) (x1 : Vec Ideal S1x768x384 .bf16) (x2 : Vec Ideal S1x16x384 .bf16) (x3 : Vec Ideal S1x16x384 .bf16) (x4 : Vec Ideal S1x768x384 .bf16) (x5 : Vec Ideal S1x16x384 .bf16) (x6 : Vec Ideal S1x16x256 .bf16) (x7 : Vec Ideal S1x768x256 .bf16) (x8 : Vec Ideal S1x16x256 .bf16) (x9 : Vec Ideal S1x8x1024 .f32) (x10 : Vec Ideal S1x768x1024 .f32) (x11 : Vec Ideal S1x8x1024 .f32) (x12 : Vec Ideal S1x2x8x1024 .f32) (x13 : Vec Ideal S1024x1024 .bf16) (x14 : Vec Ideal S1x1024 .f32) (x15 : Vec Ideal S1x1024 .f32) (x16 : Vec Ideal S1024x5632 .bf16) (x17 : Vec Ideal S3x5632 .f32) (x18 : Vec Ideal S1x5632 .f32) (x19 : Vec Ideal S2816x1024 .bf16) (x20 : Vec Ideal S1x1024 .f32) (x21 : Vec Ideal S1x1024 .f32) :
    out0_22 i x0 x1 x2 x3 x4 x5 x6 x7 x8 x9 x10 x11 x12 x13 x14 x15 x16 x17 x18 x19 x20 x21 = View.canon [⟨r0_139, tileOut (tileOf i 2#32) (flatMods (View.ld x12 r0_1)) (after384 (View.ld x1 r0_135) (View.ld x2 r0_2)) (after384 (View.ld x4 r0_135) (View.ld x5 r0_2))
        (after256 (View.ld x7 r0_136) (View.ld x8 r0_4)) (View.ld x13 r0_6) (residAfter (View.ld x10 r0_137) (View.ld x11 r0_7)) (View.ld x14 r0_9) (View.ld x15 r0_9) x16 x17 x18 x19 (View.ld x20 r0_9) (View.ld x21 r0_9)⟩,
      ⟨r0_138, tileOut (tileOf i 1#32) (flatMods (View.ld x12 r0_1)) (within384 (View.ld x1 r0_71)) (within384 (View.ld x4 r0_71))
        (within256 (View.ld x7 r0_72)) (View.ld x13 r0_6) (residWithin (View.ld x10 r0_73)) (View.ld x14 r0_9) (View.ld x15 r0_9) x16 x17 x18 x19 (View.ld x20 r0_9) (View.ld x21 r0_9)⟩,
      ⟨r0_134, tileOut (tileOf i 0#32) (tileMods (tileOf i 0#32) (View.ld x12 r0_0) (View.ld x12 r0_1)) (before384 (View.ld x0 r0_2) (View.ld x1 r0_3)) (before384 (View.ld x3 r0_2) (View.ld x4 r0_3))
        (before256 (View.ld x6 r0_4) (View.ld x7 r0_5)) (View.ld x13 r0_6) (residBefore (View.ld x9 r0_7) (View.ld x10 r0_8)) (View.ld x14 r0_9) (View.ld x15 r0_9) x16 x17 x18 x19 (View.ld x20 r0_9) (View.ld x21 r0_9)⟩] := by
  rw [← piece0 i x0 x1 x2 x3 x4 x5 x6 x7 x8 x9 x10 x11 x12 x13 x14 x15 x16 x17 x18 x19 x20 x21, ← piece1 i x0 x1 x2 x3 x4 x5 x6 x7 x8 x9 x10 x11 x12 x13 x14 x15 x16 x17 x18 x19 x20 x21, ← piece2 i x0 x1 x2 x3 x4 x5 x6 x7 x8 x9 x10 x11 x12 x13 x14 x15 x16 x17 x18 x19 x20 x21]
  rfl

end Cert.Ffn3
-- ==== Proof.FfnValue3.lean ====
/-
  What the earlier layers' call leaves in its result.
-/
module

public import proofs.«01_k».proof.Proof.FfnBlocks3
public import proofs.«01_k».proof.Proof.FfnTile3

@[expose] public section

set_option maxRecDepth 16384

noncomputable section

namespace Cert.Ffn3

open Idealize.ShloMosaic Idealize.ShloMosaic.TcCoe Idealize.SL.Sem Cert.Layer
open Cert.Kernel3Ideal Cert.Kernel3Ideal.Gen
open Cert.Ffn (headOf rowOf rowed_apply rowAt mixed keep sides layerAt flat1024 flat5632 weights Weights vectors tileMods tileMods_apply columns_apply tile_eq)

variable (m : (ℓ : Loc nD τ sig) → Buf (Elt Ideal) ℓ)

/-- The layer's weights. -/
def W (c : Dev nD) : Weights where
  out := fun q k => (m ((c : Thread nD τ).loc main_arg6) : FVec Ideal S1024x1024 .f32) (ix2 q k)
  g1 := fun k => (m ((c : Thread nD τ).loc main_arg7) : FVec Ideal S1024 .f32) (ix1 k)
  b1 := fun k => (m ((c : Thread nD τ).loc main_arg8) : FVec Ideal S1024 .f32) (ix1 k)
  up := fun k j => (m ((c : Thread nD τ).loc main_arg9) : FVec Ideal S1024x5632 .f32) (ix2 k j)
  taps := fun i j => (m ((c : Thread nD τ).loc main_arg10) : FVec Ideal S3x5632 .f32) (ix2 i j)
  offset := fun j => (m ((c : Thread nD τ).loc main_arg11) : FVec Ideal S5632 .f32) (ix1 j)
  down := fun j k => (m ((c : Thread nD τ).loc main_arg12) : FVec Ideal S2816x1024 .f32) (ix2 j k)
  g2 := fun k => (m ((c : Thread nD τ).loc main_arg13) : FVec Ideal S1024 .f32) (ix1 k)
  b2 := fun k => (m ((c : Thread nD τ).loc main_arg14) : FVec Ideal S1024 .f32) (ix1 k)

/-- The context's modulation vectors. -/
def modsC (c : Dev nD) (q : Fin 6) (k : Fin 1024) : EReal := (m ((c : Thread nD τ).loc main_arg5) : FVec Ideal S6x1024 .f32) (ix2 q k)

/-- A batch's modulation vectors. -/
def modsL (c : Dev nD) (b : Fin 16) (q : Fin 6) (k : Fin 1024) : EReal := (m ((c : Thread nD τ).loc main_arg4) : FVec Ideal S16x6x1024 .f32) (ix3 b q k)

theorem block12 (c : Dev nD) (t : Fin cfg0.N) (s : Fin 2) (q : Fin 6) (k : Fin 1024) :
    (iblk m c 12 t : Vec Ideal S1x2x8x1024 .f32) (ix4 0 s (q.castLE (by decide)) k) = if s = 0 then modsC m c q k else modsL m c (batch t) q k := by
  refine Eq.trans ?_ (V_mods m c (batch t) s q k)
  blk_ext [iblk, idx t]

theorem block13 (c : Dev nD) (t : Fin cfg0.N) (q k : Fin 1024) :
    (iblk m c 13 t : Vec Ideal S1024x1024 .bf16) (ix2 q k) = (W m c).out (rowOf q) k := by
  have e : (iblk m c 13 t : Vec Ideal S1024x1024 .bf16) (ix2 q k) = (V m c main_v23 : FVec Ideal S1024x1024 .bf16) (ix2 q k) := by blk_ext [iblk, idx t]
  rw [e, V_out]
  exact rowed_apply _ q k

theorem block14 (c : Dev nD) (t : Fin cfg0.N) (k : Fin 1024) : (iblk m c 14 t : Vec Ideal S1x1024 .f32) (ix2 0 k) = (W m c).g1 k := by
  have e : (iblk m c 14 t : Vec Ideal S1x1024 .f32) (ix2 0 k) = (V m c main_v24 : FVec Ideal S1x1024 .f32) (ix2 0 k) := by blk_ext [iblk, idx t]
  rw [e, V_g1, show (W m c).g1 k = (m ((c : Thread nD τ).loc main_arg7) : FVec Ideal S1024 .f32) (ix1 k) from rfl]
  exact flat1024 _ k

theorem block15 (c : Dev nD) (t : Fin cfg0.N) (k : Fin 1024) : (iblk m c 15 t : Vec Ideal S1x1024 .f32) (ix2 0 k) = (W m c).b1 k := by
  have e : (iblk m c 15 t : Vec Ideal S1x1024 .f32) (ix2 0 k) = (V m c main_v25 : FVec Ideal S1x1024 .f32) (ix2 0 k) := by blk_ext [iblk, idx t]
  rw [e, V_b1, show (W m c).b1 k = (m ((c : Thread nD τ).loc main_arg8) : FVec Ideal S1024 .f32) (ix1 k) from rfl]
  exact flat1024 _ k

theorem block18 (c : Dev nD) (t : Fin cfg0.N) (k : Fin 5632) : (iblk m c 18 t : Vec Ideal S1x5632 .f32) (ix2 0 k) = (W m c).offset k := by
  have e : (iblk m c 18 t : Vec Ideal S1x5632 .f32) (ix2 0 k) = (V m c main_v27 : FVec Ideal S1x5632 .f32) (ix2 0 k) := by blk_ext [iblk, idx t]
  rw [e, V_offset, show (W m c).offset k = (m ((c : Thread nD τ).loc main_arg11) : FVec Ideal S5632 .f32) (ix1 k) from rfl]
  exact flat5632 _ k

theorem block20 (c : Dev nD) (t : Fin cfg0.N) (k : Fin 1024) : (iblk m c 20 t : Vec Ideal S1x1024 .f32) (ix2 0 k) = (W m c).g2 k := by
  have e : (iblk m c 20 t : Vec Ideal S1x1024 .f32) (ix2 0 k) = (V m c main_v29 : FVec Ideal S1x1024 .f32) (ix2 0 k) := by blk_ext [iblk, idx t]
  rw [e, V_g2, show (W m c).g2 k = (m ((c : Thread nD τ).loc main_arg13) : FVec Ideal S1024 .f32) (ix1 k) from rfl]
  exact flat1024 _ k

theorem block21 (c : Dev nD) (t : Fin cfg0.N) (k : Fin 1024) : (iblk m c 21 t : Vec Ideal S1x1024 .f32) (ix2 0 k) = (W m c).b2 k := by
  have e : (iblk m c 21 t : Vec Ideal S1x1024 .f32) (ix2 0 k) = (V m c main_v30 : FVec Ideal S1x1024 .f32) (ix2 0 k) := by blk_ext [iblk, idx t]
  rw [e, V_b2, show (W m c).b2 k = (m ((c : Thread nD τ).loc main_arg14) : FVec Ideal S1024 .f32) (ix1 k) from rfl]
  exact flat1024 _ k

theorem block16 (c : Dev nD) (t : Fin cfg0.N) (i : Fin 1024) (j : Fin 5632) : (iblk m c 16 t : Vec Ideal S1024x5632 .bf16) (ix2 i j) = (W m c).up i j := by
  have e : (iblk m c 16 t : Vec Ideal S1024x5632 .bf16) (ix2 i j) = (V m c main_v26 : FVec Ideal S1024x5632 .bf16) (ix2 i j) := by blk_ext [iblk, idx t]
  rw [e, V_up]
  rfl

theorem block19 (c : Dev nD) (t : Fin cfg0.N) (i : Fin 2816) (j : Fin 1024) : (iblk m c 19 t : Vec Ideal S2816x1024 .bf16) (ix2 i j) = (W m c).down i j := by
  have e : (iblk m c 19 t : Vec Ideal S2816x1024 .bf16) (ix2 i j) = (V m c main_v28 : FVec Ideal S2816x1024 .bf16) (ix2 i j) := by blk_ext [iblk, idx t]
  rw [e, V_down]
  rfl

theorem block17 (c : Dev nD) (t : Fin cfg0.N) (i : Fin 3) (j : Fin 5632) : (iblk m c 17 t : Vec Ideal S3x5632 .f32) (ix2 i j) = (W m c).taps i j := by
  have e : (iblk m c 17 t : Vec Ideal S3x5632 .f32) (ix2 i j) = (V m c main_arg10 : FVec Ideal S3x5632 .f32) (ix2 i j) := by blk_ext [iblk, idx t]
  rw [e]
  rfl

/-- The weights that a grid point reads: those of the projection in the kernel's order. -/
theorem blockW (c : Dev nD) (t : Fin cfg0.N) : weights (iblk m c 13 t) (iblk m c 14 t) (iblk m c 15 t) (iblk m c 16 t) (iblk m c 17 t) (iblk m c 18 t) (iblk m c 19 t) (iblk m c 20 t)
    (iblk m c 21 t) = { W m c with out := fun q => (W m c).out (rowOf q) } := by
  unfold weights
  simp only [block13, block14, block15, block16, block17, block18, block19, block20, block21]

theorem before384_apply (p : Vec Ideal S1x16x384 .bf16) (x : Vec Ideal S1x768x384 .bf16) (e : Fin 288) (q : Fin 384) :
    before384 p (View.ld x r0_3) (ix2 e q) = if h : e.val < 16 then p (ix3 0 ⟨e.val, h⟩ q) else x (ix3 0 ⟨e.val - 16, by omega⟩ q) := by
  pointwise [before384, r0_3]

theorem within384_apply (x : Vec Ideal S1x768x384 .bf16) (e : Fin 288) (q : Fin 384) :
    within384 (View.ld x r0_71) (ix2 e q) = x (ix3 0 ⟨240 + e.val, by omega⟩ q) := by
  pointwise [within384, r0_71]

theorem after384_apply (x : Vec Ideal S1x768x384 .bf16) (n : Vec Ideal S1x16x384 .bf16) (e : Fin 288) (q : Fin 384) :
    after384 (View.ld x r0_135) n (ix2 e q) = if h : e.val < 272 then x (ix3 0 ⟨496 + e.val, by omega⟩ q) else n (ix3 0 ⟨e.val - 272, by omega⟩ q) := by
  pointwise [after384, r0_135]

theorem before256_apply (p : Vec Ideal S1x16x256 .bf16) (x : Vec Ideal S1x768x256 .bf16) (e : Fin 288) (q : Fin 256) :
    before256 p (View.ld x r0_5) (ix2 e q) = if h : e.val < 16 then p (ix3 0 ⟨e.val, h⟩ q) else x (ix3 0 ⟨e.val - 16, by omega⟩ q) := by
  pointwise [before256, r0_5]

theorem within256_apply (x : Vec Ideal S1x768x256 .bf16) (e : Fin 288) (q : Fin 256) :
    within256 (View.ld x r0_72) (ix2 e q) = x (ix3 0 ⟨240 + e.val, by omega⟩ q) := by
  pointwise [within256, r0_72]

theorem after256_apply (x : Vec Ideal S1x768x256 .bf16) (n : Vec Ideal S1x16x256 .bf16) (e : Fin 288) (q : Fin 256) :
    after256 (View.ld x r0_136) n (ix2 e q) = if h : e.val < 272 then x (ix3 0 ⟨496 + e.val, by omega⟩ q) else n (ix3 0 ⟨e.val - 272, by omega⟩ q) := by
  pointwise [after256, r0_136]

theorem residBefore_apply (p : Vec Ideal S1x8x1024 .f32) (x : Vec Ideal S1x768x1024 .f32) (e : Fin 272) (k : Fin 1024) :
    residBefore p (View.ld x r0_8) (ix2 e k) = if h : e.val < 8 then p (ix3 0 ⟨e.val, h⟩ k) else x (ix3 0 ⟨e.val - 8, by omega⟩ k) := by
  pointwise [residBefore, r0_8]

theorem residWithin_apply (x : Vec Ideal S1x768x1024 .f32) (e : Fin 272) (k : Fin 1024) :
    residWithin (View.ld x r0_73) (ix2 e k) = x (ix3 0 ⟨248 + e.val, by omega⟩ k) := by
  pointwise [residWithin, r0_73]

theorem residAfter_apply (x : Vec Ideal S1x768x1024 .f32) (n : Vec Ideal S1x8x1024 .f32) (e : Fin 272) (k : Fin 1024) :
    residAfter (View.ld x r0_137) n (ix2 e k) = if h : e.val < 264 then x (ix3 0 ⟨504 + e.val, by omega⟩ k) else n (ix3 0 ⟨e.val - 264, by omega⟩ k) := by
  pointwise [residAfter, r0_137]

theorem rows_a0 (c : Dev nD) (t : Fin cfg0.N) (e : Fin 272) (he : keep (tile t 0).val e.val) (q : Fin 384) :
    before384 (iblk m c 0 t : Vec Ideal S1x16x384 .bf16) (View.ld (iblk m c 1 t : Vec Ideal S1x768x384 .bf16) r0_3) (ix2 ⟨8 + e.val, by omega⟩ q) = rowAt (inA m c (batch t)) (256 * (tile t 0).val + e.val - 8) q := by
  have he : (8 ≤ e.val ∨ 2 ≤ 3 * ((grid0.coords t) 1).val + 0) ∧ (e.val < 264 ∨ (1 ≤ 3 * ((grid0.coords t) 1).val + 0 ∧ 3 * ((grid0.coords t) 1).val + 0 < 8)) := he
  rw [before384_apply]
  split_ifs with h
  · have h : (8 + e.val) < 16 := h
    refine (block0 m c t (show 1 ≤ ((grid0.coords t) 1).val by omega) _ q).trans ?_
    exact congrFun (congrArg (rowAt (inA m c (batch t))) (show 768 * ((grid0.coords t) 1).val + (8 + e.val) - 16 = 256 * (3 * ((grid0.coords t) 1).val + 0) + e.val - 8 by omega)) _
  · have h : ¬ (8 + e.val) < 16 := h
    refine (block1 m c t _ q).trans ?_
    exact congrFun (congrArg (rowAt (inA m c (batch t))) (show 768 * ((grid0.coords t) 1).val + ((8 + e.val) - 16) = 256 * (3 * ((grid0.coords t) 1).val + 0) + e.val - 8 by omega)) _

theorem rows_b0 (c : Dev nD) (t : Fin cfg0.N) (e : Fin 272) (he : keep (tile t 0).val e.val) (q : Fin 384) :
    before384 (iblk m c 3 t : Vec Ideal S1x16x384 .bf16) (View.ld (iblk m c 4 t : Vec Ideal S1x768x384 .bf16) r0_3) (ix2 ⟨8 + e.val, by omega⟩ q) = rowAt (inB m c (batch t)) (256 * (tile t 0).val + e.val - 8) (headOf q) := by
  have he : (8 ≤ e.val ∨ 2 ≤ 3 * ((grid0.coords t) 1).val + 0) ∧ (e.val < 264 ∨ (1 ≤ 3 * ((grid0.coords t) 1).val + 0 ∧ 3 * ((grid0.coords t) 1).val + 0 < 8)) := he
  rw [before384_apply]
  split_ifs with h
  · have h : (8 + e.val) < 16 := h
    refine (block3 m c t (show 1 ≤ ((grid0.coords t) 1).val by omega) _ q).trans ?_
    exact congrFun (congrArg (rowAt (inB m c (batch t))) (show 768 * ((grid0.coords t) 1).val + (8 + e.val) - 16 = 256 * (3 * ((grid0.coords t) 1).val + 0) + e.val - 8 by omega)) _
  · have h : ¬ (8 + e.val) < 16 := h
    refine (block4 m c t _ q).trans ?_
    exact congrFun (congrArg (rowAt (inB m c (batch t))) (show 768 * ((grid0.coords t) 1).val + ((8 + e.val) - 16) = 256 * (3 * ((grid0.coords t) 1).val + 0) + e.val - 8 by omega)) _

theorem rows_c0 (c : Dev nD) (t : Fin cfg0.N) (e : Fin 272) (he : keep (tile t 0).val e.val) (q : Fin 256) :
    before256 (iblk m c 6 t : Vec Ideal S1x16x256 .bf16) (View.ld (iblk m c 7 t : Vec Ideal S1x768x256 .bf16) r0_5) (ix2 ⟨8 + e.val, by omega⟩ q) = rowAt (inC m c (batch t)) (256 * (tile t 0).val + e.val - 8) q := by
  have he : (8 ≤ e.val ∨ 2 ≤ 3 * ((grid0.coords t) 1).val + 0) ∧ (e.val < 264 ∨ (1 ≤ 3 * ((grid0.coords t) 1).val + 0 ∧ 3 * ((grid0.coords t) 1).val + 0 < 8)) := he
  rw [before256_apply]
  split_ifs with h
  · have h : (8 + e.val) < 16 := h
    refine (block6 m c t (show 1 ≤ ((grid0.coords t) 1).val by omega) _ q).trans ?_
    exact congrFun (congrArg (rowAt (inC m c (batch t))) (show 768 * ((grid0.coords t) 1).val + (8 + e.val) - 16 = 256 * (3 * ((grid0.coords t) 1).val + 0) + e.val - 8 by omega)) _
  · have h : ¬ (8 + e.val) < 16 := h
    refine (block7 m c t _ q).trans ?_
    exact congrFun (congrArg (rowAt (inC m c (batch t))) (show 768 * ((grid0.coords t) 1).val + ((8 + e.val) - 16) = 256 * (3 * ((grid0.coords t) 1).val + 0) + e.val - 8 by omega)) _

theorem rows_x0 (c : Dev nD) (t : Fin cfg0.N) (e : Fin 272) (he : keep (tile t 0).val e.val) (q : Fin 1024) :
    residBefore (iblk m c 9 t : Vec Ideal S1x8x1024 .f32) (View.ld (iblk m c 10 t : Vec Ideal S1x768x1024 .f32) r0_8) (ix2 e q) = rowAt (inX m c (batch t)) (256 * (tile t 0).val + e.val - 8) q := by
  have he : (8 ≤ e.val ∨ 2 ≤ 3 * ((grid0.coords t) 1).val + 0) ∧ (e.val < 264 ∨ (1 ≤ 3 * ((grid0.coords t) 1).val + 0 ∧ 3 * ((grid0.coords t) 1).val + 0 < 8)) := he
  rw [residBefore_apply]
  split_ifs with h
  · have h : e.val < 8 := h
    refine (block9 m c t (show 1 ≤ ((grid0.coords t) 1).val by omega) _ q).trans ?_
    exact congrFun (congrArg (rowAt (inX m c (batch t))) (show 768 * ((grid0.coords t) 1).val + e.val - 8 = 256 * (3 * ((grid0.coords t) 1).val + 0) + e.val - 8 by omega)) _
  · have h : ¬ e.val < 8 := h
    refine (block10 m c t _ q).trans ?_
    exact congrFun (congrArg (rowAt (inX m c (batch t))) (show 768 * ((grid0.coords t) 1).val + (e.val - 8) = 256 * (3 * ((grid0.coords t) 1).val + 0) + e.val - 8 by omega)) _

theorem rows_a1 (c : Dev nD) (t : Fin cfg0.N) (e : Fin 272) (he : keep (tile t 1).val e.val) (q : Fin 384) :
    within384 (View.ld (iblk m c 1 t : Vec Ideal S1x768x384 .bf16) r0_71) (ix2 ⟨8 + e.val, by omega⟩ q) = rowAt (inA m c (batch t)) (256 * (tile t 1).val + e.val - 8) q := by
  rw [within384_apply]
  refine (block1 m c t _ q).trans ?_
  exact congrFun (congrArg (rowAt (inA m c (batch t))) (show 768 * ((grid0.coords t) 1).val + (240 + (8 + e.val)) = 256 * (3 * ((grid0.coords t) 1).val + 1) + e.val - 8 by omega)) _

theorem rows_b1 (c : Dev nD) (t : Fin cfg0.N) (e : Fin 272) (he : keep (tile t 1).val e.val) (q : Fin 384) :
    within384 (View.ld (iblk m c 4 t : Vec Ideal S1x768x384 .bf16) r0_71) (ix2 ⟨8 + e.val, by omega⟩ q) = rowAt (inB m c (batch t)) (256 * (tile t 1).val + e.val - 8) (headOf q) := by
  rw [within384_apply]
  refine (block4 m c t _ q).trans ?_
  exact congrFun (congrArg (rowAt (inB m c (batch t))) (show 768 * ((grid0.coords t) 1).val + (240 + (8 + e.val)) = 256 * (3 * ((grid0.coords t) 1).val + 1) + e.val - 8 by omega)) _

theorem rows_c1 (c : Dev nD) (t : Fin cfg0.N) (e : Fin 272) (he : keep (tile t 1).val e.val) (q : Fin 256) :
    within256 (View.ld (iblk m c 7 t : Vec Ideal S1x768x256 .bf16) r0_72) (ix2 ⟨8 + e.val, by omega⟩ q) = rowAt (inC m c (batch t)) (256 * (tile t 1).val + e.val - 8) q := by
  rw [within256_apply]
  refine (block7 m c t _ q).trans ?_
  exact congrFun (congrArg (rowAt (inC m c (batch t))) (show 768 * ((grid0.coords t) 1).val + (240 + (8 + e.val)) = 256 * (3 * ((grid0.coords t) 1).val + 1) + e.val - 8 by omega)) _

theorem rows_x1 (c : Dev nD) (t : Fin cfg0.N) (e : Fin 272) (he : keep (tile t 1).val e.val) (q : Fin 1024) :
    residWithin (View.ld (iblk m c 10 t : Vec Ideal S1x768x1024 .f32) r0_73) (ix2 e q) = rowAt (inX m c (batch t)) (256 * (tile t 1).val + e.val - 8) q := by
  rw [residWithin_apply]
  refine (block10 m c t _ q).trans ?_
  exact congrFun (congrArg (rowAt (inX m c (batch t))) (show 768 * ((grid0.coords t) 1).val + (248 + e.val) = 256 * (3 * ((grid0.coords t) 1).val + 1) + e.val - 8 by omega)) _

theorem rows_a2 (c : Dev nD) (t : Fin cfg0.N) (e : Fin 272) (he : keep (tile t 2).val e.val) (q : Fin 384) :
    after384 (View.ld (iblk m c 1 t : Vec Ideal S1x768x384 .bf16) r0_135) (iblk m c 2 t : Vec Ideal S1x16x384 .bf16) (ix2 ⟨8 + e.val, by omega⟩ q) = rowAt (inA m c (batch t)) (256 * (tile t 2).val + e.val - 8) q := by
  have he : (8 ≤ e.val ∨ 2 ≤ 3 * ((grid0.coords t) 1).val + 2) ∧ (e.val < 264 ∨ (1 ≤ 3 * ((grid0.coords t) 1).val + 2 ∧ 3 * ((grid0.coords t) 1).val + 2 < 8)) := he
  rw [after384_apply]
  split_ifs with h
  · have h : (8 + e.val) < 272 := h
    refine (block1 m c t _ q).trans ?_
    exact congrFun (congrArg (rowAt (inA m c (batch t))) (show 768 * ((grid0.coords t) 1).val + (496 + (8 + e.val)) = 256 * (3 * ((grid0.coords t) 1).val + 2) + e.val - 8 by omega)) _
  · have h : ¬ (8 + e.val) < 272 := h
    refine (block2 m c t (show ((grid0.coords t) 1).val < 2 by omega) _ q).trans ?_
    exact congrFun (congrArg (rowAt (inA m c (batch t))) (show 768 * ((grid0.coords t) 1).val + 768 + ((8 + e.val) - 272) = 256 * (3 * ((grid0.coords t) 1).val + 2) + e.val - 8 by omega)) _

theorem rows_b2 (c : Dev nD) (t : Fin cfg0.N) (e : Fin 272) (he : keep (tile t 2).val e.val) (q : Fin 384) :
    after384 (View.ld (iblk m c 4 t : Vec Ideal S1x768x384 .bf16) r0_135) (iblk m c 5 t : Vec Ideal S1x16x384 .bf16) (ix2 ⟨8 + e.val, by omega⟩ q) = rowAt (inB m c (batch t)) (256 * (tile t 2).val + e.val - 8) (headOf q) := by
  have he : (8 ≤ e.val ∨ 2 ≤ 3 * ((grid0.coords t) 1).val + 2) ∧ (e.val < 264 ∨ (1 ≤ 3 * ((grid0.coords t) 1).val + 2 ∧ 3 * ((grid0.coords t) 1).val + 2 < 8)) := he
  rw [after384_apply]
  split_ifs with h
  · have h : (8 + e.val) < 272 := h
    refine (block4 m c t _ q).trans ?_
    exact congrFun (congrArg (rowAt (inB m c (batch t))) (show 768 * ((grid0.coords t) 1).val + (496 + (8 + e.val)) = 256 * (3 * ((grid0.coords t) 1).val + 2) + e.val - 8 by omega)) _
  · have h : ¬ (8 + e.val) < 272 := h
    refine (block5 m c t (show ((grid0.coords t) 1).val < 2 by omega) _ q).trans ?_
    exact congrFun (congrArg (rowAt (inB m c (batch t))) (show 768 * ((grid0.coords t) 1).val + 768 + ((8 + e.val) - 272) = 256 * (3 * ((grid0.coords t) 1).val + 2) + e.val - 8 by omega)) _

theorem rows_c2 (c : Dev nD) (t : Fin cfg0.N) (e : Fin 272) (he : keep (tile t 2).val e.val) (q : Fin 256) :
    after256 (View.ld (iblk m c 7 t : Vec Ideal S1x768x256 .bf16) r0_136) (iblk m c 8 t : Vec Ideal S1x16x256 .bf16) (ix2 ⟨8 + e.val, by omega⟩ q) = rowAt (inC m c (batch t)) (256 * (tile t 2).val + e.val - 8) q := by
  have he : (8 ≤ e.val ∨ 2 ≤ 3 * ((grid0.coords t) 1).val + 2) ∧ (e.val < 264 ∨ (1 ≤ 3 * ((grid0.coords t) 1).val + 2 ∧ 3 * ((grid0.coords t) 1).val + 2 < 8)) := he
  rw [after256_apply]
  split_ifs with h
  · have h : (8 + e.val) < 272 := h
    refine (block7 m c t _ q).trans ?_
    exact congrFun (congrArg (rowAt (inC m c (batch t))) (show 768 * ((grid0.coords t) 1).val + (496 + (8 + e.val)) = 256 * (3 * ((grid0.coords t) 1).val + 2) + e.val - 8 by omega)) _
  · have h : ¬ (8 + e.val) < 272 := h
    refine (block8 m c t (show ((grid0.coords t) 1).val < 2 by omega) _ q).trans ?_
    exact congrFun (congrArg (rowAt (inC m c (batch t))) (show 768 * ((grid0.coords t) 1).val + 768 + ((8 + e.val) - 272) = 256 * (3 * ((grid0.coords t) 1).val + 2) + e.val - 8 by omega)) _

theorem rows_x2 (c : Dev nD) (t : Fin cfg0.N) (e : Fin 272) (he : keep (tile t 2).val e.val) (q : Fin 1024) :
    residAfter (View.ld (iblk m c 10 t : Vec Ideal S1x768x1024 .f32) r0_137) (iblk m c 11 t : Vec Ideal S1x8x1024 .f32) (ix2 e q) = rowAt (inX m c (batch t)) (256 * (tile t 2).val + e.val - 8) q := by
  have he : (8 ≤ e.val ∨ 2 ≤ 3 * ((grid0.coords t) 1).val + 2) ∧ (e.val < 264 ∨ (1 ≤ 3 * ((grid0.coords t) 1).val + 2 ∧ 3 * ((grid0.coords t) 1).val + 2 < 8)) := he
  rw [residAfter_apply]
  split_ifs with h
  · have h : e.val < 264 := h
    refine (block10 m c t _ q).trans ?_
    exact congrFun (congrArg (rowAt (inX m c (batch t))) (show 768 * ((grid0.coords t) 1).val + (504 + e.val) = 256 * (3 * ((grid0.coords t) 1).val + 2) + e.val - 8 by omega)) _
  · have h : ¬ e.val < 264 := h
    refine (block11 m c t (show ((grid0.coords t) 1).val < 2 by omega) _ q).trans ?_
    exact congrFun (congrArg (rowAt (inX m c (batch t))) (show 768 * ((grid0.coords t) 1).val + 768 + (e.val - 264) = 256 * (3 * ((grid0.coords t) 1).val + 2) + e.val - 8 by omega)) _

theorem rows_y0 (c : Dev nD) (t : Fin cfg0.N) (e : Fin 272) (he : keep (tile t 0).val e.val) (q : Fin 1024) :
    Cert.Ffn.columns (before384 (iblk m c 0 t) (View.ld (iblk m c 1 t : Vec Ideal S1x768x384 .bf16) r0_3)) (before384 (iblk m c 3 t) (View.ld (iblk m c 4 t : Vec Ideal S1x768x384 .bf16) r0_3)) (before256 (iblk m c 6 t) (View.ld (iblk m c 7 t : Vec Ideal S1x768x256 .bf16) r0_5)) (ix2 ⟨8 + e.val, by omega⟩ q)
      = mixed (rowAt (inA m c (batch t)) (256 * (tile t 0).val + e.val - 8)) (fun q => rowAt (inB m c (batch t)) (256 * (tile t 0).val + e.val - 8) (headOf q))
        (rowAt (inC m c (batch t)) (256 * (tile t 0).val + e.val - 8)) q := by
  rw [columns_apply]
  simp only [rows_a0 m c t e he, rows_b0 m c t e he, rows_c0 m c t e he]

theorem rows_y1 (c : Dev nD) (t : Fin cfg0.N) (e : Fin 272) (he : keep (tile t 1).val e.val) (q : Fin 1024) :
    Cert.Ffn.columns (within384 (View.ld (iblk m c 1 t : Vec Ideal S1x768x384 .bf16) r0_71)) (within384 (View.ld (iblk m c 4 t : Vec Ideal S1x768x384 .bf16) r0_71)) (within256 (View.ld (iblk m c 7 t : Vec Ideal S1x768x256 .bf16) r0_72)) (ix2 ⟨8 + e.val, by omega⟩ q)
      = mixed (rowAt (inA m c (batch t)) (256 * (tile t 1).val + e.val - 8)) (fun q => rowAt (inB m c (batch t)) (256 * (tile t 1).val + e.val - 8) (headOf q))
        (rowAt (inC m c (batch t)) (256 * (tile t 1).val + e.val - 8)) q := by
  rw [columns_apply]
  simp only [rows_a1 m c t e he, rows_b1 m c t e he, rows_c1 m c t e he]

theorem rows_y2 (c : Dev nD) (t : Fin cfg0.N) (e : Fin 272) (he : keep (tile t 2).val e.val) (q : Fin 1024) :
    Cert.Ffn.columns (after384 (View.ld (iblk m c 1 t : Vec Ideal S1x768x384 .bf16) r0_135) (iblk m c 2 t)) (after384 (View.ld (iblk m c 4 t : Vec Ideal S1x768x384 .bf16) r0_135) (iblk m c 5 t)) (after256 (View.ld (iblk m c 7 t : Vec Ideal S1x768x256 .bf16) r0_136) (iblk m c 8 t)) (ix2 ⟨8 + e.val, by omega⟩ q)
      = mixed (rowAt (inA m c (batch t)) (256 * (tile t 2).val + e.val - 8)) (fun q => rowAt (inB m c (batch t)) (256 * (tile t 2).val + e.val - 8) (headOf q))
        (rowAt (inC m c (batch t)) (256 * (tile t 2).val + e.val - 8)) q := by
  rw [columns_apply]
  simp only [rows_a2 m c t e he, rows_b2 m c t e he, rows_c2 m c t e he]

theorem tileOf_eq : ∀ t : Fin cfg0.N, tileOf (grid0.coords t) 0#32 = BitVec.ofNat 32 (tile t 0).val ∧ tileOf (grid0.coords t) 1#32 = BitVec.ofNat 32 (tile t 1).val
    ∧ tileOf (grid0.coords t) 2#32 = BitVec.ofNat 32 (tile t 2).val :=
  (by decide +kernel : ∀ t : Fin grid0.N, _)

theorem context_vectors (x : Vec Ideal S1x2x8x1024 .f32) (q : Fin 8) (k : Fin 1024) : View.ld x r0_0 (ix4 0 0 q k) = x (ix4 0 0 q k) := by
  pointwise [r0_0]

theorem latent_vectors (x : Vec Ideal S1x2x8x1024 .f32) (q : Fin 8) (k : Fin 1024) : View.ld x r0_1 (ix4 0 0 q k) = x (ix4 0 1 q k) := by
  pointwise [r0_1]

theorem flatMods_apply (l : Vec Ideal S1x1x8x1024 .f32) (q : Fin 8) (k : Fin 1024) : flatMods l (ix2 q k) = l (ix4 0 0 q k) := by
  pointwise [flatMods]

theorem vectors_first (c : Dev nD) (t : Fin cfg0.N) :
    vectors (tileMods (BitVec.ofNat 32 (tile t 0).val) (View.ld (iblk m c 12 t : Vec Ideal S1x2x8x1024 .f32) r0_0) (View.ld (iblk m c 12 t : Vec Ideal S1x2x8x1024 .f32) r0_1))
      = if tile t 0 = 0 then modsC m c else modsL m c (batch t) := by
  funext q k
  unfold vectors
  rw [tileMods_apply]
  by_cases hT : tile t 0 = 0
  · rw [if_pos hT, if_pos hT]
    exact (context_vectors _ _ k).trans ((block12 m c t 0 q k).trans (if_pos rfl))
  · rw [if_neg hT, if_neg hT]
    exact (latent_vectors _ _ k).trans ((block12 m c t 1 q k).trans (if_neg (by decide)))

theorem vectors_next (c : Dev nD) (t : Fin cfg0.N) (j : Fin 3) (hj : 1 ≤ j.val) :
    vectors (flatMods (View.ld (iblk m c 12 t : Vec Ideal S1x2x8x1024 .f32) r0_1)) = if tile t j = 0 then modsC m c else modsL m c (batch t) := by
  have hT : tile t j ≠ 0 := fun h => by
    have h : 3 * step t + j.val = 0 := congrArg Fin.val h
    omega
  rw [if_neg hT]
  funext q k
  unfold vectors
  exact (flatMods_apply _ _ k).trans ((latent_vectors _ _ k).trans ((block12 m c t 1 q k).trans (if_neg (by decide))))

/-- The result: all rows after the block. -/
def G (c : Dev nD) : FVec Ideal S16x2304x1024 .f32 := fun i =>
  layerAt (W m c) (modsC m c) (modsL m c (i 0)) (inX m c (i 0)) (sides (inA m c (i 0)) (inB m c (i 0)) (inC m c (i 0))) (i 1) (i 2)

theorem point0 (c : Dev nD) (t : Fin cfg0.N) (r : Fin 256) (k : Fin 1024) :
    tileOut (BitVec.ofNat 32 (tile t 0).val) (tileMods (BitVec.ofNat 32 (tile t 0).val) (View.ld (iblk m c 12 t : Vec Ideal S1x2x8x1024 .f32) r0_0) (View.ld (iblk m c 12 t : Vec Ideal S1x2x8x1024 .f32) r0_1)) (before384 (iblk m c 0 t) (View.ld (iblk m c 1 t : Vec Ideal S1x768x384 .bf16) r0_3)) (before384 (iblk m c 3 t) (View.ld (iblk m c 4 t : Vec Ideal S1x768x384 .bf16) r0_3))
      (before256 (iblk m c 6 t) (View.ld (iblk m c 7 t : Vec Ideal S1x768x256 .bf16) r0_5)) (iblk m c 13 t) (residBefore (iblk m c 9 t) (View.ld (iblk m c 10 t : Vec Ideal S1x768x1024 .f32) r0_8)) (iblk m c 14 t) (iblk m c 15 t) (iblk m c 16 t) (iblk m c 17 t) (iblk m c 18 t) (iblk m c 19 t) (iblk m c 20 t) (iblk m c 21 t) (ix3 0 r k)
      = G m c (ix3 (batch t) ⟨256 * (tile t 0).val + r.val, by omega⟩ k) :=
  tile_eq (tile t 0) _ _ _ _ _ _ _ _ _ _ _ _ (W m c) (modsC m c) (modsL m c (batch t)) (inA m c (batch t)) (inB m c (batch t)) (inC m c (batch t)) (inX m c (batch t))
    (blockW m c t) (vectors_first m c t) (rows_x0 m c t) (rows_y0 m c t) r k

theorem point1 (c : Dev nD) (t : Fin cfg0.N) (r : Fin 256) (k : Fin 1024) :
    tileOut (BitVec.ofNat 32 (tile t 1).val) (flatMods (View.ld (iblk m c 12 t : Vec Ideal S1x2x8x1024 .f32) r0_1)) (within384 (View.ld (iblk m c 1 t : Vec Ideal S1x768x384 .bf16) r0_71)) (within384 (View.ld (iblk m c 4 t : Vec Ideal S1x768x384 .bf16) r0_71))
      (within256 (View.ld (iblk m c 7 t : Vec Ideal S1x768x256 .bf16) r0_72)) (iblk m c 13 t) (residWithin (View.ld (iblk m c 10 t : Vec Ideal S1x768x1024 .f32) r0_73)) (iblk m c 14 t) (iblk m c 15 t) (iblk m c 16 t) (iblk m c 17 t) (iblk m c 18 t) (iblk m c 19 t) (iblk m c 20 t) (iblk m c 21 t) (ix3 0 r k)
      = G m c (ix3 (batch t) ⟨256 * (tile t 1).val + r.val, by omega⟩ k) :=
  tile_eq (tile t 1) _ _ _ _ _ _ _ _ _ _ _ _ (W m c) (modsC m c) (modsL m c (batch t)) (inA m c (batch t)) (inB m c (batch t)) (inC m c (batch t)) (inX m c (batch t))
    (blockW m c t) (vectors_next m c t 1 (by decide)) (rows_x1 m c t) (rows_y1 m c t) r k

theorem point2 (c : Dev nD) (t : Fin cfg0.N) (r : Fin 256) (k : Fin 1024) :
    tileOut (BitVec.ofNat 32 (tile t 2).val) (flatMods (View.ld (iblk m c 12 t : Vec Ideal S1x2x8x1024 .f32) r0_1)) (after384 (View.ld (iblk m c 1 t : Vec Ideal S1x768x384 .bf16) r0_135) (iblk m c 2 t)) (after384 (View.ld (iblk m c 4 t : Vec Ideal S1x768x384 .bf16) r0_135) (iblk m c 5 t))
      (after256 (View.ld (iblk m c 7 t : Vec Ideal S1x768x256 .bf16) r0_136) (iblk m c 8 t)) (iblk m c 13 t) (residAfter (View.ld (iblk m c 10 t : Vec Ideal S1x768x1024 .f32) r0_137) (iblk m c 11 t)) (iblk m c 14 t) (iblk m c 15 t) (iblk m c 16 t) (iblk m c 17 t) (iblk m c 18 t) (iblk m c 19 t) (iblk m c 20 t) (iblk m c 21 t) (ix3 0 r k)
      = G m c (ix3 (batch t) ⟨256 * (tile t 2).val + r.val, by omega⟩ k) :=
  tile_eq (tile t 2) _ _ _ _ _ _ _ _ _ _ _ _ (W m c) (modsC m c) (modsL m c (batch t)) (inA m c (batch t)) (inB m c (batch t)) (inC m c (batch t)) (inX m c (batch t))
    (blockW m c t) (vectors_next m c t 2 (by decide)) (rows_x2 m c t) (rows_y2 m c t) r k

/-- Three stored tiles make a block of 768 rows. -/
theorem canon_apply (z0 z1 z2 : FVec Ideal S1x256x1024 .f32) (f : Fin 768 → Fin 1024 → EReal) (h0 : ∀ r k, z0 (ix3 0 r k) = f ⟨r.val, by omega⟩ k)
    (h1 : ∀ r k, z1 (ix3 0 r k) = f ⟨256 + r.val, by omega⟩ k) (h2 : ∀ r k, z2 (ix3 0 r k) = f ⟨512 + r.val, by omega⟩ k) (r : Fin 768) (k : Fin 1024) :
    (View.canon (Val := Elt Ideal) (e := .f32) [⟨r0_139, z2⟩, ⟨r0_138, z1⟩, ⟨r0_134, z0⟩] : FVec Ideal S1x768x1024 .f32) (ix3 0 r k) = f r k := by
  have g0 := h0
  have g1 := h1
  have g2 := h2
  clear h0 h1 h2
  canon_tiles y h <;> idx_vars y
  · obtain rfl : r = ⟨512 + y1.val, by clear h0 h1 h2; omega⟩ := Fin.ext h1
    obtain rfl : k = ⟨y2.val, y2_lt⟩ := Fin.ext h2
    exact (congrArg (fun a => z2 (ix3 a y1 y2)) (Fin.fin_one_eq_zero y0)).trans (g2 ⟨y1.val, y1_lt⟩ ⟨y2.val, y2_lt⟩)
  · obtain rfl : r = ⟨256 + y1.val, by clear h0 h1 h2; omega⟩ := Fin.ext h1
    obtain rfl : k = ⟨y2.val, y2_lt⟩ := Fin.ext h2
    exact (congrArg (fun a => z1 (ix3 a y1 y2)) (Fin.fin_one_eq_zero y0)).trans (g1 ⟨y1.val, y1_lt⟩ ⟨y2.val, y2_lt⟩)
  · obtain rfl : r = ⟨y1.val, by clear h0 h1 h2; omega⟩ := Fin.ext h1
    obtain rfl : k = ⟨y2.val, y2_lt⟩ := Fin.ext h2
    exact (congrArg (fun a => z0 (ix3 a y1 y2)) (Fin.fin_one_eq_zero y0)).trans (g0 ⟨y1.val, y1_lt⟩ ⟨y2.val, y2_lt⟩)

/-- What a grid point stores. -/
theorem point (c : Dev nD) (t : Fin cfg0.N) (r : Fin 768) (k : Fin 1024) :
    out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (ix3 0 r k)
      = G m c (ix3 (batch t) ⟨768 * step t + r.val, by have := step_lt t; omega⟩ k) := by
  obtain ⟨e0, e1, e2⟩ := tileOf_eq t
  rw [out_eq, e0, e1, e2]
  simp only [r0_2, r0_4, r0_6, r0_7, r0_9]
  repeat rw [View.ld_unit_lit _ _ (by decide)]
  exact canon_apply _ _ _ (fun r k => G m c (ix3 (batch t) ⟨768 * step t + r.val, by have := step_lt t; omega⟩ k))
    (fun r k => (point0 m c t r k).trans (congrArg (fun r => G m c (ix3 (batch t) r k)) (Fin.ext (show 256 * (3 * step t + 0) + r.val = 768 * step t + r.val by omega))))
    (fun r k => (point1 m c t r k).trans (congrArg (fun r => G m c (ix3 (batch t) r k)) (Fin.ext (show 256 * (3 * step t + 1) + r.val = 768 * step t + (256 + r.val) by omega))))
    (fun r k => (point2 m c t r k).trans (congrArg (fun r => G m c (ix3 (batch t) r k)) (Fin.ext (show 256 * (3 * step t + 2) + r.val = 768 * step t + (512 + r.val) by omega)))) r k

/-- What a grid point stores, at its place in the array. -/
theorem place (c : Dev nD) (t : Fin cfg0.N) (y : S1x768x1024.Idx) :
    out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) y = G m c (((cfg0.win 22).blk t).view.emb y) := by
  obtain ⟨r, j, rfl⟩ := unit_idx (a := 768) (b := 1024) y
  rw [point]
  blk_ext [idx t]
  show 768 * ((grid0.coords t) 1).val + r.val = ((grid0.coords t) 1).val * 768 + r.val
  omega

/-- The result after the run. -/
theorem final (c : Dev nD) : (dats m 0 c).arrAt 22 cfg0.N = G m c := by
  refine (dats m 0 c).arrAt_eq_of_covers 22 _ (by decide +kernel) fun t _ y => ?_
  have h := place m c t y
  blk_simp
  rw [after0_22]
  exact h

end Cert.Ffn3
-- ==== Proof.FfnRef3.lean ====
/-
  The earlier layers' reference: the context's rows and the latents' rows after the block.
-/
module

public import proofs.«01_k».proof.Proof.Gen.Reference3Ideal.Run
public import proofs.«01_k».proof.Proof.FfnRef2

@[expose] public section

set_option maxRecDepth 16384

noncomputable section

namespace Cert.FfnRef3

open Idealize.ShloMosaic Idealize.ShloMosaic.TcCoe Idealize.SL.Sem Idealize.ShloMosaic.StableHlo
open Cert.Reference3Ideal Cert.Reference3Ideal.Gen Cert.Reference3Ideal.Value Cert.Layer Cert.RefFfn
open Cert.Ffn (ctx lat sides mixed layerAt layerRow)
open Cert.FfnRef2 (latBlock latBlock_apply)

/-- The context's rows of the three mixers, side by side. -/
def ctxMix (a b : FVec Ideal S16x2304x384 .f32) (e : FVec Ideal S16x2304x256 .f32) : FVec Ideal S16x256x1024 .f32 :=
  concatenate S16x256x1024 2 [⟨S16x256x384, extractStridedSlice S16x256x384 ![0, 0, 0] a slices_S16x2304x384_S16x256x384_0_0_0⟩,
    ⟨S16x256x384, extractStridedSlice S16x256x384 ![0, 0, 0] b slices_S16x2304x384_S16x256x384_0_0_0⟩,
    ⟨S16x256x256, extractStridedSlice S16x256x256 ![0, 0, 0] e slices_S16x2304x256_S16x256x256_0_0_0⟩] concatenates_S16x256x384_S16x256x384_S16x256x256_S16x256x1024_d2

/-- One of the context's modulation vectors. -/
def ctxMod (o : ℕ) (h : S6144.Slices ![o] S1024) (v : FVec Ideal S6x1024 .f32) : FVec Ideal S1024 .f32 :=
  extractStridedSlice S1024 ![o] (shapeCast S6144 v shapeCasts_S6x1024_S6144) h

/-- A row for every context row. -/
def ctxSpread (v : FVec Ideal S1024 .f32) : FVec Ideal S16x256x1024 .f32 :=
  broadcastInDim S16x256x1024 ![0, 1, 2] bcast_S1x1x1024_S16x256x1024_0_1_2 (broadcastInDim S1x1x1024 ![2] bcast_S1024_S1x1x1024_2 v)

/-- A vector of scales, with one added. -/
def ctxOne (v : FVec Ideal S1024 .f32) : FVec Ideal S1024 .f32 := addf (broadcastInDim S1024 ![] bcast_S_S1024 (constant S_ .f32 0x3F800000#32)) v

theorem ctxMix_apply (x0 x1 : FVec Ideal S16x2304x384 .f32) (x2 : FVec Ideal S16x2304x256 .f32) (b : Fin 16) (r : Fin 256) :
    (fun q => ctxMix x0 x1 x2 (ix3 b r q)) = ctx (sides (fun r q => x0 (ix3 b r q)) (fun r q => x1 (ix3 b r q)) (fun r q => x2 (ix3 b r q))) r := by
  funext q
  pointwise [ctxMix, ctx, sides, mixed]

theorem ctxSpread_apply (v : FVec Ideal S1024 .f32) (b : Fin 16) (r : Fin 256) (k : Fin 1024) : ctxSpread v (ix3 b r k) = v (ix1 k) := by
  pointwise [ctxSpread]

theorem ctxOne_apply (v : FVec Ideal S1024 .f32) (k : Fin 1024) : ctxOne v (ix1 k) = 1 + v (ix1 k) := by
  pointwise [ctxOne]

theorem ctxMod_apply (n : Fin 6) (h : S6144.Slices ![1024 * n.val] S1024) (v : FVec Ideal S6x1024 .f32) (k : Fin 1024) :
    ctxMod (1024 * n.val) h v (ix1 k) = v (ix2 n k) := by
  pointwise [ctxMod]

/-- The context's rows of the layer's input. -/
def ctxRows (x : FVec Ideal S16x2304x1024 .f32) : FVec Ideal S16x256x1024 .f32 := extractStridedSlice S16x256x1024 ![0, 0, 0] x slices_S16x2304x1024_S16x256x1024_0_0_0

theorem ctxRows_apply (x : FVec Ideal S16x2304x1024 .f32) (b : Fin 16) (r : Fin 256) : (fun k => ctxRows x (ix3 b r k)) = ctx (fun r k => x (ix3 b r k)) r := by
  funext q
  pointwise [ctxRows, ctx]

/-- The context's rows after the block. -/
def ctxBlock (x0 x1 : FVec Ideal S16x2304x384 .f32) (x2 : FVec Ideal S16x2304x256 .f32) (x3 : FVec Ideal S16x2304x1024 .f32) (x5 : FVec Ideal S6x1024 .f32)
    (x6 : FVec Ideal S1024x1024 .f32) (x7 x8 : FVec Ideal S1024 .f32) (x9 : FVec Ideal S1024x5632 .f32) (x10 : FVec Ideal S3x5632 .f32) (x11 : FVec Ideal S5632 .f32)
    (x12 : FVec Ideal S2816x1024 .f32) (x13 x14 : FVec Ideal S1024 .f32) : FVec Ideal S16x256x1024 .f32 :=
  block256 (ctxSpread (ctxMod (1024 * (2 : Fin 6).val) slices_S6144_S1024_2048 x5)) (ctxSpread (ctxOne (ctxMod (1024 * (4 : Fin 6).val) slices_S6144_S1024_4096 x5)))
    (ctxSpread (ctxMod (1024 * (3 : Fin 6).val) slices_S6144_S1024_3072 x5)) (ctxSpread (ctxMod (1024 * (5 : Fin 6).val) slices_S6144_S1024_5120 x5))
    (ctxRows x3) (ctxMix x0 x1 x2) x6 x7 x8 x9 x10 x11 x12 x13 x14

theorem ctxBlock_apply (x0 x1 : FVec Ideal S16x2304x384 .f32) (x2 : FVec Ideal S16x2304x256 .f32) (x3 : FVec Ideal S16x2304x1024 .f32) (x5 : FVec Ideal S6x1024 .f32)
    (x6 : FVec Ideal S1024x1024 .f32) (x7 x8 : FVec Ideal S1024 .f32) (x9 : FVec Ideal S1024x5632 .f32) (x10 : FVec Ideal S3x5632 .f32) (x11 : FVec Ideal S5632 .f32)
    (x12 : FVec Ideal S2816x1024 .f32) (x13 x14 : FVec Ideal S1024 .f32) (b : Fin 16) (r : Fin 256) (k : Fin 1024) :
    ctxBlock x0 x1 x2 x3 x5 x6 x7 x8 x9 x10 x11 x12 x13 x14 (ix3 b r k) = layerRow (arrays x6 x7 x8 x9 x10 x11 x12 x13 x14) (fun q k => x5 (ix2 q k))
      (ctx (fun r k => x3 (ix3 b r k))) (ctx (sides (fun r q => x0 (ix3 b r q)) (fun r q => x1 (ix3 b r q)) (fun r q => x2 (ix3 b r q)))) r k := by
  unfold ctxBlock
  rw [block256_apply _ _ _ _ _ _ _ _ _ _ _ _ _ _ _ (fun _ q k => x5 (ix2 q k))
    (fun b r k => (ctxSpread_apply _ b r k).trans (ctxMod_apply 2 _ x5 k)) (fun b r k => (ctxSpread_apply _ b r k).trans (ctxMod_apply 3 _ x5 k))
    (fun b r k => (ctxSpread_apply _ b r k).trans ((ctxOne_apply _ k).trans (congrArg (1 + ·) (ctxMod_apply 4 _ x5 k)))) (fun b r k => (ctxSpread_apply _ b r k).trans (ctxMod_apply 5 _ x5 k)) b r k]
  rw [show (fun r k => ctxRows x3 (ix3 b r k)) = _ from funext (ctxRows_apply x3 b), show (fun r k => ctxMix x0 x1 x2 (ix3 b r k)) = _ from funext (ctxMix_apply x0 x1 x2 b)]

/-- The context's rows and the latents' after them. -/
def joinRows (u : FVec Ideal S16x256x1024 .f32) (v : FVec Ideal S16x2048x1024 .f32) : FVec Ideal S16x2304x1024 .f32 :=
  concatenate S16x2304x1024 1 [⟨S16x256x1024, u⟩, ⟨S16x2048x1024, v⟩] concatenates_S16x256x1024_S16x2048x1024_S16x2304x1024_d1

theorem joinRows_apply (u : FVec Ideal S16x256x1024 .f32) (v : FVec Ideal S16x2048x1024 .f32) (b : Fin 16) (r : Fin 2304) (k : Fin 1024) :
    joinRows u v (ix3 b r k) = if h : r.val < 256 then u (ix3 b ⟨r.val, h⟩ k) else v (ix3 b ⟨r.val - 256, by omega⟩ k) := by
  pointwise [joinRows]

/-- All rows after the block. -/
def rows (x0 x1 : FVec Ideal S16x2304x384 .f32) (x2 : FVec Ideal S16x2304x256 .f32) (x3 : FVec Ideal S16x2304x1024 .f32) (x4 : FVec Ideal S16x6x1024 .f32) (x5 : FVec Ideal S6x1024 .f32)
    (x6 : FVec Ideal S1024x1024 .f32) (x7 x8 : FVec Ideal S1024 .f32) (x9 : FVec Ideal S1024x5632 .f32) (x10 : FVec Ideal S3x5632 .f32) (x11 : FVec Ideal S5632 .f32)
    (x12 : FVec Ideal S2816x1024 .f32) (x13 x14 : FVec Ideal S1024 .f32) : FVec Ideal S16x2304x1024 .f32 :=
  joinRows (ctxBlock x0 x1 x2 x3 x5 x6 x7 x8 x9 x10 x11 x12 x13 x14) (latBlock x0 x1 x2 x3 x4 x6 x7 x8 x9 x10 x11 x12 x13 x14)

theorem rows_apply (x0 x1 : FVec Ideal S16x2304x384 .f32) (x2 : FVec Ideal S16x2304x256 .f32) (x3 : FVec Ideal S16x2304x1024 .f32) (x4 : FVec Ideal S16x6x1024 .f32) (x5 : FVec Ideal S6x1024 .f32)
    (x6 : FVec Ideal S1024x1024 .f32) (x7 x8 : FVec Ideal S1024 .f32) (x9 : FVec Ideal S1024x5632 .f32) (x10 : FVec Ideal S3x5632 .f32) (x11 : FVec Ideal S5632 .f32)
    (x12 : FVec Ideal S2816x1024 .f32) (x13 x14 : FVec Ideal S1024 .f32) (b : Fin 16) (r : Fin 2304) (k : Fin 1024) :
    rows x0 x1 x2 x3 x4 x5 x6 x7 x8 x9 x10 x11 x12 x13 x14 (ix3 b r k) = layerAt (arrays x6 x7 x8 x9 x10 x11 x12 x13 x14) (fun q k => x5 (ix2 q k)) (fun q k => x4 (ix3 b q k))
      (fun r k => x3 (ix3 b r k)) (sides (fun r q => x0 (ix3 b r q)) (fun r q => x1 (ix3 b r q)) (fun r q => x2 (ix3 b r q))) r k := by
  unfold rows Cert.Ffn.layerAt
  rw [joinRows_apply]
  by_cases h : r.val < 256
  · rw [dif_pos h, dif_pos h]
    exact ctxBlock_apply x0 x1 x2 x3 x5 x6 x7 x8 x9 x10 x11 x12 x13 x14 b ⟨r.val, h⟩ k
  · rw [dif_neg h, dif_neg h]
    exact latBlock_apply x0 x1 x2 x3 x4 x6 x7 x8 x9 x10 x11 x12 x13 x14 b ⟨r.val - 256, by omega⟩ k

variable (m : (ℓ : Loc nD τ sig) → Buf (Elt Ideal) ℓ)

/-- The reference's result, stage by stage. -/
theorem result_eq (c : Dev nD) : (concatenate S16x2304x1024 1 [⟨S16x256x1024, (addf (mulf (mulf (subf (res_main_v233 (launchContents m c)) (broadcastInDim S16x256x1024 ![0, 1, 2] bcast_S16x256x1_S16x256x1024_0_1_2 (res_main_v237 (launchContents m c)))) (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf (res_main_v239 (launchContents m c)) (res_main_v239 (launchContents m c))) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 ((launchContents m c) (Proc.devRef .tc main_arg13))))) (broadcastInDim S16x256x1024 ![0, 1, 2] bcast_S1x1x1024_S16x256x1024_0_1_2 (broadcastInDim S1x1x1024 ![2] bcast_S1024_S1x1x1024_2 ((launchContents m c) (Proc.devRef .tc main_arg14)))))⟩, ⟨S16x2048x1024, (addf (mulf (mulf (subf (res_main_v102 (launchContents m c)) (broadcastInDim S16x2048x1024 ![0, 1, 2] bcast_S16x2048x1_S16x2048x1024_0_1_2 (res_main_v106 (launchContents m c)))) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (res_main_v108 (launchContents m c)) (res_main_v108 (launchContents m c))) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 ((launchContents m c) (Proc.devRef .tc main_arg13))))) (broadcastInDim S16x2048x1024 ![0, 1, 2] bcast_S1x1x1024_S16x2048x1024_0_1_2 (broadcastInDim S1x1x1024 ![2] bcast_S1024_S1x1x1024_2 ((launchContents m c) (Proc.devRef .tc main_arg14)))))⟩] concatenates_S16x256x1024_S16x2048x1024_S16x2304x1024_d1 : FVec Ideal S16x2304x1024 .f32)
    = rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := rfl

end Cert.FfnRef3
-- ==== Proof.FfnClaim3.lean ====
/-
  The claims about the earlier layers' output projection and feed-forward block.
-/
module

public import proofs.«01_k».proof.Defs
public import proofs.«01_k».proof.Proof.Gen.Kernel3
public import proofs.«01_k».proof.Proof.Gen.Kernel3Ideal
public import proofs.«01_k».proof.Proof.FfnValue3
public import proofs.«01_k».proof.Proof.FfnRef3
public import Idealize.ShloMosaic.Adequacy
public import Idealize.ShloMosaic.Init

@[expose] public section

set_option maxRecDepth 16384

noncomputable section

namespace Cert.FfnClaim3

open Idealize.ShloMosaic Idealize.ShloMosaic.TcCoe Idealize.SL.Sem Cert.Ffn3

/-- Over the extended reals the call and the reference end with the same array. -/
theorem same : Cert.algebraic_Kernel3Ideal_Reference3Ideal (hKernel3Ideal := Cert.Kernel3Ideal.Gen.facts) (hReference3Ideal := Cert.Reference3Ideal.Gen.facts) := by
  intro m g m' g' _ hag
  refine ⟨fun c => G m c, ?_, ?_⟩
  · refine (θ_run Cert.Kernel3Ideal.defs _ _).mono (fun r h c => ?_) (Cert.Kernel3Ideal.Value.run_blocks m g)
    obtain ⟨h, k0, k1, k2, k3, k4, k5, k6, k7, k8, k9, k10, k11, k12, k13, k14⟩ := h c
    exact ⟨h.trans (final m c), k0, k1, k2, k3, k4, k5, k6, k7, k8, k9, k10, k11, k12, k13, k14⟩
  · refine (θ_run Cert.Reference3Ideal.defs _ _).mono (fun r h c => ?_) (Cert.Reference3Ideal.Value.run m' g')
    obtain ⟨h, k0, k1, k2, k3, k4, k5, k6, k7, k8, k9, k10, k11, k12, k13, k14⟩ := h c
    obtain ⟨ag0, ag1, ag2, ag3, ag4, ag5, ag6, ag7, ag8, ag9, ag10, ag11, ag12, ag13, ag14⟩ := hag c
    refine ⟨h.trans ((FfnRef3.result_eq m' c).trans ?_), k0, k1, k2, k3, k4, k5, k6, k7, k8, k9, k10, k11, k12, k13, k14⟩
    funext i
    obtain ⟨b, r, k, rfl⟩ : ∃ (b : Fin 16) (r : Fin 2304) (k : Fin 1024), i = ix3 b r k := ⟨i 0, i 1, i 2, by funext a; fin_cases a <;> rfl⟩
    rw [FfnRef3.rows_apply, ag0, ag1, ag2, ag3, ag4, ag5, ag6, ag7, ag8, ag9, ag10, ag11, ag12, ag13, ag14]
    rfl

/-- The reference's run leaves its arguments, and ends with every counter at zero. -/
theorem referenceFrame : Cert.quiescent_Reference3Ideal (hReference3Ideal := Cert.Reference3Ideal.Gen.facts) := by
  intro m g _
  exact (θ_run Cert.Reference3Ideal.defs _ _).mono (fun r h => ⟨fun c => (h c).2, sem_eq_zero_of_no_sems (by decide) r.2⟩)
    (Cert.Reference3Ideal.Value.run m g)

attribute [local instance] Cert.Kernel3.Gen.facts Cert.Kernel3Ideal.Gen.facts

set_option maxHeartbeats 40000000 in
/-- The kernel's body is one function at the machine's values. -/
theorem bodies : Cert.Kernel3.defs₀ (F := Bits) = Cert.Kernel3Ideal.defs₀ (F := Bits) :=
  congrArg Defs.onTc (funext fun l => funext fun a => match l, a with | 0, (_, _) => rfl)

set_option maxHeartbeats 40000000 in
/-- So are the definitions the two runs start from. -/
theorem definitions : Cert.Kernel3.defs (F := Bits) = Cert.Kernel3Ideal.defs (F := Bits) :=
  congrArg (Pipeline.defs Cert.Kernel3Ideal.pcfgs) bodies

set_option maxHeartbeats 40000000 in
/-- The frame of the program as printed: the idealized one has the same text, so the same run serves at the machine's values. -/
theorem frame : Cert.quiescent_Kernel3 (hKernel3 := Cert.Kernel3.Gen.facts) := by
  intro m g _
  rw [definitions]
  exact Cert.Kernel3Ideal.Gen.frame (F := Bits) m g

/-- The frame over the extended reals. -/
theorem frameIdeal : Cert.quiescent_Kernel3Ideal (hKernel3Ideal := Cert.Kernel3Ideal.Gen.facts) := by
  intro m g _
  exact Cert.Kernel3Ideal.Gen.frame (F := Ideal) m g

end Cert.FfnClaim3
-- ==== Proof.InProj.lean ====
module
public import proofs.«01_k».proof.Proof.Gen.Kernel4Ideal.Value
public import proofs.«01_k».proof.Proof.Layer
public import Idealize.ShloMosaic.Lib.Pipeline.ValueKit
@[expose] public section
set_option maxRecDepth 16384
noncomputable section
namespace Cert.InProj
open Idealize.ShloMosaic Idealize.ShloMosaic.TcCoe Idealize.SL.Sem
open Cert.Kernel4Ideal Cert.Kernel4Ideal.Gen Cert.Layer

theorem second_apply (v : Vec Ideal S1x1x8x1024 .f32) (x : Vec Ideal S1x256x1024 .f32) (r : Fin 256) (k : Fin 1024) :
   k0_pay10 (F := Ideal) (k0_pay9 v) x (ix2 r k) = modRow (fun k => v (ix4 0 0 0 k)) (fun k => v (ix4 0 0 1 k)) (fun k => x (ix3 0 r k)) k := by
  pointwise [k0_pay10, k0_pay9, modRow, rowNorm, mean]

theorem third_apply (v : Vec Ideal S1x1x8x1024 .f32) (x : Vec Ideal S1x256x1024 .f32) (r : Fin 256) (k : Fin 1024) :
   k0_pay15 (F := Ideal) (k0_pay11 v) (k0_pay12 x) (k0_pay13 x) k0_pay14 (ix2 r k) = modRow (fun k => v (ix4 0 0 0 k)) (fun k => v (ix4 0 0 1 k)) (fun k => x (ix3 0 r k)) k := by
  pointwise [k0_pay15, k0_pay11, k0_pay12, k0_pay13, k0_pay14, modRow, rowNorm, mean]

theorem first_apply (i : grid0.Coords) (v1 v3 : Vec Ideal S1x1x8x1024 .f32) (x : Vec Ideal S1x256x1024 .f32) (r : Fin 256) (k : Fin 1024) :
   k0_pay8 (F := Ideal) i v1 v3 x (ix2 r k) = modRow (fun k => (if (i 1).val = 0 then v1 else v3) (ix4 0 0 0 k)) (fun k => (if (i 1).val = 0 then v1 else v3) (ix4 0 0 1 k)) (fun k => x (ix3 0 r k)) k := by
  have h3 : (i 1).val < 3 := (i 1).isLt
  have hc : Scalar.cmpi .eq (BitVec.ofNat 32 (i 1).val) 0#32 = if (i 1).val = 0 then 1#1 else 0#1 := by
    have : ∀ n < 3, Scalar.cmpi .eq (BitVec.ofNat 32 n) 0#32 = if n = 0 then 1#1 else 0#1 := by decide
    exact this _ h3
  unfold k0_pay8
  rw [hc]
  by_cases h : (i 1).val = 0
  · simp only [h, if_true]
    pointwise [modRow, rowNorm, mean]
  · simp only [h, if_false]
    pointwise [modRow, rowNorm, mean]

/-- A tile -/
def tile (i : grid0.Coords) (x0 : Vec Ideal S1x768x1024 .f32) (x1 : Vec Ideal S1x2x8x1024 .f32) (x2 : Vec Ideal S1024x3072 .bf16)
    (r : Fin 768) (j : Fin 3072) : EReal :=
  ∑ k : Fin 1024, modRow (fun k => x1 (ix4 0 (if (i 1).val = 0 ∧ r.val < 256 then 0 else 1) 0 k))
    (fun k => x1 (ix4 0 (if (i 1).val = 0 ∧ r.val < 256 then 0 else 1) 1 k)) (fun k => x0 (ix3 0 r k)) k * x2 (ix2 k j)

theorem out3_apply (i : grid0.Coords) (x0 : Vec Ideal S1x768x1024 .f32) (x1 : Vec Ideal S1x2x8x1024 .f32) (x2 : Vec Ideal S1024x3072 .bf16)
    (r : Fin 768) (j : Fin 1152) : out0_3 i x0 x1 x2 (ix3 0 r j) = tile i x0 x1 x2 r ⟨j.val, by omega⟩ := by
  unfold out0_3
  canon_tiles y h <;> idx_vars y
  · obtain rfl : r = ⟨512 + y1.val, by clear h0 h1 h2; omega⟩ := Fin.ext h1
    obtain rfl : j = ⟨y2.val, y2_lt⟩ := Fin.ext h2
    have hr : ¬ 512 + y1.val < 256 := by omega
    pointwise [k0_pay5, k0_pay4, k0_pay24, tile]
    simp only [third_apply]
    pointwise [r0_1, r0_2, r0_3, r0_4]
    simp only [hr, and_false, if_false]
  · obtain rfl : r = ⟨256 + y1.val, by clear h0 h1 h2; omega⟩ := Fin.ext h1
    obtain rfl : j = ⟨y2.val, y2_lt⟩ := Fin.ext h2
    pointwise [k0_pay1, k0_pay21, k0_pay20, k0_pay23, tile]
    simp only [second_apply]
    pointwise [r0_1, r0_2, r0_3, r0_4]
    simp only [and_false, if_false]
  · obtain rfl : r = ⟨y1.val, by clear h0 h1 h2; omega⟩ := Fin.ext h1
    obtain rfl : j = ⟨y2.val, y2_lt⟩ := Fin.ext h2
    pointwise [k0_pay17, k0_pay16, k0_pay22, tile]
    simp only [first_apply]
    pointwise [r0_1, r0_2, r0_3, r0_4]
    by_cases hi : (i 1).val = 0
    · simp only [hi, if_true]
      pointwise [r0_0]
    · simp only [hi, if_false]
      pointwise

theorem out4_apply (i : grid0.Coords) (x0 : Vec Ideal S1x768x1024 .f32) (x1 : Vec Ideal S1x2x8x1024 .f32) (x2 : Vec Ideal S1024x3072 .bf16)
    (r : Fin 768) (j : Fin 640) : out0_4 i x0 x1 x2 (ix3 0 r j) = tile i x0 x1 x2 r ⟨1152 + j.val, by omega⟩ := by
  unfold out0_4
  canon_tiles y h <;> idx_vars y
  · obtain rfl : r = ⟨512 + y1.val, by clear h0 h1 h2; omega⟩ := Fin.ext h1
    obtain rfl : j = ⟨y2.val, y2_lt⟩ := Fin.ext h2
    have hr : ¬ 512 + y1.val < 256 := by omega
    pointwise [k0_pay6, k0_pay4, k0_pay24, tile]
    simp only [third_apply]
    pointwise [r0_1, r0_2, r0_3, r0_4]
    simp only [hr, and_false, if_false]
  · obtain rfl : r = ⟨256 + y1.val, by clear h0 h1 h2; omega⟩ := Fin.ext h1
    obtain rfl : j = ⟨y2.val, y2_lt⟩ := Fin.ext h2
    pointwise [k0_pay2, k0_pay25, k0_pay20, k0_pay23, tile]
    simp only [second_apply]
    pointwise [r0_1, r0_2, r0_3, r0_4]
    simp only [and_false, if_false]
  · obtain rfl : r = ⟨y1.val, by clear h0 h1 h2; omega⟩ := Fin.ext h1
    obtain rfl : j = ⟨y2.val, y2_lt⟩ := Fin.ext h2
    pointwise [k0_pay18, k0_pay16, k0_pay22, tile]
    simp only [first_apply]
    pointwise [r0_1, r0_2, r0_3, r0_4]
    by_cases hi : (i 1).val = 0
    · simp only [hi, if_true]
      pointwise [r0_0]
    · simp only [hi, if_false]
      pointwise

theorem out5_apply (i : grid0.Coords) (x0 : Vec Ideal S1x768x1024 .f32) (x1 : Vec Ideal S1x2x8x1024 .f32) (x2 : Vec Ideal S1024x3072 .bf16)
    (r : Fin 768) (j : Fin 1280) : out0_5 i x0 x1 x2 (ix3 0 r j) = tile i x0 x1 x2 r ⟨1792 + j.val, by omega⟩ := by
  unfold out0_5
  canon_tiles y h <;> idx_vars y
  · obtain rfl : r = ⟨512 + y1.val, by clear h0 h1 h2; omega⟩ := Fin.ext h1
    obtain rfl : j = ⟨y2.val, y2_lt⟩ := Fin.ext h2
    have hr : ¬ 512 + y1.val < 256 := by omega
    pointwise [k0_pay7, k0_pay4, k0_pay24, tile]
    simp only [third_apply]
    pointwise [r0_1, r0_2, r0_3, r0_4]
    simp only [hr, and_false, if_false]
  · obtain rfl : r = ⟨256 + y1.val, by clear h0 h1 h2; omega⟩ := Fin.ext h1
    obtain rfl : j = ⟨y2.val, y2_lt⟩ := Fin.ext h2
    pointwise [k0_pay3, k0_pay25, k0_pay20, k0_pay23, tile]
    simp only [second_apply]
    pointwise [r0_1, r0_2, r0_3, r0_4]
    simp only [and_false, if_false]
  · obtain rfl : r = ⟨y1.val, by clear h0 h1 h2; omega⟩ := Fin.ext h1
    obtain rfl : j = ⟨y2.val, y2_lt⟩ := Fin.ext h2
    pointwise [k0_pay19, k0_pay16, k0_pay22, tile]
    simp only [first_apply]
    pointwise [r0_1, r0_2, r0_3, r0_4]
    by_cases hi : (i 1).val = 0
    · simp only [hi, if_true]
      pointwise [r0_0]
    · simp only [hi, if_false]
      pointwise
theorem idx : ∀ t : Fin cfg0.N, win0_0.index t = ![(grid0.coords t 0).val, (grid0.coords t 1).val, 0] ∧ win0_1.index t = ![(grid0.coords t 0).val, 0, 0, 0]
    ∧ win0_2.index t = ![0, 0]
    ∧ win0_3.index t = ![(grid0.coords t 0).val, (grid0.coords t 1).val, 0] ∧ win0_4.index t = ![(grid0.coords t 0).val, (grid0.coords t 1).val, 0]
    ∧ win0_5.index t = ![(grid0.coords t 0).val, (grid0.coords t 1).val, 0] :=
  (by decide +kernel : ∀ t : Fin grid0.N, _)

variable (m : (ℓ : Loc nD τ sig) → Buf (Elt Ideal) ℓ)

theorem V_mods (c : Dev nD) (b : Fin 16) (s : Fin 2) (q : Fin 6) (k : Fin 1024) : (V m c main_v5 : FVec Ideal S16x2x8x1024 .f32) (ix4 b s (q.castLE (by decide)) k)
   = if s = 0 then (m ((c : Thread nD τ).loc main_arg2) : FVec Ideal S6x1024 .f32) (ix2 q k) else (m ((c : Thread nD τ).loc main_arg1) : FVec Ideal S16x6x1024 .f32) (ix3 b q k) := by
  simp only [V, hostOps0, hostOps0_1, hostOps0_2, List.flatten_cons, List.flatten_nil, List.append_nil, List.cons_append, List.nil_append]
  after_results
  simp only [StableHlo.TRef.toBuf, StableHlo.TRef.ofBuf, cast_eq]
  pointwise
  rw [dif_pos (show (Fin.castLE (by decide : 6 ≤ 8) q).val < 6 from q.isLt)]
  by_cases hs : s = 0
  · subst hs; rfl
  · have h1 : ¬ s.val < 1 := fun h => hs (Fin.ext (by show s.val = 0; omega))
    rw [dif_neg h1, if_neg hs]; rfl

/-- The ten blocks of columns of the weight matrix, side by side. -/
def wcat (u0 : FVec Ideal S1024x384 .f32) (u1 : FVec Ideal S1024x768 .f32) (u2 : FVec Ideal S1024x64 .f32) (u3 : FVec Ideal S1024x64 .f32) (u4 : FVec Ideal S1024x64 .f32) (u5 : FVec Ideal S1024x64 .f32) (u6 : FVec Ideal S1024x64 .f32) (u7 : FVec Ideal S1024x64 .f32) (u8 : FVec Ideal S1024x1024 .f32) (u9 : FVec Ideal S1024x512 .f32) : FVec Ideal S1024x3072 .f32 :=
  concatenate S1024x3072 1 [⟨S1024x384, u0⟩, ⟨S1024x768, u1⟩, ⟨S1024x64, u2⟩, ⟨S1024x64, u3⟩, ⟨S1024x64, u4⟩, ⟨S1024x64, u5⟩, ⟨S1024x64, u6⟩, ⟨S1024x64, u7⟩, ⟨S1024x1024, u8⟩, ⟨S1024x512, u9⟩] concatenates_S1024x384_S1024x768_S1024x64_S1024x64_S1024x64_S1024x64_S1024x64_S1024x64_S1024x1024_S1024x512_S1024x3072_d1

/-- The last operations of the host code, with the concatenation named. -/
theorem ops2_eq : (hostOps0_2 : List (HloOp τ sig (Elt Ideal))) =
  [ StableHlo.unary main_arg3 main_v6 ((extractStridedSlice S1024x384 ![0, 1792] · slices_S1024x3072_S1024x384_0_1792) : (⟨S1024x3072, .f32⟩ : BufTy).Contents (Elt Ideal) → (⟨S1024x384, .f32⟩ : BufTy).Contents (Elt Ideal)),
    StableHlo.unary main_arg3 main_v7 ((extractStridedSlice S1024x768 ![0, 0] · slices_S1024x3072_S1024x768_0_0) : (⟨S1024x3072, .f32⟩ : BufTy).Contents (Elt Ideal) → (⟨S1024x768, .f32⟩ : BufTy).Contents (Elt Ideal)),
    StableHlo.unary main_arg3 main_v8 ((extractStridedSlice S1024x64 ![0, 2176] · slices_S1024x3072_S1024x64_0_2176) : (⟨S1024x3072, .f32⟩ : BufTy).Contents (Elt Ideal) → (⟨S1024x64, .f32⟩ : BufTy).Contents (Elt Ideal)),
    StableHlo.unary main_arg3 main_v9 ((extractStridedSlice S1024x64 ![0, 2368] · slices_S1024x3072_S1024x64_0_2368) : (⟨S1024x3072, .f32⟩ : BufTy).Contents (Elt Ideal) → (⟨S1024x64, .f32⟩ : BufTy).Contents (Elt Ideal)),
    StableHlo.unary main_arg3 main_v10 ((extractStridedSlice S1024x64 ![0, 2240] · slices_S1024x3072_S1024x64_0_2240) : (⟨S1024x3072, .f32⟩ : BufTy).Contents (Elt Ideal) → (⟨S1024x64, .f32⟩ : BufTy).Contents (Elt Ideal)),
    StableHlo.unary main_arg3 main_v11 ((extractStridedSlice S1024x64 ![0, 2432] · slices_S1024x3072_S1024x64_0_2432) : (⟨S1024x3072, .f32⟩ : BufTy).Contents (Elt Ideal) → (⟨S1024x64, .f32⟩ : BufTy).Contents (Elt Ideal)),
    StableHlo.unary main_arg3 main_v12 ((extractStridedSlice S1024x64 ![0, 2304] · slices_S1024x3072_S1024x64_0_2304) : (⟨S1024x3072, .f32⟩ : BufTy).Contents (Elt Ideal) → (⟨S1024x64, .f32⟩ : BufTy).Contents (Elt Ideal)),
    StableHlo.unary main_arg3 main_v13 ((extractStridedSlice S1024x64 ![0, 2496] · slices_S1024x3072_S1024x64_0_2496) : (⟨S1024x3072, .f32⟩ : BufTy).Contents (Elt Ideal) → (⟨S1024x64, .f32⟩ : BufTy).Contents (Elt Ideal)),
    StableHlo.unary main_arg3 main_v14 ((extractStridedSlice S1024x1024 ![0, 768] · slices_S1024x3072_S1024x1024_0_768) : (⟨S1024x3072, .f32⟩ : BufTy).Contents (Elt Ideal) → (⟨S1024x1024, .f32⟩ : BufTy).Contents (Elt Ideal)),
    StableHlo.unary main_arg3 main_v15 ((extractStridedSlice S1024x512 ![0, 2560] · slices_S1024x3072_S1024x512_0_2560) : (⟨S1024x3072, .f32⟩ : BufTy).Contents (Elt Ideal) → (⟨S1024x512, .f32⟩ : BufTy).Contents (Elt Ideal)),
    StableHlo.nary ![main_v6, main_v7, main_v8, main_v9, main_v10, main_v11, main_v12, main_v13, main_v14, main_v15] main_v16 (fun u => wcat (u 0) (u 1) (u 2) (u 3) (u 4) (u 5) (u 6) (u 7) (u 8) (u 9)),
    StableHlo.unary main_v16 main_v17 (fun x => truncf (F := Ideal) .bf16 (x : FVec Ideal S1024x3072 .f32) bitsLt_bf16_f32) ] := rfl

theorem V_w_cat (c : Dev nD) : V m c main_v17 = (truncf (F := Ideal) .bf16 (wcat
    (extractStridedSlice S1024x384 ![0, 1792] (m ((c : Thread nD τ).loc main_arg3) : FVec Ideal S1024x3072 .f32) slices_S1024x3072_S1024x384_0_1792)
    (extractStridedSlice S1024x768 ![0, 0] (m ((c : Thread nD τ).loc main_arg3) : FVec Ideal S1024x3072 .f32) slices_S1024x3072_S1024x768_0_0)
    (extractStridedSlice S1024x64 ![0, 2176] (m ((c : Thread nD τ).loc main_arg3) : FVec Ideal S1024x3072 .f32) slices_S1024x3072_S1024x64_0_2176)
    (extractStridedSlice S1024x64 ![0, 2368] (m ((c : Thread nD τ).loc main_arg3) : FVec Ideal S1024x3072 .f32) slices_S1024x3072_S1024x64_0_2368)
    (extractStridedSlice S1024x64 ![0, 2240] (m ((c : Thread nD τ).loc main_arg3) : FVec Ideal S1024x3072 .f32) slices_S1024x3072_S1024x64_0_2240)
    (extractStridedSlice S1024x64 ![0, 2432] (m ((c : Thread nD τ).loc main_arg3) : FVec Ideal S1024x3072 .f32) slices_S1024x3072_S1024x64_0_2432)
    (extractStridedSlice S1024x64 ![0, 2304] (m ((c : Thread nD τ).loc main_arg3) : FVec Ideal S1024x3072 .f32) slices_S1024x3072_S1024x64_0_2304)
    (extractStridedSlice S1024x64 ![0, 2496] (m ((c : Thread nD τ).loc main_arg3) : FVec Ideal S1024x3072 .f32) slices_S1024x3072_S1024x64_0_2496)
    (extractStridedSlice S1024x1024 ![0, 768] (m ((c : Thread nD τ).loc main_arg3) : FVec Ideal S1024x3072 .f32) slices_S1024x3072_S1024x1024_0_768)
    (extractStridedSlice S1024x512 ![0, 2560] (m ((c : Thread nD τ).loc main_arg3) : FVec Ideal S1024x3072 .f32) slices_S1024x3072_S1024x512_0_2560)
    ) bitsLt_bf16_f32 : FVec Ideal S1024x3072 .bf16) := by
  simp only [V]
  rw [ops2_eq]
  simp only [hostOps0, hostOps0_1, List.flatten_cons, List.flatten_nil, List.append_nil, List.cons_append, List.nil_append]
  after_results_simp
  rfl

/-- The column of the weight matrix that stands at column `j` of the permuted one. -/
def col (j : Fin 3072) : Fin 3072 :=
  if h0 : j.val < 384 then ⟨1792 + (j.val), by omega⟩ else
  if h1 : j.val - 384 < 768 then ⟨j.val - 384, by omega⟩ else
  if h2 : j.val - 384 - 768 < 64 then ⟨2176 + (j.val - 384 - 768), by omega⟩ else
  if h3 : j.val - 384 - 768 - 64 < 64 then ⟨2368 + (j.val - 384 - 768 - 64), by omega⟩ else
  if h4 : j.val - 384 - 768 - 64 - 64 < 64 then ⟨2240 + (j.val - 384 - 768 - 64 - 64), by omega⟩ else
  if h5 : j.val - 384 - 768 - 64 - 64 - 64 < 64 then ⟨2432 + (j.val - 384 - 768 - 64 - 64 - 64), by omega⟩ else
  if h6 : j.val - 384 - 768 - 64 - 64 - 64 - 64 < 64 then ⟨2304 + (j.val - 384 - 768 - 64 - 64 - 64 - 64), by omega⟩ else
  if h7 : j.val - 384 - 768 - 64 - 64 - 64 - 64 - 64 < 64 then ⟨2496 + (j.val - 384 - 768 - 64 - 64 - 64 - 64 - 64), by omega⟩ else
  if h8 : j.val - 384 - 768 - 64 - 64 - 64 - 64 - 64 - 64 < 1024 then ⟨768 + (j.val - 384 - 768 - 64 - 64 - 64 - 64 - 64 - 64), by omega⟩ else
  ⟨2560 + (j.val - 384 - 768 - 64 - 64 - 64 - 64 - 64 - 64 - 1024), by omega⟩

theorem dite_read {α β : Sort*} {p : Prop} [Decidable p] (f : α → β) {x : p → β} {y : ¬ p → β} {a : p → α} {b : ¬ p → α}
    (hx : ∀ h, x h = f (a h)) (hy : ∀ h, y h = f (b h)) : dite p x y = f (dite p a b) := by
  by_cases h : p
  · rw [dif_pos h, dif_pos h, hx]
  · rw [dif_neg h, dif_neg h, hy]

theorem V_w (c : Dev nD) (k : Fin 1024) (j : Fin 3072) : (V m c main_v17 : FVec Ideal S1024x3072 .bf16) (ix2 k j) = (m ((c : Thread nD τ).loc main_arg3) : FVec Ideal S1024x3072 .f32) (ix2 k (col j)) := by
  rw [V_w_cat]
  pointwise [wcat]
  unfold col
  iterate 9 refine dite_read (fun q => (m ((c : Thread nD τ).loc main_arg3) : FVec Ideal S1024x3072 .f32) (ix2 k q)) (fun _ => rfl) fun _ => ?_
  rfl
end Cert.InProj
-- ==== Proof.InProjRef.lean ====
module
public import proofs.«01_k».proof.Proof.Gen.Reference4Ideal.Run
public import proofs.«01_k».proof.Proof.RefNorm
public import Idealize.ShloMosaic.Lib.Pipeline.ValueKit
@[expose] public section
set_option maxRecDepth 16384
noncomputable section
namespace Cert.InProjRef
open Idealize.ShloMosaic Idealize.ShloMosaic.TcCoe Idealize.SL.Sem
open Cert.Reference4Ideal Cert.Reference4Ideal.Gen Cert.Reference4Ideal.Value Cert.Layer Cert.RefNorm

/-- The normalised and modulated context rows. -/
def ctxRows (x0 : FVec Ideal S16x2304x1024 .f32) (x2 : FVec Ideal S6x1024 .f32) : FVec Ideal S16x256x1024 .f32 := (addf (mulf (norm256 (extractStridedSlice S16x256x1024 ![0, 0, 0] x0 slices_S16x2304x1024_S16x256x1024_0_0_0)) (broadcastInDim S16x256x1024 ![0, 1, 2] bcast_S1x1x1024_S16x256x1024_0_1_2 (broadcastInDim S1x1x1024 ![2] bcast_S1024_S1x1x1024_2 (addf (broadcastInDim S1024 ![] bcast_S_S1024 (constant S_ .f32 0x3F800000#32)) (extractStridedSlice S1024 ![1024] (shapeCast _ x2 shapeCasts_S6x1024_S6144) slices_S6144_S1024_1024))))) (broadcastInDim S16x256x1024 ![0, 1, 2] bcast_S1x1x1024_S16x256x1024_0_1_2 (broadcastInDim S1x1x1024 ![2] bcast_S1024_S1x1x1024_2 (extractStridedSlice S1024 ![0] (shapeCast _ x2 shapeCasts_S6x1024_S6144) slices_S6144_S1024_0))))

/-- The normalised and modulated latent rows. -/
def latRows (x0 : FVec Ideal S16x2304x1024 .f32) (x1 : FVec Ideal S16x6x1024 .f32) : FVec Ideal S16x2048x1024 .f32 := (addf (mulf (norm2048 (extractStridedSlice S16x2048x1024 ![0, 256, 0] x0 slices_S16x2304x1024_S16x2048x1024_0_256_0)) (broadcastInDim S16x2048x1024 ![0, 1, 2] bcast_S16x1x1024_S16x2048x1024_0_1_2 (addf (broadcastInDim S16x1x1024 ![] bcast_S_S16x1x1024 (constant S_ .f32 0x3F800000#32)) (extractStridedSlice S16x1x1024 ![0, 0, 1024] (shapeCast _ x1 shapeCasts_S16x6x1024_S16x1x6144) slices_S16x1x6144_S16x1x1024_0_0_1024)))) (broadcastInDim S16x2048x1024 ![0, 1, 2] bcast_S16x1x1024_S16x2048x1024_0_1_2 (extractStridedSlice S16x1x1024 ![0, 0, 0] (shapeCast _ x1 shapeCasts_S16x6x1024_S16x1x6144) slices_S16x1x6144_S16x1x1024_0_0_0)))

/-- The projected rows: the context's, then the latents'. -/
def projected (x0 : FVec Ideal S16x2304x1024 .f32) (x1 : FVec Ideal S16x6x1024 .f32) (x2 : FVec Ideal S6x1024 .f32) (x3 : FVec Ideal S1024x3072 .f32) : FVec Ideal S16x2304x3072 .f32 := (concatenate S16x2304x3072 1 [⟨S16x256x3072, Host.dotGeneral (φ₂ := .f32) dot_S16x256x1024_S1024x3072_S16x256x3072_2_0_01_1_n_n none (ctxRows x0 x2) x3⟩, ⟨S16x2048x3072, Host.dotGeneral (φ₂ := .f32) dot_S16x2048x1024_S1024x3072_S16x2048x3072_2_0_01_1_n_n none (latRows x0 x1) x3⟩] concatenates_S16x256x3072_S16x2048x3072_S16x2304x3072_d1)

/-- A context row after the norm and the modulation. -/
theorem ctxRows_apply (x0 : FVec Ideal S16x2304x1024 .f32) (x2 : FVec Ideal S6x1024 .f32) (b : Fin 16) (r : Fin 256) (k : Fin 1024) : ctxRows x0 x2 (ix3 b r k) =
    modRow (fun k => x2 (ix2 0 k)) (fun k => x2 (ix2 1 k)) (fun k => x0 (ix3 b ⟨r.val, by omega⟩ k)) k := by
  pointwise [ctxRows, modRow]
  simp only [norm256_apply]
  pointwise
  have e0 : (⟨k.val / 1024, by omega⟩ : Fin 6) = 0 := Fin.ext (by show k.val / 1024 = 0; omega)
  have e1 : (⟨(1024 + k.val) / 1024, by omega⟩ : Fin 6) = 1 := Fin.ext (by show (1024 + k.val) / 1024 = 1; omega)
  have e2 : (⟨k.val % 1024, by omega⟩ : Fin 1024) = k := Fin.ext (Nat.mod_eq_of_lt k.isLt)
  simp only [e0, e1, e2]

/-- A latent row after the norm and the modulation. -/
theorem latRows_apply (x0 : FVec Ideal S16x2304x1024 .f32) (x1 : FVec Ideal S16x6x1024 .f32) (b : Fin 16) (r : Fin 2048) (k : Fin 1024) : latRows x0 x1 (ix3 b r k) =
    modRow (fun k => x1 (ix3 b 0 k)) (fun k => x1 (ix3 b 1 k)) (fun k => x0 (ix3 b ⟨256 + r.val, by omega⟩ k)) k := by
  pointwise [latRows, modRow]
  simp only [norm2048_apply]
  pointwise
  have e0 : (⟨k.val / 1024, by omega⟩ : Fin 6) = 0 := Fin.ext (by show k.val / 1024 = 0; omega)
  have e1 : (⟨(1024 + k.val) / 1024, by omega⟩ : Fin 6) = 1 := Fin.ext (by show (1024 + k.val) / 1024 = 1; omega)
  have e2 : (⟨k.val % 1024, by omega⟩ : Fin 1024) = k := Fin.ext (Nat.mod_eq_of_lt k.isLt)
  simp only [e0, e1, e2]

/-- An entry of the projection: the normalised row, modulated by its stream's shift and scale, times a column of the weights. -/
def entry (x0 : FVec Ideal S16x2304x1024 .f32) (x1 : FVec Ideal S16x6x1024 .f32) (x2 : FVec Ideal S6x1024 .f32) (x3 : FVec Ideal S1024x3072 .f32) (b : Fin 16) (r : Fin 2304) (j : Fin 3072) : EReal :=
  ∑ k : Fin 1024, modRow
    (fun k => if r.val < 256 then x2 (ix2 0 k) else x1 (ix3 b 0 k))
    (fun k => if r.val < 256 then x2 (ix2 1 k) else x1 (ix3 b 1 k))
    (fun k => x0 (ix3 b r k)) k * x3 (ix2 k j)

theorem projected_apply (x0 : FVec Ideal S16x2304x1024 .f32) (x1 : FVec Ideal S16x6x1024 .f32) (x2 : FVec Ideal S6x1024 .f32) (x3 : FVec Ideal S1024x3072 .f32) (b : Fin 16) (r : Fin 2304) (j : Fin 3072) : projected x0 x1 x2 x3 (ix3 b r j) = entry x0 x1 x2 x3 b r j := by
  pointwise [projected, entry]
  simp only [ctxRows_apply, latRows_apply]
  by_cases h : r.val < 256
  · simp only [h, dif_pos, if_true]
  · simp only [h, dif_neg, if_false, not_false_eq_true]
    have hr : (⟨256 + (r.val - 256), by omega⟩ : Fin 2304) = r := Fin.ext (by show 256 + (r.val - 256) = r.val; omega)
    simp only [hr]

/-- The column of the projection that stands at column `j` of the first result. -/
def col0 (j : Fin 1152) : Fin 3072 :=
  if h : j.val < 384 then ⟨1792 + j.val, by omega⟩ else if h1 : j.val - 384 < 384 then ⟨j.val - 384, by omega⟩ else ⟨384 + (j.val - 384 - 384), by omega⟩

/-- The column of the projection that stands at column `j` of the second result. -/
def col1 (j : Fin 640) : Fin 3072 :=
  if h : j.val < 384 then ⟨2176 + (j.val / 64 % 2 * 192 + j.val / 128 * 64 + j.val % 64), by omega⟩ else if h1 : j.val - 384 < 128 then ⟨768 + (j.val - 384), by omega⟩ else ⟨896 + (j.val - 384 - 128), by omega⟩

/-- The column of the projection that stands at column `j` of the third result. -/
def col2 (j : Fin 1280) : Fin 3072 :=
  if h : j.val < 256 then ⟨1024 + j.val, by omega⟩ else if h1 : j.val - 256 < 256 then ⟨1280 + (j.val - 256), by omega⟩
  else if h2 : j.val - 256 - 256 < 256 then ⟨1536 + (j.val - 256 - 256), by omega⟩ else if h3 : j.val - 256 - 256 - 256 < 256 then ⟨2560 + (j.val - 256 - 256 - 256), by omega⟩
  else ⟨2816 + (j.val - 256 - 256 - 256 - 256), by omega⟩

variable (m : (ℓ : Loc nD τ sig) → Buf (Elt Ideal) ℓ)

theorem res84_eq (c : Dev nD) : res_main_v84 m c = (truncf .bf16 ((concatenate S16x2304x1152 2 [⟨S16x2304x384, ((extractStridedSlice S16x2304x384 ![0, 0, 1792] (projected (m ((c.tc : Thread nD τ).loc main_arg0)) (m ((c.tc : Thread nD τ).loc main_arg1)) (m ((c.tc : Thread nD τ).loc main_arg2)) (m ((c.tc : Thread nD τ).loc main_arg3))) slices_S16x2304x3072_S16x2304x384_0_0_1792) : (⟨S16x2304x384, .f32⟩ : BufTy).Contents (Elt Ideal))⟩, ⟨S16x2304x384, ((extractStridedSlice S16x2304x384 ![0, 0, 0] (projected (m ((c.tc : Thread nD τ).loc main_arg0)) (m ((c.tc : Thread nD τ).loc main_arg1)) (m ((c.tc : Thread nD τ).loc main_arg2)) (m ((c.tc : Thread nD τ).loc main_arg3))) slices_S16x2304x3072_S16x2304x384_0_0_0) : (⟨S16x2304x384, .f32⟩ : BufTy).Contents (Elt Ideal))⟩, ⟨S16x2304x384, ((extractStridedSlice S16x2304x384 ![0, 0, 384] (projected (m ((c.tc : Thread nD τ).loc main_arg0)) (m ((c.tc : Thread nD τ).loc main_arg1)) (m ((c.tc : Thread nD τ).loc main_arg2)) (m ((c.tc : Thread nD τ).loc main_arg3))) slices_S16x2304x3072_S16x2304x384_0_0_384) : (⟨S16x2304x384, .f32⟩ : BufTy).Contents (Elt Ideal))⟩] concatenates_S16x2304x384_S16x2304x384_S16x2304x384_S16x2304x1152_d2 : (⟨S16x2304x1152, .f32⟩ : BufTy).Contents (Elt Ideal))) bitsLt_bf16_f32 : FVec Ideal S16x2304x1152 .bf16) := rfl

/-- Result 0 of the reference at an index. -/
theorem res84_apply (c : Dev nD) (b : Fin 16) (r : Fin 2304) (j : Fin 1152) : (res_main_v84 m c : FVec Ideal S16x2304x1152 .bf16) (ix3 b r j)
    = entry (m ((c.tc : Thread nD τ).loc main_arg0)) (m ((c.tc : Thread nD τ).loc main_arg1)) (m ((c.tc : Thread nD τ).loc main_arg2)) (m ((c.tc : Thread nD τ).loc main_arg3)) b r (col0 j) := by
  rw [res84_eq]
  pointwise [col0]
  simp only [projected_apply]
  split_ifs <;> rfl

theorem res86_eq (c : Dev nD) : res_main_v86 m c = (truncf .bf16 ((concatenate S16x2304x640 2 [⟨S16x2304x384, ((shapeCast _ (transpose S16x2304x3x2x64 [0, 1, 3, 2, 4] (shapeCast _ (extractStridedSlice S16x2304x384 ![0, 0, 2176] (projected (m ((c.tc : Thread nD τ).loc main_arg0)) (m ((c.tc : Thread nD τ).loc main_arg1)) (m ((c.tc : Thread nD τ).loc main_arg2)) (m ((c.tc : Thread nD τ).loc main_arg3))) slices_S16x2304x3072_S16x2304x384_0_0_2176) shapeCasts_S16x2304x384_S16x2304x2x3x64) transposes_S16x2304x2x3x64_S16x2304x3x2x64_0_1_3_2_4) shapeCasts_S16x2304x3x2x64_S16x2304x384) : (⟨S16x2304x384, .f32⟩ : BufTy).Contents (Elt Ideal))⟩, ⟨S16x2304x128, ((extractStridedSlice S16x2304x128 ![0, 0, 768] (projected (m ((c.tc : Thread nD τ).loc main_arg0)) (m ((c.tc : Thread nD τ).loc main_arg1)) (m ((c.tc : Thread nD τ).loc main_arg2)) (m ((c.tc : Thread nD τ).loc main_arg3))) slices_S16x2304x3072_S16x2304x128_0_0_768) : (⟨S16x2304x128, .f32⟩ : BufTy).Contents (Elt Ideal))⟩, ⟨S16x2304x128, ((extractStridedSlice S16x2304x128 ![0, 0, 896] (projected (m ((c.tc : Thread nD τ).loc main_arg0)) (m ((c.tc : Thread nD τ).loc main_arg1)) (m ((c.tc : Thread nD τ).loc main_arg2)) (m ((c.tc : Thread nD τ).loc main_arg3))) slices_S16x2304x3072_S16x2304x128_0_0_896) : (⟨S16x2304x128, .f32⟩ : BufTy).Contents (Elt Ideal))⟩] concatenates_S16x2304x384_S16x2304x128_S16x2304x128_S16x2304x640_d2 : (⟨S16x2304x640, .f32⟩ : BufTy).Contents (Elt Ideal))) bitsLt_bf16_f32 : FVec Ideal S16x2304x640 .bf16) := rfl

/-- Result 1 of the reference at an index. -/
theorem res86_apply (c : Dev nD) (b : Fin 16) (r : Fin 2304) (j : Fin 640) : (res_main_v86 m c : FVec Ideal S16x2304x640 .bf16) (ix3 b r j)
    = entry (m ((c.tc : Thread nD τ).loc main_arg0)) (m ((c.tc : Thread nD τ).loc main_arg1)) (m ((c.tc : Thread nD τ).loc main_arg2)) (m ((c.tc : Thread nD τ).loc main_arg3)) b r (col1 j) := by
  rw [res86_eq]
  pointwise [col1]
  simp only [projected_apply]
  split_ifs <;> rfl

theorem res87_eq (c : Dev nD) : res_main_v87 m c = ((concatenate S16x2304x1280 2 [⟨S16x2304x256, ((extractStridedSlice S16x2304x256 ![0, 0, 1024] (projected (m ((c.tc : Thread nD τ).loc main_arg0)) (m ((c.tc : Thread nD τ).loc main_arg1)) (m ((c.tc : Thread nD τ).loc main_arg2)) (m ((c.tc : Thread nD τ).loc main_arg3))) slices_S16x2304x3072_S16x2304x256_0_0_1024) : (⟨S16x2304x256, .f32⟩ : BufTy).Contents (Elt Ideal))⟩, ⟨S16x2304x256, ((extractStridedSlice S16x2304x256 ![0, 0, 1280] (projected (m ((c.tc : Thread nD τ).loc main_arg0)) (m ((c.tc : Thread nD τ).loc main_arg1)) (m ((c.tc : Thread nD τ).loc main_arg2)) (m ((c.tc : Thread nD τ).loc main_arg3))) slices_S16x2304x3072_S16x2304x256_0_0_1280) : (⟨S16x2304x256, .f32⟩ : BufTy).Contents (Elt Ideal))⟩, ⟨S16x2304x256, ((extractStridedSlice S16x2304x256 ![0, 0, 1536] (projected (m ((c.tc : Thread nD τ).loc main_arg0)) (m ((c.tc : Thread nD τ).loc main_arg1)) (m ((c.tc : Thread nD τ).loc main_arg2)) (m ((c.tc : Thread nD τ).loc main_arg3))) slices_S16x2304x3072_S16x2304x256_0_0_1536) : (⟨S16x2304x256, .f32⟩ : BufTy).Contents (Elt Ideal))⟩, ⟨S16x2304x256, ((extractStridedSlice S16x2304x256 ![0, 0, 2560] (projected (m ((c.tc : Thread nD τ).loc main_arg0)) (m ((c.tc : Thread nD τ).loc main_arg1)) (m ((c.tc : Thread nD τ).loc main_arg2)) (m ((c.tc : Thread nD τ).loc main_arg3))) slices_S16x2304x3072_S16x2304x256_0_0_2560) : (⟨S16x2304x256, .f32⟩ : BufTy).Contents (Elt Ideal))⟩, ⟨S16x2304x256, ((extractStridedSlice S16x2304x256 ![0, 0, 2816] (projected (m ((c.tc : Thread nD τ).loc main_arg0)) (m ((c.tc : Thread nD τ).loc main_arg1)) (m ((c.tc : Thread nD τ).loc main_arg2)) (m ((c.tc : Thread nD τ).loc main_arg3))) slices_S16x2304x3072_S16x2304x256_0_0_2816) : (⟨S16x2304x256, .f32⟩ : BufTy).Contents (Elt Ideal))⟩] concatenates_S16x2304x256_S16x2304x256_S16x2304x256_S16x2304x256_S16x2304x256_S16x2304x1280_d2 : (⟨S16x2304x1280, .f32⟩ : BufTy).Contents (Elt Ideal)) : FVec Ideal S16x2304x1280 .f32) := rfl

/-- Result 2 of the reference at an index. -/
theorem res87_apply (c : Dev nD) (b : Fin 16) (r : Fin 2304) (j : Fin 1280) : (res_main_v87 m c : FVec Ideal S16x2304x1280 .f32) (ix3 b r j)
    = entry (m ((c.tc : Thread nD τ).loc main_arg0)) (m ((c.tc : Thread nD τ).loc main_arg1)) (m ((c.tc : Thread nD τ).loc main_arg2)) (m ((c.tc : Thread nD τ).loc main_arg3)) b r (col2 j) := by
  rw [res87_eq]
  pointwise [col2]
  simp only [projected_apply]
  split_ifs <;> rfl
end Cert.InProjRef
-- ==== Proof.InProjBlocks.lean ====
module
public import proofs.«01_k».proof.Proof.InProj
public import proofs.«01_k».proof.Proof.InProjRef
@[expose] public section
set_option maxRecDepth 16384
noncomputable section
namespace Cert.InProj
open Idealize.ShloMosaic Idealize.ShloMosaic.TcCoe Idealize.SL.Sem
open Cert.Kernel4Ideal Cert.Kernel4Ideal.Gen Cert.Layer
variable (m : (ℓ : Loc nD τ sig) → Buf (Elt Ideal) ℓ)

/-- The batch of a grid point. -/
abbrev batch (t : Fin cfg0.N) : Fin 16 := ⟨((grid0.coords t) 0).val, ((grid0.coords t) 0).isLt⟩

/-- The row of the arrays at which row `r` of a grid point's block lies. -/
abbrev row (t : Fin cfg0.N) (r : Fin 768) : Fin 2304 :=
  ⟨768 * ((grid0.coords t) 1).val + r.val, by have : ((grid0.coords t) 1).val < 3 := ((grid0.coords t) 1).isLt; omega⟩

/-- The rows that a grid point reads. -/
theorem block0 (c : Dev nD) (t : Fin cfg0.N) (r : Fin 768) (k : Fin 1024) :
    (iblk m c 0 t : Vec Ideal S1x768x1024 .f32) (ix3 0 r k) = (m ((c : Thread nD τ).loc main_arg0) : FVec Ideal S16x2304x1024 .f32) (ix3 (batch t) (row t r) k) := by
  blk_ext [iblk, V, idx t]

/-- The modulation that a grid point reads. -/
theorem block1 (c : Dev nD) (t : Fin cfg0.N) (s : Fin 2) (q : Fin 8) (k : Fin 1024) :
    (iblk m c 1 t : Vec Ideal S1x2x8x1024 .f32) (ix4 0 s q k) = (V m c main_v5 : FVec Ideal S16x2x8x1024 .f32) (ix4 (batch t) s q k) := by
  blk_ext [iblk, idx t]

/-- The weights that a grid point reads. -/
theorem block2 (c : Dev nD) (t : Fin cfg0.N) (k : Fin 1024) (j : Fin 3072) :
    (iblk m c 2 t : Vec Ideal S1024x3072 .bf16) (ix2 k j) = (m ((c : Thread nD τ).loc main_arg3) : FVec Ideal S1024x3072 .f32) (ix2 k (col j)) := by
  refine Eq.trans ?_ (V_w m c k j)
  blk_ext [iblk, idx t]

/-- The entry of the projection that the kernel writes at column `j` of its permuted columns. -/
def entryK (c : Dev nD) (b : Fin 16) (r : Fin 2304) (j : Fin 3072) : EReal :=
  InProjRef.entry (m ((c : Thread nD τ).loc main_arg0)) (m ((c : Thread nD τ).loc main_arg1)) (m ((c : Thread nD τ).loc main_arg2)) (m ((c : Thread nD τ).loc main_arg3)) b r (col j)

theorem tile_entry (c : Dev nD) (t : Fin cfg0.N) (r : Fin 768) (j : Fin 3072) :
   tile (grid0.coords t) (iblk m c 0 t) (iblk m c 1 t) (iblk m c 2 t) r j = entryK m c (batch t) (row t r) j := by
  unfold tile entryK InProjRef.entry
  refine Finset.sum_congr rfl fun k _ => ?_
  rw [block2]
  have hs : ((grid0.coords t 1).val = 0 ∧ r.val < 256) ↔ (row t r).val < 256 := by
    show _ ↔ 768 * (grid0.coords t 1).val + r.val < 256
    omega
  have h0 : ∀ (q : Fin 6) (k : Fin 1024), (iblk m c 1 t : Vec Ideal S1x2x8x1024 .f32) (ix4 0 (if (grid0.coords t 1).val = 0 ∧ r.val < 256 then 0 else 1) (q.castLE (by decide)) k)
      = if (row t r).val < 256 then (m ((c : Thread nD τ).loc main_arg2) : FVec Ideal S6x1024 .f32) (ix2 q k) else (m ((c : Thread nD τ).loc main_arg1) : FVec Ideal S16x6x1024 .f32) (ix3 (batch t) q k) := by
    intro q k
    rw [block1, V_mods]
    by_cases h : (row t r).val < 256
    · rw [if_pos h, if_pos (hs.mpr h), if_pos rfl]
    · rw [if_neg h, if_neg (fun x => h (hs.mp x)), if_neg (by decide)]
  congr 1
  refine congr (congr (congr (congrArg modRow (funext fun k => h0 0 k)) (funext fun k => h0 1 k)) (funext fun k => ?_)) rfl
  exact block0 m c t r k

end Cert.InProj
-- ==== Proof.InProjValue.lean ====
module
public import proofs.«01_k».proof.Proof.InProjBlocks
@[expose] public section
set_option maxRecDepth 16384
noncomputable section
namespace Cert.InProj
open Idealize.ShloMosaic Idealize.ShloMosaic.TcCoe Idealize.SL.Sem
open Cert.Kernel4Ideal Cert.Kernel4Ideal.Gen Cert.Layer
variable (m : (ℓ : Loc nD τ sig) → Buf (Elt Ideal) ℓ)

/-- The permuted weights hold the columns of result 0 in their order. -/
theorem col_0 : ∀ j : Fin 1152, col ⟨j.val, by omega⟩ = InProjRef.col0 j := by decide +kernel

/-- Result 0: at a column, the entry of the projection that belongs there. -/
def G3 (c : Dev nD) : FVec Ideal S16x2304x1152 .bf16 := fun i =>
  InProjRef.entry (m ((c : Thread nD τ).loc main_arg0)) (m ((c : Thread nD τ).loc main_arg1)) (m ((c : Thread nD τ).loc main_arg2)) (m ((c : Thread nD τ).loc main_arg3))
    (i 0) (i 1) (InProjRef.col0 (i 2))

/-- What a grid point stores of result 0. -/
theorem point3 (c : Dev nD) (t : Fin cfg0.N) (r : Fin 768) (j : Fin 1152) : out0_3 (grid0.coords t) (iblk m c 0 t) (iblk m c 1 t) (iblk m c 2 t) (ix3 0 r j)
    = G3 m c (ix3 (batch t) (row t r) j) :=
  (out3_apply (grid0.coords t) (iblk m c 0 t) (iblk m c 1 t) (iblk m c 2 t) r j).trans ((tile_entry m c t r _).trans
    (congrArg (InProjRef.entry (m ((c : Thread nD τ).loc main_arg0)) (m ((c : Thread nD τ).loc main_arg1)) (m ((c : Thread nD τ).loc main_arg2)) (m ((c : Thread nD τ).loc main_arg3)) (batch t) (row t r)) (col_0 j)))

/-- What a grid point stores of result 0, at its place in the array. -/
theorem place3 (c : Dev nD) (t : Fin cfg0.N) (y : S1x768x1152.Idx) : out0_3 (grid0.coords t) (iblk m c 0 t) (iblk m c 1 t) (iblk m c 2 t) y
    = G3 m c (((cfg0.win 3).blk t).view.emb y) := by
  obtain ⟨r, j, rfl⟩ := unit_idx (a := 768) (b := 1152) y
  rw [point3]
  blk_ext [idx t]

/-- Result 0 after the run. -/
theorem final3 (c : Dev nD) : (dats m 0 c).arrAt 3 cfg0.N = G3 m c := by
  refine (dats m 0 c).arrAt_eq_of_covers 3 _ (by decide +kernel) fun t _ y => ?_
  have h := place3 m c t y
  blk_simp
  rw [after0_3]
  exact h

/-- The permuted weights hold the columns of result 1 in their order. -/
theorem col_1 : ∀ j : Fin 640, col ⟨1152 + j.val, by omega⟩ = InProjRef.col1 j := by decide +kernel

/-- Result 1: at a column, the entry of the projection that belongs there. -/
def G4 (c : Dev nD) : FVec Ideal S16x2304x640 .bf16 := fun i =>
  InProjRef.entry (m ((c : Thread nD τ).loc main_arg0)) (m ((c : Thread nD τ).loc main_arg1)) (m ((c : Thread nD τ).loc main_arg2)) (m ((c : Thread nD τ).loc main_arg3))
    (i 0) (i 1) (InProjRef.col1 (i 2))

/-- What a grid point stores of result 1. -/
theorem point4 (c : Dev nD) (t : Fin cfg0.N) (r : Fin 768) (j : Fin 640) : out0_4 (grid0.coords t) (iblk m c 0 t) (iblk m c 1 t) (iblk m c 2 t) (ix3 0 r j)
    = G4 m c (ix3 (batch t) (row t r) j) :=
  (out4_apply (grid0.coords t) (iblk m c 0 t) (iblk m c 1 t) (iblk m c 2 t) r j).trans ((tile_entry m c t r _).trans
    (congrArg (InProjRef.entry (m ((c : Thread nD τ).loc main_arg0)) (m ((c : Thread nD τ).loc main_arg1)) (m ((c : Thread nD τ).loc main_arg2)) (m ((c : Thread nD τ).loc main_arg3)) (batch t) (row t r)) (col_1 j)))

/-- What a grid point stores of result 1, at its place in the array. -/
theorem place4 (c : Dev nD) (t : Fin cfg0.N) (y : S1x768x640.Idx) : out0_4 (grid0.coords t) (iblk m c 0 t) (iblk m c 1 t) (iblk m c 2 t) y
    = G4 m c (((cfg0.win 4).blk t).view.emb y) := by
  obtain ⟨r, j, rfl⟩ := unit_idx (a := 768) (b := 640) y
  rw [point4]
  blk_ext [idx t]

/-- Result 1 after the run. -/
theorem final4 (c : Dev nD) : (dats m 0 c).arrAt 4 cfg0.N = G4 m c := by
  refine (dats m 0 c).arrAt_eq_of_covers 4 _ (by decide +kernel) fun t _ y => ?_
  have h := place4 m c t y
  blk_simp
  rw [after0_4]
  exact h

/-- The permuted weights hold the columns of result 2 in their order. -/
theorem col_2 : ∀ j : Fin 1280, col ⟨1792 + j.val, by omega⟩ = InProjRef.col2 j := by decide +kernel

/-- Result 2: at a column, the entry of the projection that belongs there. -/
def G5 (c : Dev nD) : FVec Ideal S16x2304x1280 .f32 := fun i =>
  InProjRef.entry (m ((c : Thread nD τ).loc main_arg0)) (m ((c : Thread nD τ).loc main_arg1)) (m ((c : Thread nD τ).loc main_arg2)) (m ((c : Thread nD τ).loc main_arg3))
    (i 0) (i 1) (InProjRef.col2 (i 2))

/-- What a grid point stores of result 2. -/
theorem point5 (c : Dev nD) (t : Fin cfg0.N) (r : Fin 768) (j : Fin 1280) : out0_5 (grid0.coords t) (iblk m c 0 t) (iblk m c 1 t) (iblk m c 2 t) (ix3 0 r j)
    = G5 m c (ix3 (batch t) (row t r) j) :=
  (out5_apply (grid0.coords t) (iblk m c 0 t) (iblk m c 1 t) (iblk m c 2 t) r j).trans ((tile_entry m c t r _).trans
    (congrArg (InProjRef.entry (m ((c : Thread nD τ).loc main_arg0)) (m ((c : Thread nD τ).loc main_arg1)) (m ((c : Thread nD τ).loc main_arg2)) (m ((c : Thread nD τ).loc main_arg3)) (batch t) (row t r)) (col_2 j)))

/-- What a grid point stores of result 2, at its place in the array. -/
theorem place5 (c : Dev nD) (t : Fin cfg0.N) (y : S1x768x1280.Idx) : out0_5 (grid0.coords t) (iblk m c 0 t) (iblk m c 1 t) (iblk m c 2 t) y
    = G5 m c (((cfg0.win 5).blk t).view.emb y) := by
  obtain ⟨r, j, rfl⟩ := unit_idx (a := 768) (b := 1280) y
  rw [point5]
  blk_ext [idx t]

/-- Result 2 after the run. -/
theorem final5 (c : Dev nD) : (dats m 0 c).arrAt 5 cfg0.N = G5 m c := by
  refine (dats m 0 c).arrAt_eq_of_covers 5 _ (by decide +kernel) fun t _ y => ?_
  have h := place5 m c t y
  blk_simp
  rw [after0_5]
  exact h
end Cert.InProj
-- ==== Proof.InProjClaim.lean ====
module
public import proofs.«01_k».proof.Defs
public import proofs.«01_k».proof.Proof.Gen.Kernel4
public import proofs.«01_k».proof.Proof.Gen.Kernel4Ideal
public import proofs.«01_k».proof.Proof.InProjValue
public import Idealize.ShloMosaic.Adequacy
public import Idealize.ShloMosaic.Init
@[expose] public section
set_option maxRecDepth 16384
noncomputable section
namespace Cert.InProjClaim
open Idealize.ShloMosaic Idealize.ShloMosaic.TcCoe Idealize.SL.Sem Cert.InProj

/- The claims about the input projection's call. -/

/-- Over the extended reals the input projection's call and the reference's end with the same three arrays. -/
theorem same : Cert.algebraic_Kernel4Ideal_Reference4Ideal (hKernel4Ideal := Cert.Kernel4Ideal.Gen.facts) (hReference4Ideal := Cert.Reference4Ideal.Gen.facts) := by
  intro m g m' g' _ hag
  refine ⟨fun c => G3 m c, fun c => G4 m c, fun c => G5 m c, ?_, ?_⟩
  · refine (θ_run Cert.Kernel4Ideal.defs _ _).mono (fun r h c => ?_) (Cert.Kernel4Ideal.Value.run_blocks m g)
    obtain ⟨h3, h4, h5, k0, k1, k2, k3⟩ := h c
    exact ⟨h3.trans (final3 m c), h4.trans (final4 m c), h5.trans (final5 m c), k0, k1, k2, k3⟩
  · refine (θ_run Cert.Reference4Ideal.defs _ _).mono (fun r h c => ?_) (Cert.Reference4Ideal.Value.run m' g')
    obtain ⟨h3, h4, h5, k0, k1, k2, k3⟩ := h c
    obtain ⟨a0, a1, a2, a3⟩ := hag c
    refine ⟨h3.trans ?_, h4.trans ?_, h5.trans ?_, k0, k1, k2, k3⟩
    · funext i
      obtain ⟨b, r, j, rfl⟩ : ∃ (b : Fin 16) (r : Fin 2304) (j : Fin 1152), i = ix3 b r j := ⟨i 0, i 1, i 2, by funext a; fin_cases a <;> rfl⟩
      rw [InProjRef.res84_apply, a0, a1, a2, a3]
      rfl
    · funext i
      obtain ⟨b, r, j, rfl⟩ : ∃ (b : Fin 16) (r : Fin 2304) (j : Fin 640), i = ix3 b r j := ⟨i 0, i 1, i 2, by funext a; fin_cases a <;> rfl⟩
      rw [InProjRef.res86_apply, a0, a1, a2, a3]
      rfl
    · funext i
      obtain ⟨b, r, j, rfl⟩ : ∃ (b : Fin 16) (r : Fin 2304) (j : Fin 1280), i = ix3 b r j := ⟨i 0, i 1, i 2, by funext a; fin_cases a <;> rfl⟩
      rw [InProjRef.res87_apply, a0, a1, a2, a3]
      rfl

/-- The reference's run leaves its arguments, and ends with every counter at zero. -/
theorem referenceFrame : Cert.quiescent_Reference4Ideal (hReference4Ideal := Cert.Reference4Ideal.Gen.facts) := by
  intro m g _
  exact (θ_run Cert.Reference4Ideal.defs _ _).mono (fun r h => ⟨fun c => (h c).2.2.2, sem_eq_zero_of_no_sems (by decide) r.2⟩)
    (Cert.Reference4Ideal.Value.run m g)

attribute [local instance] Cert.Kernel4.Gen.facts Cert.Kernel4Ideal.Gen.facts

/-- The kernel's body is one function at the machine's values. -/
theorem bodies : Cert.Kernel4.defs₀ (F := Bits) = Cert.Kernel4Ideal.defs₀ (F := Bits) :=
  congrArg Defs.onTc (funext fun l => funext fun a => match l, a with | 0, (_, _) => rfl)

/-- So are the definitions the two runs start from. -/
theorem definitions : Cert.Kernel4.defs (F := Bits) = Cert.Kernel4Ideal.defs (F := Bits) :=
  congrArg (Pipeline.defs Cert.Kernel4Ideal.pcfgs) bodies

/-- The frame of the program as printed: the idealized one has the same text, so the same run serves at the machine's values. -/
theorem frame : Cert.quiescent_Kernel4 (hKernel4 := Cert.Kernel4.Gen.facts) := by
  intro m g _
  rw [definitions]
  exact Cert.Kernel4Ideal.Gen.frame (F := Bits) m g

/-- The frame over the extended reals. -/
theorem frameIdeal : Cert.quiescent_Kernel4Ideal (hKernel4Ideal := Cert.Kernel4Ideal.Gen.facts) := by
  intro m g _
  exact Cert.Kernel4Ideal.Gen.frame (F := Ideal) m g

end Cert.InProjClaim
-- ==== Proof.ModRef.lean ====
/-
  The modulation vectors: what one of them is, and the reference's array of them.
-/
module

public import proofs.«01_k».proof.Proof.Gen.Reference5Ideal.Run
public import proofs.«01_k».proof.Proof.Layer
public import Idealize.ShloMosaic.Lib.Pipeline.ValueKit

@[expose] public section

set_option maxRecDepth 16384

noncomputable section

namespace Cert.ModRef

open Idealize.ShloMosaic Idealize.ShloMosaic.TcCoe Idealize.SL.Sem
open Cert.Reference5Ideal Cert.Reference5Ideal.Gen Cert.Reference5Ideal.Value Cert.Layer

/-- An entry of a modulation vector: the embedding through `silu`, times a column of the weights, with the bias. -/
def vec (s w : Fin 1024 → EReal) (b : EReal) : EReal := ∑ k : Fin 1024, s k * Ideal.logistic (s k) * w k + b

/-- Row `r` of the array of a layer: a latent batch's vector, the context's, or the bias where the array is filled up. -/
def entry (x0 : FVec Ideal S16x1024 .f32) (x1 : FVec Ideal S1024 .f32) (x2 : FVec Ideal S4x1024x6144 .f32) (x3 : FVec Ideal S4x6144 .f32) (l : Fin 4) (r : Fin 24) (j : Fin 6144) : EReal :=
  if h : r.val < 16 then vec (fun k => x0 (ix2 ⟨r.val, h⟩ k)) (fun k => x2 (ix3 l k j)) (x3 (ix2 l j))
  else if r.val - 16 < 1 then vec (fun k => x1 (ix1 k)) (fun k => x2 (ix3 l k j)) (x3 (ix2 l j)) else x3 (ix2 l j)

/-- The latent batches' vectors of a layer. -/
def lat (x : FVec Ideal S16x1024 .f32) (w : FVec Ideal S1024x6144 .f32) (b : FVec Ideal S6144 .f32) : FVec Ideal S16x6144 .f32 :=
  addf (Host.dotGeneral dot_S16x1024_S1024x6144_S16x6144_1_0_0_1_n_n none (mulf x (Host.divf (broadcastInDim S16x1024 ![] bcast_S_S16x1024 (constant S_ .f32 0x3F800000#32)) (addf (broadcastInDim S16x1024 ![] bcast_S_S16x1024 (constant S_ .f32 0x3F800000#32)) (Host.exp (Host.negf x))))) w)
    (broadcastInDim S16x6144 ![0, 1] bcast_S1x6144_S16x6144_0_1 (broadcastInDim S1x6144 ![1] bcast_S6144_S1x6144_1 b))

theorem lat_apply (x : FVec Ideal S16x1024 .f32) (w : FVec Ideal S1024x6144 .f32) (b : FVec Ideal S6144 .f32) (r : Fin 16) (j : Fin 6144) :
    lat x w b (ix2 r j) = vec (fun k => x (ix2 r k)) (fun k => w (ix2 k j)) (b (ix1 j)) := by
  pointwise [lat, vec]
  rfl

/-- The context's vector of a layer. -/
def ctx (x : FVec Ideal S1024 .f32) (w : FVec Ideal S1024x6144 .f32) (b : FVec Ideal S6144 .f32) : FVec Ideal S6144 .f32 :=
  addf (Host.dotGeneral dot_S1024_S1024x6144_S6144_0_0_n_1_n_n none (mulf x (Host.divf (broadcastInDim S1024 ![] bcast_S_S1024 (constant S_ .f32 0x3F800000#32)) (addf (broadcastInDim S1024 ![] bcast_S_S1024 (constant S_ .f32 0x3F800000#32)) (Host.exp (Host.negf x))))) w) b

theorem ctx_apply (x : FVec Ideal S1024 .f32) (w : FVec Ideal S1024x6144 .f32) (b : FVec Ideal S6144 .f32) (j : Fin 6144) :
    ctx x w b (ix1 j) = vec (fun k => x (ix1 k)) (fun k => w (ix2 k j)) (b (ix1 j)) := by
  pointwise [ctx, vec]
  rfl

/-- A layer's array: the latent batches' vectors, the context's, and the filling. -/
def stack (u : FVec Ideal S16x6144 .f32) (v b : FVec Ideal S6144 .f32) : FVec Ideal S1x24x6144 .f32 :=
  broadcastInDim S1x24x6144 ![1, 2] bcast_S24x6144_S1x24x6144_1_2 (concatenate S24x6144 0 [⟨S16x6144, u⟩, ⟨S1x6144, broadcastInDim S1x6144 ![1] bcast_S6144_S1x6144_1 v⟩,
    ⟨S7x6144, broadcastInDim S7x6144 ![1] bcast_S6144_S7x6144_1 b⟩] concatenates_S16x6144_S1x6144_S7x6144_S24x6144_d0)

theorem stack_apply (u : FVec Ideal S16x6144 .f32) (v b : FVec Ideal S6144 .f32) (r : Fin 24) (j : Fin 6144) :
    stack u v b (ix3 0 r j) = if h : r.val < 16 then u (ix2 ⟨r.val, h⟩ j) else if r.val - 16 < 1 then v (ix1 j) else b (ix1 j) := by
  pointwise [stack]
  split_ifs <;> rfl

/-- The weights of a layer. -/
def weights (x : FVec Ideal S4x1024x6144 .f32) (l : Fin 4) (h : S4x1024x6144.Slices ![l.val, 0, 0] S1x1024x6144) : FVec Ideal S1024x6144 .f32 :=
  shapeCast _ (extractStridedSlice S1x1024x6144 ![l.val, 0, 0] x h) shapeCasts_S1x1024x6144_S1024x6144

theorem weights_apply (x : FVec Ideal S4x1024x6144 .f32) (l : Fin 4) (h : S4x1024x6144.Slices ![l.val, 0, 0] S1x1024x6144) (k : Fin 1024) (j : Fin 6144) :
    weights x l h (ix2 k j) = x (ix3 l k j) := by
  pointwise [weights]

/-- The bias of a layer. -/
def bias (x : FVec Ideal S4x6144 .f32) (l : Fin 4) (h : S4x6144.Slices ![l.val, 0] S1x6144) : FVec Ideal S6144 .f32 :=
  shapeCast _ (extractStridedSlice S1x6144 ![l.val, 0] x h) shapeCasts_S1x6144_S6144

theorem bias_apply (x : FVec Ideal S4x6144 .f32) (l : Fin 4) (h : S4x6144.Slices ![l.val, 0] S1x6144) (j : Fin 6144) : bias x l h (ix1 j) = x (ix2 l j) := by
  pointwise [bias]

/-- The array of a layer. -/
def layer (x0 : FVec Ideal S16x1024 .f32) (x1 : FVec Ideal S1024 .f32) (x2 : FVec Ideal S4x1024x6144 .f32) (x3 : FVec Ideal S4x6144 .f32) (l : Fin 4)
    (h : S4x1024x6144.Slices ![l.val, 0, 0] S1x1024x6144) (g : S4x6144.Slices ![l.val, 0] S1x6144) : FVec Ideal S1x24x6144 .f32 :=
  stack (lat x0 (weights x2 l h) (bias x3 l g)) (ctx x1 (weights x2 l h) (bias x3 l g)) (bias x3 l g)

theorem layer_apply (x0 : FVec Ideal S16x1024 .f32) (x1 : FVec Ideal S1024 .f32) (x2 : FVec Ideal S4x1024x6144 .f32) (x3 : FVec Ideal S4x6144 .f32) (l : Fin 4)
    (h : S4x1024x6144.Slices ![l.val, 0, 0] S1x1024x6144) (g : S4x6144.Slices ![l.val, 0] S1x6144) (r : Fin 24) (j : Fin 6144) :
    layer x0 x1 x2 x3 l h g (ix3 0 r j) = entry x0 x1 x2 x3 l r j := by
  unfold layer entry
  rw [stack_apply]
  simp only [lat_apply, ctx_apply, bias_apply, weights_apply]

/-- Four arrays, one after the other. -/
def join (y0 y1 y2 y3 : FVec Ideal S1x24x6144 .f32) : FVec Ideal S4x24x6144 .f32 :=
  concatenate S4x24x6144 0 [⟨S1x24x6144, y0⟩, ⟨S1x24x6144, y1⟩, ⟨S1x24x6144, y2⟩, ⟨S1x24x6144, y3⟩] concatenates_S1x24x6144_S1x24x6144_S1x24x6144_S1x24x6144_S4x24x6144_d0

theorem join_apply (y0 y1 y2 y3 : FVec Ideal S1x24x6144 .f32) (l : Fin 4) (r : Fin 24) (j : Fin 6144) :
    join y0 y1 y2 y3 (ix3 l r j) = (match l with | 0 => y0 | 1 => y1 | 2 => y2 | 3 => y3) (ix3 0 r j) := by
  fin_cases l <;> pointwise [join]

variable (m : (ℓ : Loc nD τ sig) → Buf (Elt Ideal) ℓ)

/-- The reference's result, layer by layer. -/
theorem result_eq (c : Dev nD) : res_main_v82 m c = join
    (layer (m ((c.tc : Thread nD τ).loc main_arg0)) (m ((c.tc : Thread nD τ).loc main_arg1)) (m ((c.tc : Thread nD τ).loc main_arg2)) (m ((c.tc : Thread nD τ).loc main_arg3)) 0 slices_S4x1024x6144_S1x1024x6144_0_0_0 slices_S4x6144_S1x6144_0_0)
    (layer (m ((c.tc : Thread nD τ).loc main_arg0)) (m ((c.tc : Thread nD τ).loc main_arg1)) (m ((c.tc : Thread nD τ).loc main_arg2)) (m ((c.tc : Thread nD τ).loc main_arg3)) 1 slices_S4x1024x6144_S1x1024x6144_1_0_0 slices_S4x6144_S1x6144_1_0)
    (layer (m ((c.tc : Thread nD τ).loc main_arg0)) (m ((c.tc : Thread nD τ).loc main_arg1)) (m ((c.tc : Thread nD τ).loc main_arg2)) (m ((c.tc : Thread nD τ).loc main_arg3)) 2 slices_S4x1024x6144_S1x1024x6144_2_0_0 slices_S4x6144_S1x6144_2_0)
    (layer (m ((c.tc : Thread nD τ).loc main_arg0)) (m ((c.tc : Thread nD τ).loc main_arg1)) (m ((c.tc : Thread nD τ).loc main_arg2)) (m ((c.tc : Thread nD τ).loc main_arg3)) 3 slices_S4x1024x6144_S1x1024x6144_3_0_0 slices_S4x6144_S1x6144_3_0) := rfl

/-- The reference's result at an index. -/
theorem result_apply (c : Dev nD) (l : Fin 4) (r : Fin 24) (j : Fin 6144) : (res_main_v82 m c : FVec Ideal S4x24x6144 .f32) (ix3 l r j)
    = entry (m ((c.tc : Thread nD τ).loc main_arg0)) (m ((c.tc : Thread nD τ).loc main_arg1)) (m ((c.tc : Thread nD τ).loc main_arg2)) (m ((c.tc : Thread nD τ).loc main_arg3)) l r j := by
  rw [result_eq, join_apply]
  fin_cases l <;> exact layer_apply _ _ _ _ _ _ _ r j

end Cert.ModRef
-- ==== Proof.ModValue.lean ====
/-
  The modulation's call: what a grid point stores, and the array after the run.
-/
module

public import proofs.«01_k».proof.Proof.Gen.Kernel5Ideal.Value
public import proofs.«01_k».proof.Proof.ModRef

@[expose] public section

set_option maxRecDepth 16384

noncomputable section

namespace Cert.Mod

open Idealize.ShloMosaic Idealize.ShloMosaic.TcCoe Idealize.SL.Sem
open Cert.Kernel5Ideal Cert.Kernel5Ideal.Gen Cert.Layer
open Cert.ModRef (vec)

/-- What a grid point computes from its blocks. -/
theorem out_apply (x0 : Vec Ideal S24x1024 .f32) (x1 : Vec Ideal S1x1024x1536 .f32) (x2 : Vec Ideal S1x1x1536 .f32) (r : Fin 24) (j : Fin 1536) :
    out0_3 x0 x1 x2 (ix3 0 r j) = vec (fun k => x0 (ix2 r k)) (fun k => x1 (ix3 0 k j)) (x2 (ix3 0 0 j)) := by
  unfold out0_3
  rw [View.canon_cons_unit_lit _ _ _ (by decide)]
  repeat rw [View.ld_unit_lit _ _ (by decide)]
  pointwise [k0_pay1, vec]

/-- The blocks of a grid point: all embeddings, and a layer's columns. -/
theorem idx : ∀ t : Fin cfg0.N, win0_0.index t = ![0, 0] ∧ win0_1.index t = ![(grid0.coords t 0).val, 0, (grid0.coords t 1).val]
    ∧ win0_2.index t = ![(grid0.coords t 0).val, 0, (grid0.coords t 1).val] ∧ win0_3.index t = ![(grid0.coords t 0).val, 0, (grid0.coords t 1).val] :=
  (by decide +kernel : ∀ t : Fin grid0.N, _)

/-- The layer of a grid point. -/
abbrev lay (t : Fin cfg0.N) : Fin 4 := ⟨((grid0.coords t) 0).val, ((grid0.coords t) 0).isLt⟩

/-- The column of the arrays at which column `j` of a grid point's block lies. -/
abbrev column (t : Fin cfg0.N) (j : Fin 1536) : Fin 6144 :=
  ⟨1536 * ((grid0.coords t) 1).val + j.val, by have : ((grid0.coords t) 1).val < 4 := ((grid0.coords t) 1).isLt; omega⟩

variable (m : (ℓ : Loc nD τ sig) → Buf (Elt Ideal) ℓ)

/-- The batches' embeddings, the context's, and further rows, one after the other. -/
def rowsOf (x : FVec Ideal S16x1024 .f32) (y : FVec Ideal S1x1024 .f32) (z : FVec Ideal S7x1024 .f32) : FVec Ideal S24x1024 .f32 :=
  concatenate S24x1024 0 [⟨S16x1024, x⟩, ⟨S1x1024, y⟩, ⟨S7x1024, z⟩] concatenates_S16x1024_S1x1024_S7x1024_S24x1024_d0

/-- The operations before the call, with the concatenation named. -/
theorem ops_eq : (hostOps0 : List (HloOp τ sig (Elt Ideal))) =
  [ StableHlo.unary main_arg1 main_v0 (broadcastInDim S1x1024 ![1] bcast_S1024_S1x1024_1 : (⟨S1024, .f32⟩ : BufTy).Contents (Elt Ideal) → (⟨S1x1024, .f32⟩ : BufTy).Contents (Elt Ideal)),
    StableHlo.nullary main_cst (constant (F := Ideal) S_ .f32 0x00000000#32),
    StableHlo.unary main_cst main_v1 (broadcastInDim S7x1024 ![] bcast_S_S7x1024 : (⟨S_, .f32⟩ : BufTy).Contents (Elt Ideal) → (⟨S7x1024, .f32⟩ : BufTy).Contents (Elt Ideal)),
    StableHlo.nary ![main_arg0, main_v0, main_v1] main_v2 (fun u => rowsOf (u 0) (u 1) (u 2)),
    StableHlo.reshape main_arg3 main_v3 (rfl : (.f32 : EltTy) = .f32) shapeCasts_S4x6144_S4x1x6144 ] := rfl

theorem V_rows_eq (c : Dev nD) : V m c main_v2 = rowsOf (m ((c : Thread nD τ).loc main_arg0))
    (broadcastInDim S1x1024 ![1] bcast_S1024_S1x1024_1 (m ((c : Thread nD τ).loc main_arg1) : FVec Ideal S1024 .f32)) (broadcastInDim S7x1024 ![] bcast_S_S7x1024 (constant (F := Ideal) S_ .f32 0x00000000#32)) := by
  simp only [V]
  rw [ops_eq]
  after_results_simp
  rfl

/-- The embeddings before the call: the batches', the context's, and zeros. -/
theorem V_rows (c : Dev nD) (r : Fin 24) (k : Fin 1024) : (V m c main_v2 : FVec Ideal S24x1024 .f32) (ix2 r k)
    = if h : r.val < 16 then ((m ((c : Thread nD τ).loc main_arg0)) : FVec Ideal S16x1024 .f32) (ix2 ⟨r.val, h⟩ k)
      else if r.val - 16 < 1 then ((m ((c : Thread nD τ).loc main_arg1)) : FVec Ideal S1024 .f32) (ix1 k) else (0 : EReal) := by
  rw [V_rows_eq]
  pointwise [rowsOf]
  split_ifs <;> rfl

/-- The biases before the call. -/
theorem V_bias (c : Dev nD) (l : Fin 4) (j : Fin 6144) : (V m c main_v3 : FVec Ideal S4x1x6144 .f32) (ix3 l 0 j) = ((m ((c : Thread nD τ).loc main_arg3)) : FVec Ideal S4x6144 .f32) (ix2 l j) := by
  simp only [V, hostOps0, List.flatten_cons, List.flatten_nil, List.append_nil, List.cons_append, List.nil_append]
  after_results
  simp only [StableHlo.TRef.toBuf, StableHlo.TRef.ofBuf, cast_eq]
  pointwise

theorem block0 (c : Dev nD) (t : Fin cfg0.N) (r : Fin 24) (k : Fin 1024) : (iblk m c 0 t : Vec Ideal S24x1024 .f32) (ix2 r k)
    = (V m c main_v2 : FVec Ideal S24x1024 .f32) (ix2 r k) := by
  blk_ext [iblk, idx t]

theorem block1 (c : Dev nD) (t : Fin cfg0.N) (k : Fin 1024) (j : Fin 1536) : (iblk m c 1 t : Vec Ideal S1x1024x1536 .f32) (ix3 0 k j)
    = ((m ((c : Thread nD τ).loc main_arg2)) : FVec Ideal S4x1024x6144 .f32) (ix3 (lay t) k (column t j)) := by
  blk_ext [iblk, V, idx t]

theorem block2 (c : Dev nD) (t : Fin cfg0.N) (j : Fin 1536) : (iblk m c 2 t : Vec Ideal S1x1x1536 .f32) (ix3 0 0 j)
    = ((m ((c : Thread nD τ).loc main_arg3)) : FVec Ideal S4x6144 .f32) (ix2 (lay t) (column t j)) := by
  refine Eq.trans ?_ (V_bias m c (lay t) (column t j))
  blk_ext [iblk, idx t]

/-- The array of all layers. -/
def G (c : Dev nD) : FVec Ideal S4x24x6144 .f32 := fun i =>
  ModRef.entry (m ((c : Thread nD τ).loc main_arg0)) (m ((c : Thread nD τ).loc main_arg1)) (m ((c : Thread nD τ).loc main_arg2)) (m ((c : Thread nD τ).loc main_arg3)) (i 0) (i 1) (i 2)

/-- Where the embedding is zero, the bias alone is left. -/
theorem vec_zero (w : Fin 1024 → EReal) (b : EReal) : vec (fun _ => 0) w b = b := by
  unfold vec
  simp only [zero_mul, Finset.sum_const_zero, zero_add]

/-- What a grid point stores. -/
theorem point (c : Dev nD) (t : Fin cfg0.N) (r : Fin 24) (j : Fin 1536) : out0_3 (iblk m c 0 t) (iblk m c 1 t) (iblk m c 2 t) (ix3 0 r j) = G m c (ix3 (lay t) r (column t j)) := by
  rw [out_apply]
  show _ = ModRef.entry (m ((c : Thread nD τ).loc main_arg0)) (m ((c : Thread nD τ).loc main_arg1)) (m ((c : Thread nD τ).loc main_arg2)) (m ((c : Thread nD τ).loc main_arg3)) (lay t) r (column t j)
  unfold ModRef.entry
  simp only [block0, block1, block2]
  by_cases h : r.val < 16
  · rw [dif_pos h]
    exact congrArg (fun s => vec s _ _) (funext fun k => (V_rows m c r k).trans (dif_pos h))
  · rw [dif_neg h]
    by_cases h1 : r.val - 16 < 1
    · rw [if_pos h1]
      exact congrArg (fun s => vec s _ _) (funext fun k => ((V_rows m c r k).trans (dif_neg h)).trans (if_pos h1))
    · rw [if_neg h1]
      exact (congrArg (fun s => vec s _ _) (funext fun k => ((V_rows m c r k).trans (dif_neg h)).trans (if_neg h1))).trans (vec_zero _ _)

/-- What a grid point stores, at its place in the array. -/
theorem place (c : Dev nD) (t : Fin cfg0.N) (y : S1x24x1536.Idx) : out0_3 (iblk m c 0 t) (iblk m c 1 t) (iblk m c 2 t) y = G m c (((cfg0.win 3).blk t).view.emb y) := by
  obtain ⟨r, j, rfl⟩ := unit_idx (a := 24) (b := 1536) y
  rw [point]
  blk_ext [idx t]

/-- The array after the run. -/
theorem final (c : Dev nD) : (dats m 0 c).arrAt 3 cfg0.N = G m c := by
  refine (dats m 0 c).arrAt_eq_of_covers 3 _ (by decide +kernel) fun t _ y => ?_
  have h := place m c t y
  blk_simp
  rw [after0_3]
  exact h

end Cert.Mod
-- ==== Proof.ModClaim.lean ====
module
public import proofs.«01_k».proof.Defs
public import proofs.«01_k».proof.Proof.Gen.Kernel5
public import proofs.«01_k».proof.Proof.Gen.Kernel5Ideal
public import proofs.«01_k».proof.Proof.ModValue
public import Idealize.ShloMosaic.Adequacy
public import Idealize.ShloMosaic.Init
@[expose] public section
set_option maxRecDepth 16384
noncomputable section
namespace Cert.ModClaim
open Idealize.ShloMosaic Idealize.ShloMosaic.TcCoe Idealize.SL.Sem Cert.Mod

/- The claims about the modulation's call. -/

/-- Over the extended reals the modulation's call and the reference end with the same array. -/
theorem same : Cert.algebraic_Kernel5Ideal_Reference5Ideal (hKernel5Ideal := Cert.Kernel5Ideal.Gen.facts) (hReference5Ideal := Cert.Reference5Ideal.Gen.facts) := by
  intro m g m' g' _ hag
  refine ⟨fun c => G m c, ?_, ?_⟩
  · refine (θ_run Cert.Kernel5Ideal.defs _ _).mono (fun r h c => ?_) (Cert.Kernel5Ideal.Value.run_blocks m g)
    obtain ⟨h3, k⟩ := h c
    exact ⟨h3.trans (final m c), k⟩
  · refine (θ_run Cert.Reference5Ideal.defs _ _).mono (fun r h c => ?_) (Cert.Reference5Ideal.Value.run m' g')
    obtain ⟨h3, k⟩ := h c
    obtain ⟨a0, a1, a2, a3⟩ := hag c
    refine ⟨h3.trans ?_, k⟩
    funext i
    obtain ⟨l, r, j, rfl⟩ : ∃ (l : Fin 4) (r : Fin 24) (j : Fin 6144), i = ix3 l r j := ⟨i 0, i 1, i 2, by funext a; fin_cases a <;> rfl⟩
    rw [ModRef.result_apply, a0, a1, a2, a3]
    rfl

/-- The reference's run leaves its arguments, and ends with every counter at zero. -/
theorem referenceFrame : Cert.quiescent_Reference5Ideal (hReference5Ideal := Cert.Reference5Ideal.Gen.facts) := by
  intro m g _
  exact (θ_run Cert.Reference5Ideal.defs _ _).mono (fun r h => ⟨fun c => (h c).2, sem_eq_zero_of_no_sems (by decide) r.2⟩)
    (Cert.Reference5Ideal.Value.run m g)

attribute [local instance] Cert.Kernel5.Gen.facts Cert.Kernel5Ideal.Gen.facts

/-- The kernel's body is one function at the machine's values. -/
theorem bodies : Cert.Kernel5.defs₀ (F := Bits) = Cert.Kernel5Ideal.defs₀ (F := Bits) :=
  congrArg Defs.onTc (funext fun l => funext fun a => match l, a with | 0, (_, _) => rfl)

/-- So are the definitions the two runs start from. -/
theorem definitions : Cert.Kernel5.defs (F := Bits) = Cert.Kernel5Ideal.defs (F := Bits) :=
  congrArg (Pipeline.defs Cert.Kernel5Ideal.pcfgs) bodies

/-- The frame of the program as printed: the idealized one has the same text, so the same run serves at the machine's values. -/
theorem frame : Cert.quiescent_Kernel5 (hKernel5 := Cert.Kernel5.Gen.facts) := by
  intro m g _
  rw [definitions]
  exact Cert.Kernel5Ideal.Gen.frame (F := Bits) m g

/-- The frame over the extended reals. -/
theorem frameIdeal : Cert.quiescent_Kernel5Ideal (hKernel5Ideal := Cert.Kernel5Ideal.Gen.facts) := by
  intro m g _
  exact Cert.Kernel5Ideal.Gen.frame (F := Ideal) m g

end Cert.ModClaim
-- ==== Proof.BoundRef.lean ====
/-
  The lower bounds of mixer C's gates: what one of them is, and the reference's array of them.
-/
module

public import proofs.«01_k».proof.Proof.Gen.Reference6Ideal.Run
public import proofs.«01_k».proof.Proof.Layer
public import Idealize.ShloMosaic.Lib.Pipeline.ValueKit

@[expose] public section

set_option maxRecDepth 16384

noncomputable section

namespace Cert.BoundRef

open Idealize.ShloMosaic Idealize.ShloMosaic.TcCoe Idealize.SL.Sem
open Cert.Reference6Ideal Cert.Reference6Ideal.Gen Cert.Reference6Ideal.Value Cert.Layer

/-- The softmax over the layers, with the largest entry subtracted first. -/
def soft (x : FVec Ideal S4x2x256 .f32) : FVec Ideal S4x2x256 .f32 :=
  Host.divf (Host.exp (subf x (broadcastInDim S4x2x256 ![0, 1, 2] bcast_S1x2x256_S4x2x256_0_1_2 (broadcastInDim S1x2x256 ![1, 2] bcast_S2x256_S1x2x256_1_2 (maximumf (broadcastInDim S2x256 ![] bcast_S_S2x256 (constant S_ .f32 0xFF800000#32)) (Host.reduce FloatOps.maximumf x (constant S_ .f32 0xFF800000#32) reducesTo_S4x2x256_S2x256_d0 h_S_))))))
    (broadcastInDim S4x2x256 ![0, 1, 2] bcast_S1x2x256_S4x2x256_0_1_2 (broadcastInDim S1x2x256 ![1, 2] bcast_S2x256_S1x2x256_1_2 (Host.reduceAdd (Host.exp (subf x (broadcastInDim S4x2x256 ![0, 1, 2] bcast_S1x2x256_S4x2x256_0_1_2 (broadcastInDim S1x2x256 ![1, 2] bcast_S2x256_S1x2x256_1_2 (maximumf (broadcastInDim S2x256 ![] bcast_S_S2x256 (constant S_ .f32 0xFF800000#32)) (Host.reduce FloatOps.maximumf x (constant S_ .f32 0xFF800000#32) reducesTo_S4x2x256_S2x256_d0 h_S_)))))) (constant S_ .f32 0x00000000#32) reducesTo_S4x2x256_S2x256_d0 h_S_)))

/-- The largest entry of a column, and an entry of its softmax. -/
def top (p : Fin 4 → EReal) : EReal := Finset.fold max (Ideal.ofBits FTy.f32 0xFF800000#32) p Finset.univ

def softAt (p : Fin 4 → EReal) (l : Fin 4) : EReal := Ideal.div (Ideal.exp (p l - top p)) (∑ i, Ideal.exp (p i - top p))

theorem max_top (p : Fin 4 → EReal) : max (Ideal.ofBits FTy.f32 0xFF800000#32) (top p) = top p :=
  max_eq_right ((Finset.le_fold_max _).2 (Or.inl le_rfl))

theorem soft_apply (x : FVec Ideal S4x2x256 .f32) (l : Fin 4) (a : Fin 2) (j : Fin 256) : soft x (ix3 l a j) = softAt (fun l => x (ix3 l a j)) l := by
  have h := max_top (fun l => x (ix3 l a j))
  unfold top at h
  pointwise [soft]
  simp only [h]
  rfl

/-- The entries of a window of four that ends at a layer: the layers up to it, zeros before them. -/
theorem window_at : ∀ n : Fin (⟨3, ![4, 1, 1]⟩ : Shape).numel, ((⟨3, ![4, 1, 1]⟩ : Shape).rowMajor.symm n 0).val = n.val
    ∧ ((⟨3, ![4, 1, 1]⟩ : Shape).rowMajor.symm n 1).val = 0 ∧ ((⟨3, ![4, 1, 1]⟩ : Shape).rowMajor.symm n 2).val = 0 := by
  decide

def term (s : Fin 4 → EReal) (l : Fin 4) (n : ℕ) : EReal := if h : 3 ≤ l.val + n ∧ n < 4 then s ⟨l.val + n - 3, by omega⟩ else 0

/-- The running sum over the layers. -/
theorem running_apply (s : FVec Ideal S4x2x256 .f32) (z : FVec Ideal S_ .f32) (hz : ∀ i, z i = 0) (h : S4x2x256.ReduceWindows ![4, 1, 1] ![1, 1, 1] ![3, 0, 0] ![0, 0, 0] S4x2x256)
    (hu : 0 < S_.numel) (l : Fin 4) (a : Fin 2) (j : Fin 256) :
    Host.reduceWindowAdd (F := Ideal) (φ := .f32) ![4, 1, 1] ![1, 1, 1] ![3, 0, 0] ![0, 0, 0] s z h hu (ix3 l a j) = ∑ i : Fin 4, if i ≤ l then s (ix3 i a j) else 0 := by
  have key : Host.reduceWindowAdd (F := Ideal) (φ := .f32) ![4, 1, 1] ![1, 1, 1] ![3, 0, 0] ![0, 0, 0] s z h hu (ix3 l a j)
      = (List.finRange (⟨3, ![4, 1, 1]⟩ : Shape).numel).foldl (fun r n => r + term (fun i => s (ix3 i a j)) l n.val) 0 := by
    show Host.reduceWindow (· + ·) _ _ _ _ s z h hu (ix3 l a j) = _
    unfold Host.reduceWindow
    dsimp only
    rw [hz]
    refine congrArg (fun f => List.foldl f (0 : EReal) _) (funext fun r => funext fun n => congrArg (r + ·) ?_)
    obtain ⟨h0, h1, h2⟩ := window_at n
    have hn : n.val < 4 := n.isLt
    unfold term
    by_cases hc : 3 ≤ l.val + n.val
    · rw [dif_pos (show 3 ≤ l.val + n.val ∧ n.val < 4 from ⟨hc, hn⟩), dif_pos]
      · refine congrArg s (funext fun b => Fin.ext ?_)
        match b with
        | ⟨0, _⟩ =>
          show l.val * 1 + ((⟨3, ![4, 1, 1]⟩ : Shape).rowMajor.symm n 0).val - 3 = l.val + n.val - 3
          omega
        | ⟨1, _⟩ =>
          show a.val * 1 + ((⟨3, ![4, 1, 1]⟩ : Shape).rowMajor.symm n 1).val - 0 = a.val
          omega
        | ⟨2, _⟩ =>
          show j.val * 1 + ((⟨3, ![4, 1, 1]⟩ : Shape).rowMajor.symm n 2).val - 0 = j.val
          omega
      · intro b
        match b with
        | ⟨0, _⟩ =>
          show 3 ≤ l.val * 1 + ((⟨3, ![4, 1, 1]⟩ : Shape).rowMajor.symm n 0).val ∧ l.val * 1 + ((⟨3, ![4, 1, 1]⟩ : Shape).rowMajor.symm n 0).val - 3 < 4
          omega
        | ⟨1, _⟩ =>
          show 0 ≤ a.val * 1 + ((⟨3, ![4, 1, 1]⟩ : Shape).rowMajor.symm n 1).val ∧ a.val * 1 + ((⟨3, ![4, 1, 1]⟩ : Shape).rowMajor.symm n 1).val - 0 < 2
          omega
        | ⟨2, _⟩ =>
          show 0 ≤ j.val * 1 + ((⟨3, ![4, 1, 1]⟩ : Shape).rowMajor.symm n 2).val ∧ j.val * 1 + ((⟨3, ![4, 1, 1]⟩ : Shape).rowMajor.symm n 2).val - 0 < 256
          omega
    · rw [dif_neg (show ¬ (3 ≤ l.val + n.val ∧ n.val < 4) from fun q => hc q.1), dif_neg]
      intro q
      have q0 : 3 ≤ l.val * 1 + ((⟨3, ![4, 1, 1]⟩ : Shape).rowMajor.symm n 0).val := (q 0).1
      omega
  rw [key, show List.finRange (⟨3, ![4, 1, 1]⟩ : Shape).numel = [⟨0, by decide⟩, ⟨1, by decide⟩, ⟨2, by decide⟩, ⟨3, by decide⟩] from by decide]
  simp only [List.foldl_cons, List.foldl_nil, Fin.sum_univ_four]
  fin_cases l <;> simp [term]

/-- The running sums over the layers, less the first layer's entry, in rows. -/
def sums (s : FVec Ideal S4x2x256 .f32) : FVec Ideal S4x512 .f32 :=
  shapeCast _ (subf (Host.reduceWindowAdd ![4, 1, 1] ![1, 1, 1] ![3, 0, 0] ![0, 0, 0] s (broadcastInDim S_ ![] bcast_S_S_ (constant S_ .f32 0x00000000#32)) reduceWindows_S4x2x256_S4x2x256_w4s1p3_0_w1s1p0_0_w1s1p0_0 h_S_)
    (broadcastInDim S4x2x256 ![0, 1, 2] bcast_S1x2x256_S4x2x256_0_1_2 (broadcastInDim S1x2x256 ![1, 2] bcast_S2x256_S1x2x256_1_2 (shapeCast _ (extractStridedSlice S1x2x256 ![0, 0, 0] s slices_S4x2x256_S1x2x256_0_0_0) shapeCasts_S1x2x256_S2x256)))) shapeCasts_S4x2x256_S4x512

/-- A lower bound: the softmax's entries up to a layer, less the first one. -/
def bound (s : Fin 4 → EReal) (l : Fin 4) : EReal := (∑ i : Fin 4, if i ≤ l then s i else 0) - s 0

theorem sums_apply (s : FVec Ideal S4x2x256 .f32) (l : Fin 4) (j : Fin 512) :
    sums s (ix2 l j) = bound (fun i => s (ix3 i ⟨j.val / 256, by omega⟩ ⟨j.val % 256, by omega⟩)) l := by
  pointwise [sums]
  rw [running_apply s _ (fun i => by pointwise)]
  rfl

/-- The reference's array. -/
def entry (x : FVec Ideal S4x2x256 .f32) (l : Fin 4) (j : Fin 512) : EReal :=
  bound (softAt (fun i => x (ix3 i ⟨j.val / 256, by omega⟩ ⟨j.val % 256, by omega⟩))) l

theorem result_apply (x : FVec Ideal S4x2x256 .f32) (l : Fin 4) (j : Fin 512) : sums (soft x) (ix2 l j) = entry x l j := by
  rw [sums_apply]
  simp only [soft_apply]
  rfl

end Cert.BoundRef
-- ==== Proof.BoundValue.lean ====
/-
  The call that makes the lower bounds: what it stores, and the array after the run.
-/
module

public import proofs.«01_k».proof.Proof.Gen.Kernel6Ideal.Value
public import proofs.«01_k».proof.Proof.BoundRef

@[expose] public section

set_option maxRecDepth 16384

noncomputable section

namespace Cert.Bound

open Idealize.ShloMosaic Idealize.ShloMosaic.TcCoe Idealize.SL.Sem
open Cert.Kernel6Ideal Cert.Kernel6Ideal.Gen Cert.Layer
open Cert.BoundRef (bound softAt top)

/-- What the call computes from its one block. -/
theorem pay_apply (x : Vec Ideal S4x512 .f32) (l : Fin 4) (j : Fin 512) : k0_pay1 (F := Ideal) x (ix2 l j) = bound (softAt (fun i => x (ix2 i j))) l := by
  pointwise [k0_pay1]
  unfold bound
  fin_cases l <;> simp [softAt, top, Fin.sum_univ_four]

theorem out_apply (x : Vec Ideal S4x512 .f32) (l : Fin 4) (j : Fin 512) : out0_1 x (ix2 l j) = bound (softAt (fun i => x (ix2 i j))) l := by
  unfold out0_1
  rw [View.canon_cons_unit_lit _ _ _ (by decide)]
  repeat rw [View.ld_unit_lit _ _ (by decide)]
  exact pay_apply x l j

/-- The call has one grid point, and its blocks are the arrays. -/
theorem idx : ∀ t : Fin cfg0.N, win0_0.index t = ![0, 0] ∧ win0_1.index t = ![0, 0] :=
  (by decide +kernel : ∀ t : Fin grid0.N, _)

variable (m : (ℓ : Loc nD τ sig) → Buf (Elt Ideal) ℓ)

/-- The parameters before the call, in rows. -/
theorem V_rows (c : Dev nD) (l : Fin 4) (j : Fin 512) : (V m c main_v0 : FVec Ideal S4x512 .f32) (ix2 l j)
    = ((m ((c : Thread nD τ).loc main_arg0)) : FVec Ideal S4x2x256 .f32) (ix3 l ⟨j.val / 256, by omega⟩ ⟨j.val % 256, by omega⟩) := by
  simp only [V, hostOps0, List.flatten_cons, List.flatten_nil, List.append_nil, List.cons_append, List.nil_append]
  after_results
  simp only [StableHlo.TRef.toBuf, StableHlo.TRef.ofBuf, cast_eq]
  pointwise

theorem block0 (c : Dev nD) (t : Fin cfg0.N) (l : Fin 4) (j : Fin 512) : (iblk m c 0 t : Vec Ideal S4x512 .f32) (ix2 l j)
    = ((m ((c : Thread nD τ).loc main_arg0)) : FVec Ideal S4x2x256 .f32) (ix3 l ⟨j.val / 256, by omega⟩ ⟨j.val % 256, by omega⟩) := by
  refine Eq.trans ?_ (V_rows m c l j)
  blk_ext [iblk, idx t]

/-- The array of lower bounds. -/
def G (c : Dev nD) : FVec Ideal S4x512 .f32 := fun i => BoundRef.entry (m ((c : Thread nD τ).loc main_arg0)) (i 0) (i 1)

/-- What the call stores, at its place in the array. -/
theorem place (c : Dev nD) (t : Fin cfg0.N) (y : S4x512.Idx) : out0_1 (iblk m c 0 t) y = G m c (((cfg0.win 1).blk t).view.emb y) := by
  obtain ⟨l, j, rfl⟩ : ∃ (l : Fin 4) (j : Fin 512), y = ix2 l j := ⟨y 0, y 1, by funext a; fin_cases a <;> rfl⟩
  rw [out_apply]
  simp only [block0]
  show G m c (ix2 l j) = _
  blk_ext [idx t]

/-- The array after the run. -/
theorem final (c : Dev nD) : (dats m 0 c).arrAt 1 cfg0.N = G m c := by
  refine (dats m 0 c).arrAt_eq_of_covers 1 _ (by decide +kernel) fun t _ y => ?_
  have h := place m c t y
  blk_simp
  rw [after0_1]
  exact h

end Cert.Bound
-- ==== Proof.BoundClaim.lean ====
module
public import proofs.«01_k».proof.Defs
public import proofs.«01_k».proof.Proof.Gen.Kernel6
public import proofs.«01_k».proof.Proof.Gen.Kernel6Ideal
public import proofs.«01_k».proof.Proof.BoundValue
public import Idealize.ShloMosaic.Adequacy
public import Idealize.ShloMosaic.Init
@[expose] public section
set_option maxRecDepth 16384
noncomputable section
namespace Cert.BoundClaim
open Idealize.ShloMosaic Idealize.ShloMosaic.TcCoe Idealize.SL.Sem Cert.Bound

/- The claims about the lower bounds' call. -/

/-- Over the extended reals the lower bounds' call and the reference end with the same array. -/
theorem same : Cert.algebraic_Kernel6Ideal_Reference6Ideal (hKernel6Ideal := Cert.Kernel6Ideal.Gen.facts) (hReference6Ideal := Cert.Reference6Ideal.Gen.facts) := by
  intro m g m' g' _ hag
  refine ⟨fun c => G m c, ?_, ?_⟩
  · refine (θ_run Cert.Kernel6Ideal.defs _ _).mono (fun r h c => ?_) (Cert.Kernel6Ideal.Value.run_blocks m g)
    obtain ⟨h3, k⟩ := h c
    exact ⟨h3.trans (final m c), k⟩
  · refine (θ_run Cert.Reference6Ideal.defs _ _).mono (fun r h c => ?_) (Cert.Reference6Ideal.Value.run m' g')
    obtain ⟨h3, k⟩ := h c
    have a0 := hag c
    refine ⟨h3.trans ?_, k⟩
    rw [a0]
    show BoundRef.sums (BoundRef.soft _) = _
    funext i
    obtain ⟨l, j, rfl⟩ : ∃ (l : Fin 4) (j : Fin 512), i = ix2 l j := ⟨i 0, i 1, by funext a; fin_cases a <;> rfl⟩
    rw [BoundRef.result_apply]
    rfl

/-- The reference's run leaves its arguments, and ends with every counter at zero. -/
theorem referenceFrame : Cert.quiescent_Reference6Ideal (hReference6Ideal := Cert.Reference6Ideal.Gen.facts) := by
  intro m g _
  exact (θ_run Cert.Reference6Ideal.defs _ _).mono (fun r h => ⟨fun c => (h c).2, sem_eq_zero_of_no_sems (by decide) r.2⟩)
    (Cert.Reference6Ideal.Value.run m g)

attribute [local instance] Cert.Kernel6.Gen.facts Cert.Kernel6Ideal.Gen.facts

/-- The kernel's body is one function at the machine's values. -/
theorem bodies : Cert.Kernel6.defs₀ (F := Bits) = Cert.Kernel6Ideal.defs₀ (F := Bits) :=
  congrArg Defs.onTc (funext fun l => funext fun a => match l, a with | 0, (_, _) => rfl)

/-- So are the definitions the two runs start from. -/
theorem definitions : Cert.Kernel6.defs (F := Bits) = Cert.Kernel6Ideal.defs (F := Bits) :=
  congrArg (Pipeline.defs Cert.Kernel6Ideal.pcfgs) bodies

/-- The frame of the program as printed: the idealized one has the same text, so the same run serves at the machine's values. -/
theorem frame : Cert.quiescent_Kernel6 (hKernel6 := Cert.Kernel6.Gen.facts) := by
  intro m g _
  rw [definitions]
  exact Cert.Kernel6Ideal.Gen.frame (F := Bits) m g

/-- The frame over the extended reals. -/
theorem frameIdeal : Cert.quiescent_Kernel6Ideal (hKernel6Ideal := Cert.Kernel6Ideal.Gen.facts) := by
  intro m g _
  exact Cert.Kernel6Ideal.Gen.frame (F := Ideal) m g

end Cert.BoundClaim
-- ==== Proof.lean ====
/- The certificate: each claim's proof, from the module that states it. -/
module

public import proofs.«01_k».proof.Defs
public import proofs.«01_k».proof.Proof.FfnClaim2
public import proofs.«01_k».proof.Proof.FfnClaim3
public import proofs.«01_k».proof.Proof.InProjClaim
public import proofs.«01_k».proof.Proof.ModClaim
public import proofs.«01_k».proof.Proof.BoundClaim
public import Idealize.ShloMosaic.Adequacy
public import Idealize.ShloMosaic.Init

@[expose] public section

noncomputable section

namespace Cert.Proof

/-- Every claim of the certificate. -/
theorem claim : Cert.Claim := ⟨Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.FfnClaim2.frame, Cert.FfnClaim2.frameIdeal, Cert.FfnClaim2.referenceFrame,
  Cert.FfnClaim3.frame, Cert.FfnClaim3.frameIdeal, Cert.FfnClaim3.referenceFrame,
  Cert.InProjClaim.frame, Cert.InProjClaim.frameIdeal, Cert.InProjClaim.referenceFrame,
  Cert.ModClaim.frame, Cert.ModClaim.frameIdeal, Cert.ModClaim.referenceFrame,
  Cert.BoundClaim.frame, Cert.BoundClaim.frameIdeal, Cert.BoundClaim.referenceFrame,
  trivial, Cert.FfnClaim2.same, trivial, Cert.FfnClaim3.same, trivial, Cert.InProjClaim.same,
  trivial, Cert.ModClaim.same, trivial, Cert.BoundClaim.same⟩

end Cert.Proof

end
